-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_3)) (v2 : (c : Dev Cert.KernelIdeal.nD) → Buf (Elt Ideal) ((c.tc : Thread Cert.KernelIdeal.nD Cert.KernelIdeal.τ).loc Cert.KernelIdeal.main_v11_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_3) = v1 c
          ∧ r.2.mem ((c.tc : Thread Cert.KernelIdeal.nD Cert.KernelIdeal.τ).loc Cert.KernelIdeal.main_v11_4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v24_0) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_well_formed : Cert.Pre_well_formed.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal_pre_well_formed (hKernelIdeal := hKernelIdeal) (hReferenceIdeal := hReferenceIdeal) (hPre_well_formed := hPre_well_formed)
-- ==== Pre_labels_in_range.lean ====
abbrev S1x128x384 : Shape := ⟨3, ![1, 128, 384]⟩
abbrev S1015808x384 : Shape := ⟨2, ![1015808, 384]⟩
abbrev S1015808 : Shape := ⟨1, ![1015808]⟩
abbrev S129 : Shape := ⟨1, ![129]⟩
abbrev S1764 : Shape := ⟨1, ![1764]⟩
abbrev S_ : Shape := ⟨0, ![]⟩

class Facts : Prop where
  bcast_S_S1764 : S_.BroadcastsInDim S1764 (![] : Fin 0 → Fin S1764.rank)
  reducesTo_S1764_S_d0 : S1764.ReducesTo [0] S_
  h_S_ : 0 < S_.numel

variable [Facts]

def fn {F : FTy → Type} [FloatOps F] (main_arg0 : FVec F S1x128x384 .bf16) (main_arg1 : IVec S1015808x384 8) (main_arg2 : FVec F S1015808 .f32) (main_arg3 : FVec F S1015808 .f32) (main_arg4 : IVec S129 32) (main_arg5 : IVec S1764 32) : IVec S_ 1 :=
  let main_c : IVec S_ 32 := constantI S_ 32 0#32
  let main_v0 : IVec S1764 32 := broadcastInDim S1764 ![] bcast_S_S1764 main_c
  let main_v1 : IVec S1764 1 := cmpi .sge main_arg5 main_v0
  let main_c_0 : IVec S_ 32 := constantI S_ 32 1015808#32
  let main_v2 : IVec S1764 32 := broadcastInDim S1764 ![] bcast_S_S1764 main_c_0
  let main_v3 : IVec S1764 1 := cmpi .slt main_arg5 main_v2
  let main_v4 : IVec S1764 1 := andi main_v1 main_v3
  let main_c_1 : IVec S_ 1 := constantI S_ 1 1#1
  let main_v5 : IVec S_ 1 := (fun x v => Host.reduce IntOp.andi x v reducesTo_S1764_S_d0 h_S_) main_v4 main_c_1
  main_v5
-- ==== Pre_well_formed.lean ====
abbrev S1x128x384 : Shape := ⟨3, ![1, 128, 384]⟩
abbrev S1015808x384 : Shape := ⟨2, ![1015808, 384]⟩
abbrev S1015808 : Shape := ⟨1, ![1015808]⟩
abbrev S129 : Shape := ⟨1, ![129]⟩
abbrev S1764 : Shape := ⟨1, ![1764]⟩
abbrev S_ : Shape := ⟨0, ![]⟩

class Facts : Prop where
  bitsLt_bf16_f32 : FTy.bits .bf16 < FTy.bits .f32
  bcast_S_S1764 : S_.BroadcastsInDim S1764 (![] : Fin 0 → Fin S1764.rank)
  reducesTo_S1764_S_d0 : S1764.ReducesTo [0] S_
  h_S_ : 0 < S_.numel
  bcast_S_S1x128x384 : S_.BroadcastsInDim S1x128x384 (![] : Fin 0 → Fin S1x128x384.rank)
  reducesTo_S1x128x384_S_d0_1_2 : S1x128x384.ReducesTo [0, 1, 2] S_

variable [Facts]

def fn {F : FTy → Type} [FloatOps F] (main_arg0 : FVec F S1x128x384 .bf16) (main_arg1 : IVec S1015808x384 8) (main_arg2 : FVec F S1015808 .f32) (main_arg3 : FVec F S1015808 .f32) (main_arg4 : IVec S129 32) (main_arg5 : IVec S1764 32) : IVec S_ 1 :=
  let main_v0 : FVec F S1x128x384 .f32 := (extf .f32 · bitsLt_bf16_f32) main_arg0
  let main_v1 : FVec F S1x128x384 .f32 := Host.absf main_v0
  let main_c : IVec S_ 32 := constantI S_ 32 0#32
  let main_v2 : IVec S1764 32 := broadcastInDim S1764 ![] bcast_S_S1764 main_c
  let main_v3 : IVec S1764 1 := cmpi .sge main_arg5 main_v2
  let main_c_0 : IVec S_ 32 := constantI S_ 32 1015808#32
  let main_v4 : IVec S1764 32 := broadcastInDim S1764 ![] bcast_S_S1764 main_c_0
  let main_v5 : IVec S1764 1 := cmpi .slt main_arg5 main_v4
  let main_v6 : IVec S1764 1 := andi main_v3 main_v5
  let main_c_1 : IVec S_ 1 := constantI S_ 1 1#1
  let main_v7 : IVec S_ 1 := (fun x v => Host.reduce IntOp.andi x v reducesTo_S1764_S_d0 h_S_) main_v6 main_c_1
  let main_cst : FVec F S_ .f32 := constant S_ .f32 0x7F7F0000#32
  let main_v8 : FVec F S1x128x384 .f32 := broadcastInDim S1x128x384 ![] bcast_S_S1x128x384 main_cst
  let main_v9 : IVec S1x128x384 1 := cmpf .ole main_v1 main_v8
  let main_cst_2 : FVec F S_ .f32 := constant S_ .f32 0x7F800000#32
  let main_v10 : FVec F S1x128x384 .f32 := broadcastInDim S1x128x384 ![] bcast_S_S1x128x384 main_cst_2
  let main_v11 : IVec S1x128x384 1 := cmpf .oeq main_v1 main_v10
  let main_v12 : IVec S1x128x384 1 := ori main_v9 main_v11
  let main_c_3 : IVec S_ 1 := constantI S_ 1 1#1
  let main_v13 : IVec S_ 1 := (fun x v => Host.reduce IntOp.andi x v reducesTo_S1x128x384_S_d0_1_2 h_S_) main_v12 main_c_3
  let main_v14 : IVec S_ 1 := andi main_v7 main_v13
  main_v14
-- ==== Kernel.lean ====
abbrev S1x128x384 : Shape := ⟨3, ![1, 128, 384]⟩
abbrev S1015808x384 : Shape := ⟨2, ![1015808, 384]⟩
abbrev S1015808 : Shape := ⟨1, ![1015808]⟩
abbrev S129 : Shape := ⟨1, ![129]⟩
abbrev S1764 : Shape := ⟨1, ![1764]⟩
abbrev S7936x128 : Shape := ⟨2, ![7936, 128]⟩
abbrev S253952x4x384 : Shape := ⟨3, ![253952, 4, 384]⟩
abbrev S253952x384x4 : Shape := ⟨3, ![253952, 384, 4]⟩
abbrev S253952x384 : Shape := ⟨2, ![253952, 384]⟩
abbrev S128 : Shape := ⟨1, ![128]⟩
abbrev S1x128 : Shape := ⟨2, ![1, 128]⟩
abbrev S2x128 : Shape := ⟨2, ![2, 128]⟩
abbrev S128x384 : Shape := ⟨2, ![128, 384]⟩
abbrev S128x62 : Shape := ⟨2, ![128, 62]⟩
abbrev S16384x384 : Shape := ⟨2, ![16384, 384]⟩
abbrev S128x128 : Shape := ⟨2, ![128, 128]⟩
abbrev S128x512 : Shape := ⟨2, ![128, 512]⟩
abbrev S1792x384 : Shape := ⟨2, ![1792, 384]⟩
abbrev S1792x128 : Shape := ⟨2, ![1792, 128]⟩
abbrev S_ : Shape := ⟨0, ![]⟩
abbrev S128x1 : Shape := ⟨2, ![128, 1]⟩
abbrev S128x256 : Shape := ⟨2, ![128, 256]⟩
abbrev S28x384 : Shape := ⟨2, ![28, 384]⟩
abbrev S28x128 : Shape := ⟨2, ![28, 128]⟩
abbrev S1 : Shape := ⟨1, ![1]⟩
abbrev S1x384 : Shape := ⟨2, ![1, 384]⟩
abbrev S512x384 : Shape := ⟨2, ![512, 384]⟩
abbrev S8x128 : Shape := ⟨2, ![8, 128]⟩
abbrev S100 : Shape := ⟨1, ![100]⟩

abbrev nBuf : Space → Nat
  | .hbm => 22
  | .vmem => 26
  | .smem => 1
  | _ => 0

abbrev bufTy : (tb : Table) → Fin (tcTables nBuf tb) → BufTy
  | .hbm, ⟨0, _⟩ => ⟨S1x128x384, .bf16⟩
  | .hbm, ⟨1, _⟩ => ⟨S1015808x384, .i8⟩
  | .hbm, ⟨2, _⟩ => ⟨S1015808, .f32⟩
  | .hbm, ⟨3, _⟩ => ⟨S1015808, .f32⟩
  | .hbm, ⟨4, _⟩ => ⟨S129, .i32⟩
  | .hbm, ⟨5, _⟩ => ⟨S1764, .i32⟩
  | .hbm, ⟨6, _⟩ => ⟨S7936x128, .f32⟩
  | .hbm, ⟨7, _⟩ => ⟨S7936x128, .f32⟩
  | .hbm, ⟨8, _⟩ => ⟨S253952x4x384, .i8⟩
  | .hbm, ⟨9, _⟩ => ⟨S253952x384x4, .i8⟩
  | .hbm, ⟨10, _⟩ => ⟨S253952x384, .i32⟩
  | .hbm, ⟨11, _⟩ => ⟨S128, .i32⟩
  | .hbm, ⟨12, _⟩ => ⟨S128, .i32⟩
  | .hbm, ⟨13, _⟩ => ⟨S1x128, .i32⟩
  | .hbm, ⟨14, _⟩ => ⟨S1x128, .i32⟩
  | .hbm, ⟨15, _⟩ => ⟨S2x128, .i32⟩
  | .hbm, ⟨16, _⟩ => ⟨S128x384, .bf16⟩
  | .hbm, ⟨17, _⟩ => ⟨S128x62, .f32⟩
  | .hbm, ⟨18, _⟩ => ⟨S1x128, .f32⟩
  | .hbm, ⟨19, _⟩ => ⟨S1764, .f32⟩
  | .hbm, ⟨20, _⟩ => ⟨S128x384, .fp8e4m3⟩
  | .hbm, ⟨21, _⟩ => ⟨S1x128, .f32⟩
  | .local _ .vmem, ⟨0, _⟩ => ⟨S128x384, .bf16⟩
  | .local _ .vmem, ⟨1, _⟩ => ⟨S16384x384, .i8⟩
  | .local _ .vmem, ⟨2, _⟩ => ⟨S16384x384, .i8⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S7936x128, .f32⟩
  | .local _ .vmem, ⟨8, _⟩ => ⟨S7936x128, .f32⟩
  | .local _ .vmem, ⟨9, _⟩ => ⟨S2x128, .i32⟩
  | .local _ .vmem, ⟨10, _⟩ => ⟨S128x62, .f32⟩
  | .local _ .vmem, ⟨11, _⟩ => ⟨S1x128, .f32⟩
  | .local _ .vmem, ⟨12, _⟩ => ⟨S1764, .f32⟩
  | .local _ .vmem, ⟨13, _⟩ => ⟨S128x384, .fp8e4m3⟩
  | .local _ .vmem, ⟨14, _⟩ => ⟨S1x128, .f32⟩
  | .local _ .vmem, ⟨15, _⟩ => ⟨S128x384, .bf16⟩
  | .local _ .vmem, ⟨16, _⟩ => ⟨S128x512, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S1792x384, .i32⟩
  | .local _ .vmem, ⟨23, _⟩ => ⟨S1792x128, .f32⟩
  | .local _ .vmem, ⟨24, _⟩ => ⟨S1792x128, .f32⟩
  | .local _ .vmem, ⟨25, _⟩ => ⟨S1792x128, .i32⟩
  | .local _ .smem, ⟨0, _⟩ => ⟨S1764, .i32⟩
  | _, _ => ⟨S1x128x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_scratch10 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![62], ![false]⟩

@[reducible] def k0_t1_loop : Scf.Loop 32 :=
  let c0_i32_1 : BitVec 32 := 0#32
  let c29_i32 : BitVec 32 := 29#32
  let v3 : BitVec 32 := Scalar.addi c0_i32_1 c29_i32
  let c1_i32 : BitVec 32 := 1#32
  ⟨c0_i32_1, v3, c1_i32⟩
def k0_cond2 (i : grid0.Coords) (k0_t1 : Fin k0_t1_loop.trips) : BitVec 1 :=
  let arg0 : BitVec 32 := BitVec.ofNat 32 (i 0).val
  let c29_i32_58 : BitVec 32 := 29#32
  let v74 : BitVec 32 := Scalar.muli arg0 c29_i32_58
  let c0_i32_1 : BitVec 32 := 0#32
  let c1_i32 : BitVec 32 := 1#32
  let arg27 : BitVec 32 := Scf.iv c0_i32_1 c1_i32 k0_t1
  let v75 : BitVec 32 := Scalar.addi v74 arg27
  let c1764_i32 : BitVec 32 := 1764#32
  let v76 : BitVec 1 := Scalar.cmpi .slt v75 c1764_i32
  let v77 : BitVec 32 := Scalar.extui v76
  let c0_i32_59 : BitVec 32 := 0#32
  let v78 : BitVec 1 := Scalar.cmpi .ne v77 c0_i32_59
  v78

def k0_off1 (i : grid0.Coords) (k0_t1 : Fin k0_t1_loop.trips) : Fin 1 → Nat :=
  let arg0 : BitVec 32 := BitVec.ofNat 32 (i 0).val
  let c29_i32_58 : BitVec 32 := 29#32
  let v74 : BitVec 32 := Scalar.muli arg0 c29_i32_58
  let c0_i32_1 : BitVec 32 := 0#32
  let c1_i32 : BitVec 32 := 1#32
  let arg27 : BitVec 32 := Scf.iv c0_i32_1 c1_i32 k0_t1
  let v75 : BitVec 32 := Scalar.addi v74 arg27
  let v79 : Index := Scalar.indexCast v75
  ![v79.toNat]
def k0_off2 (i : grid0.Coords) (k0_t1 : Fin k0_t1_loop.trips) : Fin 2 → Nat :=
  let arg0 : BitVec 32 := BitVec.ofNat 32 (i 0).val
  let c29_i32_58 : BitVec 32 := 29#32
  let v74 : BitVec 32 := Scalar.muli arg0 c29_i32_58
  let c0_i32_1 : BitVec 32 := 0#32
  let c1_i32 : BitVec 32 := 1#32
  let arg27 : BitVec 32 := Scf.iv c0_i32_1 c1_i32 k0_t1
  let v75 : BitVec 32 := Scalar.addi v74 arg27
  let c0_i32_60 : BitVec 32 := 0#32
  ![v75.toNat, 0]
def k0_off3 (v80 : BitVec 32) : Fin 2 → Nat :=
  let c2_i32 : BitVec 32 := 2#32
  let v81 : BitVec 32 := Scalar.shrui v80 c2_i32
  let c0_i32_61 : BitVec 32 := 0#32
  ![v81.toNat, 0]

def k0_off4 (v80 : BitVec 32) : Fin 2 → Nat :=
  let c7_i32 : BitVec 32 := 7#32
  let v84 : BitVec 32 := Scalar.shrui v80 c7_i32
  let v85 : Index := Scalar.indexCast v84
  let c0_62 : Index := 0#32
  ![v85.toNat, 0]

def k0_chk1 (i : grid0.Coords) (k0_t1 : Fin k0_t1_loop.trips) (v80 : BitVec 32) : Prop :=
  (∀ (k0_h2 : k0_cond2 i k0_t1 = 1#1), ∀ a, (k0_off3 v80) a + S1x384.size a ≤ S253952x384.size a) ∧
  (∀ (k0_h2 : k0_cond2 i k0_t1 = 1#1), ∀ a, (k0_off4 v80) a + S1x128.size a ≤ S7936x128.size a)
theorem k0_off3_inb : ∀ (i : grid0.Coords) (k0_t1 : Fin k0_t1_loop.trips) (v80 : BitVec 32) (k0_hw1 : k0_chk1 i k0_t1 v80), ∀ (k0_h2 : k0_cond2 i k0_t1 = 1#1), ∀ a, (k0_off3 v80) a + S1x384.size a ≤ S253952x384.size a := fun i k0_t1 v80 k0_hw1 k0_h2 => k0_hw1.1 k0_h2
theorem k0_off4_inb : ∀ (i : grid0.Coords) (k0_t1 : Fin k0_t1_loop.trips) (v80 : BitVec 32) (k0_hw1 : k0_chk1 i k0_t1 v80), ∀ (k0_h2 : k0_cond2 i k0_t1 = 1#1), ∀ a, (k0_off4 v80) a + S1x128.size a ≤ S7936x128.size a := fun i k0_t1 v80 k0_hw1 k0_h2 => k0_hw1.2 k0_h2

def k0_off5 (i : grid0.Coords) (k0_t1 : Fin k0_t1_loop.trips) : Fin 2 → Nat :=
  let arg0 : BitVec 32 := BitVec.ofNat 32 (i 0).val
  let c29_i32_58 : BitVec 32 := 29#32
  let v74 : BitVec 32 := Scalar.muli arg0 c29_i32_58
  let c0_i32_1 : BitVec 32 := 0#32
  let c1_i32 : BitVec 32 := 1#32
  let arg27 : BitVec 32 := Scf.iv c0_i32_1 c1_i32 k0_t1
  let v75 : BitVec 32 := Scalar.addi v74 arg27
  let v88 : Index := Scalar.indexCast v75
  let c0_63 : Index := 0#32
  ![v88.toNat, 0]
@[reducible] def k0_t2_loop : Scf.Loop 32 :=
  let c0_i32_22 : BitVec 32 := 0#32
  let c16_i32 : BitVec 32 := 16#32
  let v31 : BitVec 32 := Scalar.addi c0_i32_22 c16_i32
  let c1_i32_23 : BitVec 32 := 1#32
  ⟨c0_i32_22, v31, c1_i32_23⟩
def k0_mult1 (k0_t2 : Fin k0_t2_loop.trips) : BitVec 32 :=
  let c0_i32_22 : BitVec 32 := 0#32
  let c1_i32_23 : BitVec 32 := 1#32
  let arg27 : BitVec 32 := Scf.iv c0_i32_22 c1_i32_23 k0_t2
  let c512_i32 : BitVec 32 := 512#32
  let v74 : BitVec 32 := Scalar.muli arg27 c512_i32
  v74
def k0_off6 (k0_t2 : Fin k0_t2_loop.trips) : Fin 2 → Nat :=
  let c0_i32_22 : BitVec 32 := 0#32
  let c1_i32_23 : BitVec 32 := 1#32
  let arg27 : BitVec 32 := Scf.iv c0_i32_22 c1_i32_23 k0_t2
  let c512_i32 : BitVec 32 := 512#32
  let v74 : BitVec 32 := Scalar.muli arg27 c512_i32
  let v75 : BitVec 32 := v74
  let v76 : Index := Scalar.indexCast v75
  let c0_58 : Index := 0#32
  ![v76.toNat, 0]
def k0_off7 (k0_t2 : Fin k0_t2_loop.trips) (c0_i32_66 : BitVec 32) : Fin 2 → Nat :=
  let c0_i32_22 : BitVec 32 := 0#32
  let c1_i32_23 : BitVec 32 := 1#32
  let arg27 : BitVec 32 := Scf.iv c0_i32_22 c1_i32_23 k0_t2
  let c4_i32 : BitVec 32 := 4#32
  let v85 : BitVec 32 := Scalar.muli arg27 c4_i32
  let v86 : BitVec 32 := Scalar.addi v85 c0_i32_66
  let v87 : Index := Scalar.indexCast v86
  let c0_67 : Index := 0#32
  ![v87.toNat, 0]
@[reducible] def k0_t3_loop : Scf.Loop 32 :=
  let c16_i32_34 : BitVec 32 := 16#32
  let c16_i32_35 : BitVec 32 := 16#32
  let v43 : BitVec 32 := Scalar.addi c16_i32_34 c16_i32_35
  let c1_i32_36 : BitVec 32 := 1#32
  ⟨c16_i32_34, v43, c1_i32_36⟩
def k0_mult2 (k0_t3 : Fin k0_t3_loop.trips) : BitVec 32 :=
  let c16_i32_34 : BitVec 32 := 16#32
  let c1_i32_36 : BitVec 32 := 1#32
  let arg27 : BitVec 32 := Scf.iv c16_i32_34 c1_i32_36 k0_t3
  let c512_i32 : BitVec 32 := 512#32
  let v74 : BitVec 32 := Scalar.muli arg27 c512_i32
  v74
def k0_off8 (k0_t3 : Fin k0_t3_loop.trips) : Fin 2 → Nat :=
  let c16_i32_34 : BitVec 32 := 16#32
  let c1_i32_36 : BitVec 32 := 1#32
  let arg27 : BitVec 32 := Scf.iv c16_i32_34 c1_i32_36 k0_t3
  let c512_i32 : BitVec 32 := 512#32
  let v74 : BitVec 32 := Scalar.muli arg27 c512_i32
  let v75 : BitVec 32 := v74
  let v76 : Index := Scalar.indexCast v75
  let c0_58 : Index := 0#32
  ![v76.toNat, 0]
def k0_off9 (k0_t3 : Fin k0_t3_loop.trips) (c0_i32_66 : BitVec 32) : Fin 2 → Nat :=
  let c16_i32_34 : BitVec 32 := 16#32
  let c1_i32_36 : BitVec 32 := 1#32
  let arg27 : BitVec 32 := Scf.iv c16_i32_34 c1_i32_36 k0_t3
  let c4_i32 : BitVec 32 := 4#32
  let v85 : BitVec 32 := Scalar.muli arg27 c4_i32
  let v86 : BitVec 32 := Scalar.addi v85 c0_i32_66
  let v87 : Index := Scalar.indexCast v86
  let c0_67 : Index := 0#32
  ![v87.toNat, 0]
def k0_cond3 (i : grid0.Coords) : BitVec 1 :=
  let arg0 : BitVec 32 := BitVec.ofNat 32 (i 0).val
  let c61_i32 : BitVec 32 := 61#32
  let v71 : BitVec 1 := Scalar.cmpi .eq arg0 c61_i32
  let v72 : BitVec 32 := Scalar.extui v71
  let c0_i32_57 : BitVec 32 := 0#32
  let v73 : BitVec 1 := Scalar.cmpi .ne v72 c0_i32_57
  v73

@[reducible] def k0_t4_loop : Scf.Loop 32 :=
  let c0_i32_58 : BitVec 32 := 0#32
  let c1764_i32 : BitVec 32 := 1764#32
  let v74 : BitVec 32 := Scalar.addi c0_i32_58 c1764_i32
  let c1_i32_59 : BitVec 32 := 1#32
  ⟨c0_i32_58, v74, c1_i32_59⟩
def k0_off10 (k0_t4 : Fin k0_t4_loop.trips) : Fin 2 → Nat :=
  let c0_i32_58 : BitVec 32 := 0#32
  let c1_i32_59 : BitVec 32 := 1#32
  let arg27 : BitVec 32 := Scf.iv c0_i32_58 c1_i32_59 k0_t4
  let c0_i32_359 : BitVec 32 := 0#32
  ![arg27.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1764 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x384 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S7936x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7936x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x62 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1764 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x384 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S1x128x384 : Shape := ⟨3, ![1, 128, 384]⟩
abbrev S1015808x384 : Shape := ⟨2, ![1015808, 384]⟩
abbrev S1015808 : Shape := ⟨1, ![1015808]⟩
abbrev S129 : Shape := ⟨1, ![129]⟩
abbrev S1764 : Shape := ⟨1, ![1764]⟩
abbrev S128x384 : Shape := ⟨2, ![128, 384]⟩
abbrev S_ : Shape := ⟨0, ![]⟩
abbrev S128 : Shape := ⟨1, ![128]⟩
abbrev S128x1 : Shape := ⟨2, ![128, 1]⟩
abbrev S128x1015808 : Shape := ⟨2, ![128, 1015808]⟩
abbrev S1x1015808 : Shape := ⟨2, ![1, 1015808]⟩
abbrev S128x62x16384 : Shape := ⟨3, ![128, 62, 16384]⟩
abbrev S128x62 : Shape := ⟨2, ![128, 62]⟩
abbrev S1x128 : Shape := ⟨2, ![1, 128]⟩

abbrev nBuf : Space → Nat
  | .hbm => 66
  | .vmem => 4
  | .smem => 0
  | _ => 0

abbrev bufTy : (tb : Table) → Fin (tcTables nBuf tb) → BufTy
  | .hbm, ⟨0, _⟩ => ⟨S1x128x384, .bf16⟩
  | .hbm, ⟨1, _⟩ => ⟨S1015808x384, .i8⟩
  | .hbm, ⟨2, _⟩ => ⟨S1015808, .f32⟩
  | .hbm, ⟨3, _⟩ => ⟨S1015808, .f32⟩
  | .hbm, ⟨4, _⟩ => ⟨S129, .i32⟩
  | .hbm, ⟨5, _⟩ => ⟨S1764, .i32⟩
  | .hbm, ⟨6, _⟩ => ⟨S1x128x384, .f32⟩
  | .hbm, ⟨7, _⟩ => ⟨S128x384, .f32⟩
  | .hbm, ⟨8, _⟩ => ⟨S128x384, .f32⟩
  | .hbm, ⟨9, _⟩ => ⟨S_, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .i1⟩
  | .hbm, ⟨26, _⟩ => ⟨S_, .f32⟩
  | .hbm, ⟨27, _⟩ => ⟨S128, .f32⟩
  | .hbm, ⟨28, _⟩ => ⟨S128, .i1⟩
  | .hbm, ⟨29, _⟩ => ⟨S128, .i1⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128x1, .f32⟩
  | .hbm, ⟨37, _⟩ => ⟨S128x384, .fp8e4m3⟩
  | .hbm, ⟨38, _⟩ => ⟨S128x384, .bf16⟩
  | .hbm, ⟨39, _⟩ => ⟨S128, .f32⟩
  | .hbm, ⟨40, _⟩ => ⟨S128, .f32⟩
  | .hbm, ⟨41, _⟩ => ⟨S1015808x384, .i32⟩
  | .hbm, ⟨42, _⟩ => ⟨S1015808x384, .f32⟩
  | .hbm, ⟨43, _⟩ => ⟨S1015808x384, .bf16⟩
  | .hbm, ⟨44, _⟩ => ⟨S128x1015808, .f32⟩
  | .hbm, ⟨45, _⟩ => ⟨S128x1, .f32⟩
  | .hbm, ⟨46, _⟩ => ⟨S128x1015808, .f32⟩
  | .hbm, ⟨47, _⟩ => ⟨S128x1015808, .f32⟩
  | .hbm, ⟨48, _⟩ => ⟨S1x1015808, .f32⟩
  | .hbm, ⟨49, _⟩ => ⟨S128x1015808, .f32⟩
  | .hbm, ⟨50, _⟩ => ⟨S128x1015808, .f32⟩
  | .hbm, ⟨51, _⟩ => ⟨S1x1015808, .f32⟩
  | .hbm, ⟨52, _⟩ => ⟨S128x1015808, .f32⟩
  | .hbm, ⟨53, _⟩ => ⟨S128x1015808, .f32⟩
  | .hbm, ⟨54, _⟩ => ⟨S_, .f32⟩
  | .hbm, ⟨55, _⟩ => ⟨S128x1015808, .f32⟩
  | .hbm, ⟨56, _⟩ => ⟨S128x1015808, .f32⟩
  | .hbm, ⟨57, _⟩ => ⟨S128x1015808, .f32⟩
  | .hbm, ⟨58, _⟩ => ⟨S128x1015808, .f32⟩
  | .hbm, ⟨59, _⟩ => ⟨S128x1015808, .f32⟩
  | .hbm, ⟨60, _⟩ => ⟨S128x1015808, .f32⟩
  | .hbm, ⟨61, _⟩ => ⟨S128x1015808, .f32⟩
  | .hbm, ⟨62, _⟩ => ⟨S128x62x16384, .f32⟩
  | .hbm, ⟨63, _⟩ => ⟨S_, .f32⟩
  | .hbm, ⟨64, _⟩ => ⟨S128x62, .f32⟩
  | .hbm, ⟨65, _⟩ => ⟨S1x128, .f32⟩
  | .local _ .vmem, ⟨0, _⟩ => ⟨S128x384, .f32⟩
  | .local _ .vmem, ⟨1, _⟩ => ⟨S128x1, .f32⟩
  | .local _ .vmem, ⟨2, _⟩ => ⟨S128x384, .fp8e4m3⟩
  | .local _ .vmem, ⟨3, _⟩ => ⟨S128x384, .bf16⟩
  | _, _ => ⟨S1x128x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S128x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Labels.lean ====
/-
  What `labels_in_range` says of a label: as a word it is below the number of labels.
-/
module

public import proofs.«01_k».proof.Pre_labels_in_range
public import Idealize.ShloMosaic.Lib.ReduceAll
public import Idealize.ShloMosaic.Lib.Affine
public import Idealize.ShloMosaic.Lib.ValueIdx

@[expose] public section

noncomputable section

namespace Cert.Labels

open Idealize.ShloMosaic Idealize.ShloMosaic.ValueIdx

/-- The side conditions of the precondition's operations. -/
theorem facts : Cert.Pre_labels_in_range.Facts where
  bcast_S_S1764 := by decide
  reducesTo_S1764_S_d0 := by decide
  h_S_ := by decide

/-- A word that is at least zero and below the number of labels, read with its sign, is below it read without. -/
theorem toNat_of_signed (w : BitVec 32) (h0 : IntOp.cmpi .sge w 0#32 = 1#1) (h1 : IntOp.cmpi .slt w 1015808#32 = 1#1) :
    w.toNat < 1015808 := by
  rw [IntOp.cmpi_sge] at h0
  rw [IntOp.cmpi_slt] at h1
  simp only [BitVec.toInt_eq_toNat_cond, BitVec.toNat_ofNat] at h0 h1
  have := w.isLt
  split at h1 <;> omega

attribute [local instance] facts

/-- Where the precondition holds every label is in range. -/
theorem label_lt {F : FTy → Type} [FloatOps F] (a0 : FVec F Pre_labels_in_range.S1x128x384 .bf16) (a1 : IVec Pre_labels_in_range.S1015808x384 8)
    (a2 a3 : FVec F Pre_labels_in_range.S1015808 .f32) (a4 : IVec Pre_labels_in_range.S129 32) (lab : IVec Pre_labels_in_range.S1764 32)
    (h : Pre_labels_in_range.fn a0 a1 a2 a3 a4 lab = fun _ => 1#1) (q : Pre_labels_in_range.S1764.Idx) : (lab q).toNat < 1015808 := by
  haveI : Subsingleton Pre_labels_in_range.S_.Idx := ⟨fun a b => funext fun k => k.elim0⟩
  have e := congrFun h (Shape.Idx.first facts.h_S_)
  have := Host.reduce_andi_all _ _ _ _ _ e q
  have := IntOp.andi_eq_one.mp this
  exact toNat_of_signed _ this.1 this.2

end Cert.Labels

end
-- ==== Proof.Kernel.Steps.lean ====
module

public import proofs.«01_k».proof.Proof.Gen.Kernel.Skeleton
public import Idealize.ShloMosaic.Lib.ValueIdx
public import Idealize.ShloMosaic.Lib.VecWindow
public import Idealize.ShloMosaic.Lib.Pipeline.Value

/-!
  What one slab of 512 labels does to the two running planes of a grid point: the sum `r` of the
  positive parts and the product `q`, kept as `Π (1 + e) − 1`. Label `512 k + 128 s + j` of the
  chunk sits at column `128 s + j` of the slab's products and its scale and bias at `(4 k + s, j)`.
-/

@[expose] public section

set_option maxRecDepth 16384

noncomputable section

namespace Cert.Kernel.Hand

open Cert.Kernel Cert.Kernel.Gen
open Idealize.ShloMosaic Idealize.ShloMosaic.TcCoe
open Idealize.ShloMosaic.ValueIdx

variable {F : FTy → Type} [FloatOps F]

/-- The float zero, as the kernel's text writes it. -/
def zero32 : F .f32 := Scalar.ofBits .f32 0x00000000#32

/-- Slab `k` of a chunk's codes: its labels `512 k …`. -/
def slab (w : Vec F S16384x384 .i8) (k : Fin 32) : Vec F S512x384 .i8 :=
  fun x => w (ix2 ⟨512 * k.val + (x 0).val, by have : (x 0).val < 512 := (x 0).isLt; have := k.isLt; omega⟩ (x 1))

/-- One label's logit, in the scale the two planes use. -/
def zAt (acc : Vec F S128x512 .f32) (W B : Vec F S128x128 .f32) (k : Fin 32) (s : Fin 4) (y : S128x128.Idx) : F .f32 :=
  FloatOps.addf
    (FloatOps.mulf (acc (ix2 (y 0) ⟨128 * s.val + (y 1).val, by have : (y 1).val < 128 := (y 1).isLt; have := s.isLt; omega⟩))
      (W (ix2 ⟨4 * k.val + s.val, by have := k.isLt; have := s.isLt; omega⟩ (y 1))))
    (B (ix2 ⟨4 * k.val + s.val, by have := k.isLt; have := s.isLt; omega⟩ (y 1)))

/-- `exp2 (0 − |z|)`. -/
def eOf (z : F .f32) : F .f32 := FloatOps.exp2 (FloatOps.subf zero32 (FloatOps.absf z))

/-- One label added to the positive parts. -/
def rOne (r z : F .f32) : F .f32 := FloatOps.addf r (FloatOps.maximumf z zero32)

/-- One label taken into the product. -/
def qOne (q z : F .f32) : F .f32 := FloatOps.addf (FloatOps.mulf q (eOf z)) (FloatOps.addf q (eOf z))

/-- A slab's four labels of lane `y`, added to the positive parts. -/
def rStep (acc : Vec F S128x512 .f32) (W B : Vec F S128x128 .f32) (k : Fin 32) (r : Vec F S128x128 .f32) : Vec F S128x128 .f32 :=
  fun y => rOne (rOne (rOne (rOne (r y) (zAt acc W B k 0 y)) (zAt acc W B k 1 y)) (zAt acc W B k 2 y)) (zAt acc W B k 3 y)

/-- A slab's four labels of lane `y`, taken into the product. -/
def qStep (acc : Vec F S128x512 .f32) (W B : Vec F S128x128 .f32) (k : Fin 32) (q : Vec F S128x128 .f32) : Vec F S128x128 .f32 :=
  fun y => qOne (qOne (qOne (qOne (q y) (zAt acc W B k 0 y)) (zAt acc W B k 1 y)) (zAt acc W B k 2 y)) (zAt acc W B k 3 y)

theorem off6_eq : ∀ k : Fin k0_t2_loop.trips, k0_off6 k = ![512 * k.val, 0] := by decide +kernel
theorem off7_eq : ∀ (k : Fin k0_t2_loop.trips) (s : Fin 4), k0_off7 k (BitVec.ofNat 32 s.val) = ![4 * k.val + s.val, 0] := by decide +kernel
theorem off8_eq : ∀ k : Fin k0_t3_loop.trips, k0_off8 k = ![512 * (16 + k.val), 0] := by decide +kernel
theorem off9_eq : ∀ (k : Fin k0_t3_loop.trips) (s : Fin 4), k0_off9 k (BitVec.ofNat 32 s.val) = ![4 * (16 + k.val) + s.val, 0] := by decide +kernel

/-- The slab a trip loads, at the place the kernel computes. -/
theorem slab_at (M3 : Memref sig .tc .vmem S16384x384 .i8) (f3 : BufTy.Contents (Elt F) M3.view.ty) (kk : Fin 32)
    (off : Fin 2 → ℕ) (hoff : off = ![512 * kk.val, 0]) (h : ∀ a, off a + S512x384.size a ≤ S16384x384.size a) :
    M3.view.readAt (Elt F) (Rect.unit (s := S16384x384) off S512x384.size h).toLoadRect f3 = slab (M3.view.read (Elt F) f3) kk := by
  subst hoff
  funext x
  refine congrArg (M3.view.read (Elt F) f3) (funext fun a => Fin.ext ?_)
  fin_cases a
  · show 512 * kk.val + 1 * (x 0).val = 512 * kk.val + (x 0).val
    omega
  · show 0 + 1 * (x 1).val = (x 1).val
    omega

/-- The two planes after the first `n` of a chunk's slabs taken from slab `a` on, from `(r, q)`. -/
def planes (x : Vec F S128x384 .bf16) (w : Vec F S16384x384 .i8) (W B : Vec F S128x128 .f32) (a : ℕ) :
    ℕ → Vec F S128x128 .f32 × Vec F S128x128 .f32 → Vec F S128x128 .f32 × Vec F S128x128 .f32
  | 0, p => p
  | n + 1, p =>
    if h : a + n < 32 then
      (rStep (k0_pay19 x (slab w ⟨a + n, h⟩)) W B ⟨a + n, h⟩ (planes x w W B a n p).1,
        qStep (k0_pay19 x (slab w ⟨a + n, h⟩)) W B ⟨a + n, h⟩ (planes x w W B a n p).2)
    else planes x w W B a n p

theorem planes_succ (x : Vec F S128x384 .bf16) (w : Vec F S16384x384 .i8) (W B : Vec F S128x128 .f32) (a n : ℕ) (h : a + n < 32)
    (p : Vec F S128x128 .f32 × Vec F S128x128 .f32) :
    planes x w W B a (n + 1) p =
      (rStep (k0_pay19 x (slab w ⟨a + n, h⟩)) W B ⟨a + n, h⟩ (planes x w W B a n p).1,
        qStep (k0_pay19 x (slab w ⟨a + n, h⟩)) W B ⟨a + n, h⟩ (planes x w W B a n p).2) := by
  rw [planes, dif_pos h]

/-- Eight rows of one label column: product, scale, bias. -/
def z8 (w b : Vec F S1x128 .f32) (z : Vec F S8x128 .f32) : Vec F S8x128 .f32 :=
  addf (mulf z (broadcastTo S8x128 w broadcasts_S1x128_S8x128)) (broadcastTo S8x128 b broadcasts_S1x128_S8x128)

/-- Eight rows of `rOne`, as vector operations. -/
def r8 (r : Vec F S8x128 .f32) (zz : Vec F S8x128 .f32) : Vec F S8x128 .f32 :=
  addf r (maximumf zz (broadcast S8x128 (Scalar.ofBits .f32 0x00000000#32)))

/-- Eight rows of `qOne`, as vector operations. -/
def q8 (q : Vec F S8x128 .f32) (zz : Vec F S8x128 .f32) : Vec F S8x128 .f32 :=
  addf (mulf q (exp2 (subf (broadcast S8x128 (Scalar.ofBits .f32 0x00000000#32)) (absf zz))))
    (addf q (exp2 (subf (broadcast S8x128 (Scalar.ofBits .f32 0x00000000#32)) (absf zz))))

/-- A row spread over eight, read at an index. -/
theorem row8 (w : Vec F S1x128 .f32) (x : S8x128.Idx) :
    broadcastTo S8x128 w broadcasts_S1x128_S8x128 x = w (ix2 0 (x 1)) :=
  broadcastTo_apply w _ x _ (fun a => by
    fin_cases a
    · rfl
    · rfl)

section
variable (M16 : Memref sig .tc .vmem S128x512 .f32) (M17 M20 M21 : Memref sig .tc .vmem S128x128 .f32)
  (f17 : BufTy.Contents (Elt F) M17.view.ty) (f20 : BufTy.Contents (Elt F) M20.view.ty) (f21 : BufTy.Contents (Elt F) M21.view.ty)
  (acc : Vec F S128x512 .f32) (kk : Fin 32) (h16 : ∀ a, (![0, 0] : Fin 2 → ℕ) a + S128x512.size a ≤ S128x512.size a)
  (o : ℕ) (ho : ∀ a, (![o, 0] : Fin 2 → ℕ) a + (![8, 128] : Fin 2 → ℕ) a ≤ S128x128.size a)

/-- The eight rows of one label column that the kernel loads, read at an index. -/
theorem z8_at (s : Fin 4) (off : Fin 2 → ℕ) (hoff : off = ![4 * kk.val + s.val, 0])
    (ho20 : ∀ a, off a + (![1, 128] : Fin 2 → ℕ) a ≤ S128x128.size a)
    (c : ℕ) (hc : c = 128 * s.val) (hz : ∀ a, (![o, c] : Fin 2 → ℕ) a + S8x128.size a ≤ S128x512.size a)
    (x : S8x128.Idx) :
    z8 (M20.view.readAt (Elt F) (Rect.unit (s := S128x128) off ![1, 128] ho20).toLoadRect f20)
        (M21.view.readAt (Elt F) (Rect.unit (s := S128x128) off ![1, 128] ho20).toLoadRect f21)
        (M16.view.readCov [⟨Rect.unit (s := S128x512) ![0, 0] S128x512.size h16, acc⟩]
          (Rect.unit (s := S128x512) ![o, c] S8x128.size hz).toLoadRect) x
      = zAt acc (M20.view.read (Elt F) f20) (M21.view.read (Elt F) f21) kk s ((Rect.unit (s := S128x128) ![o, 0] ![8, 128] ho).emb x) := by
  subst hoff; subst hc
  unfold z8 zAt
  show FloatOps.addf (FloatOps.mulf _ (broadcastTo S8x128 _ broadcasts_S1x128_S8x128 x)) (broadcastTo S8x128 _ broadcasts_S1x128_S8x128 x) = _
  rw [row8, row8]
  have e1 : ∀ v : Vec F S128x128 .f32, v ((Rect.unit (s := S128x128) ![4 * kk.val + s.val, 0] ![1, 128] ho20).toLoadRect.idx (ix2 0 (x 1)))
      = v (ix2 ⟨4 * kk.val + s.val, by have := kk.isLt; have := s.isLt; omega⟩ (((Rect.unit (s := S128x128) ![o, 0] ![8, 128] ho).emb x) 1)) := fun v => by
    refine congrArg v (funext fun a => Fin.ext ?_)
    fin_cases a
    · show 4 * kk.val + s.val + 1 * 0 = 4 * kk.val + s.val
      omega
    · rfl
  have e2 : M16.view.readCov [⟨Rect.unit (s := S128x512) ![0, 0] S128x512.size h16, acc⟩]
        (Rect.unit (s := S128x512) ![o, 128 * s.val] S8x128.size hz).toLoadRect x
      = acc (ix2 (((Rect.unit (s := S128x128) ![o, 0] ![8, 128] ho).emb x) 0)
          ⟨128 * s.val + (((Rect.unit (s := S128x128) ![o, 0] ![8, 128] ho).emb x) 1).val, by
            have : (((Rect.unit (s := S128x128) ![o, 0] ![8, 128] ho).emb x) 1).val < 128 := Fin.isLt _
            have := s.isLt; omega⟩) := by
    show M16.view.read (Elt F) (M16.view.writes (Elt F) M16.view.junk [⟨Rect.unit (s := S128x512) ![0, 0] S128x512.size h16, acc⟩]) _ = _
    rw [View.read_writes_full]
    refine congrArg acc (funext fun a => Fin.ext ?_)
    fin_cases a
    · rfl
    · show 128 * s.val + 1 * (x 1).val = 128 * s.val + (0 + 1 * (x 1).val)
      omega
  rw [e2]
  exact congrArg₂ _ (congrArg₂ _ rfl (e1 (M20.view.read (Elt F) f20))) (e1 (M21.view.read (Elt F) f21))

/-- The same, at the four literal places of a group: rows `o …` of the four label columns. -/
abbrev z8s (off : Fin 4 → Fin 2 → ℕ) (ho20 : ∀ s, ∀ a, off s a + (![1, 128] : Fin 2 → ℕ) a ≤ S128x128.size a)
    (c : ℕ) (s : Fin 4) (hz : ∀ a, (![o, c] : Fin 2 → ℕ) a + S8x128.size a ≤ S128x512.size a) : Vec F S8x128 .f32 :=
  z8 (M20.view.readAt (Elt F) (Rect.unit (s := S128x128) (off s) ![1, 128] (ho20 s)).toLoadRect f20)
    (M21.view.readAt (Elt F) (Rect.unit (s := S128x128) (off s) ![1, 128] (ho20 s)).toLoadRect f21)
    (M16.view.readCov [⟨Rect.unit (s := S128x512) ![0, 0] S128x512.size h16, acc⟩]
      (Rect.unit (s := S128x512) ![o, c] S8x128.size hz).toLoadRect)

variable (off : Fin 4 → Fin 2 → ℕ) (hoff : ∀ s, off s = ![4 * kk.val + s.val, 0])
  (ho20 : ∀ s, ∀ a, off s a + (![1, 128] : Fin 2 → ℕ) a ≤ S128x128.size a)
  (hz0 : ∀ a, (![o, 0] : Fin 2 → ℕ) a + S8x128.size a ≤ S128x512.size a)
  (hz1 : ∀ a, (![o, 128] : Fin 2 → ℕ) a + S8x128.size a ≤ S128x512.size a)
  (hz2 : ∀ a, (![o, 256] : Fin 2 → ℕ) a + S8x128.size a ≤ S128x512.size a)
  (hz3 : ∀ a, (![o, 384] : Fin 2 → ℕ) a + S8x128.size a ≤ S128x512.size a)

include hoff in
/-- A group's positive parts are `rStep`'s rows. -/
theorem r8_at (x : S8x128.Idx) :
    shapeCast S8x128 (r8 (r8 (r8 (r8 (M17.view.readAt (Elt F) (Rect.unit (s := S128x128) ![o, 0] S8x128.size ho).toLoadRect f17)
        (z8s M16 M20 M21 f20 f21 acc h16 o off ho20 0 0 hz0)) (z8s M16 M20 M21 f20 f21 acc h16 o off ho20 128 1 hz1))
        (z8s M16 M20 M21 f20 f21 acc h16 o off ho20 256 2 hz2)) (z8s M16 M20 M21 f20 f21 acc h16 o off ho20 384 3 hz3)) shapeCasts_S8x128_S8x128 x
      = rStep acc (M20.view.read (Elt F) f20) (M21.view.read (Elt F) f21) kk (M17.view.read (Elt F) f17)
          ((Rect.unit (s := S128x128) ![o, 0] ![8, 128] ho).emb x) := by
  rw [shapeCast_self]
  show rOne (rOne (rOne (rOne _ (z8s _ _ _ _ _ _ _ _ _ _ _ _ _ x)) (z8s _ _ _ _ _ _ _ _ _ _ _ _ _ x)) (z8s _ _ _ _ _ _ _ _ _ _ _ _ _ x))
    (z8s _ _ _ _ _ _ _ _ _ _ _ _ _ x) = _
  unfold z8s rStep
  rw [z8_at M16 M20 M21 f20 f21 acc kk h16 o ho 0 _ (hoff 0) _ 0 rfl, z8_at M16 M20 M21 f20 f21 acc kk h16 o ho 1 _ (hoff 1) _ 128 rfl,
    z8_at M16 M20 M21 f20 f21 acc kk h16 o ho 2 _ (hoff 2) _ 256 rfl, z8_at M16 M20 M21 f20 f21 acc kk h16 o ho 3 _ (hoff 3) _ 384 rfl]
  rfl

include hoff in
/-- A group's products are `qStep`'s rows. -/
theorem q8_at (x : S8x128.Idx) :
    shapeCast S8x128 (q8 (q8 (q8 (q8 (M17.view.readAt (Elt F) (Rect.unit (s := S128x128) ![o, 0] S8x128.size ho).toLoadRect f17)
        (z8s M16 M20 M21 f20 f21 acc h16 o off ho20 0 0 hz0)) (z8s M16 M20 M21 f20 f21 acc h16 o off ho20 128 1 hz1))
        (z8s M16 M20 M21 f20 f21 acc h16 o off ho20 256 2 hz2)) (z8s M16 M20 M21 f20 f21 acc h16 o off ho20 384 3 hz3)) shapeCasts_S8x128_S8x128 x
      = qStep acc (M20.view.read (Elt F) f20) (M21.view.read (Elt F) f21) kk (M17.view.read (Elt F) f17)
          ((Rect.unit (s := S128x128) ![o, 0] ![8, 128] ho).emb x) := by
  rw [shapeCast_self]
  show qOne (qOne (qOne (qOne _ (z8s _ _ _ _ _ _ _ _ _ _ _ _ _ x)) (z8s _ _ _ _ _ _ _ _ _ _ _ _ _ x)) (z8s _ _ _ _ _ _ _ _ _ _ _ _ _ x))
    (z8s _ _ _ _ _ _ _ _ _ _ _ _ _ x) = _
  unfold z8s qStep
  rw [z8_at M16 M20 M21 f20 f21 acc kk h16 o ho 0 _ (hoff 0) _ 0 rfl, z8_at M16 M20 M21 f20 f21 acc kk h16 o ho 1 _ (hoff 1) _ 128 rfl,
    z8_at M16 M20 M21 f20 f21 acc kk h16 o ho 2 _ (hoff 2) _ 256 rfl, z8_at M16 M20 M21 f20 f21 acc kk h16 o ho 3 _ (hoff 3) _ 384 rfl]
  rfl

end

end Cert.Kernel.Hand

end
-- ==== Proof.Kernel.Trips.lean ====
module

public import proofs.«01_k».proof.Proof.Kernel.Steps
public import proofs.«01_k».proof.Proof.Gen.Kernel.Loops
public import Idealize.ShloMosaic.Lib.Exec
public import Idealize.ShloMosaic.Lib.Tactic
public import Idealize.ShloMosaic.Lib.Pipeline.FrameBody
public import Idealize.ShloMosaic.Lib.Ring
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What a memref's elements hold, all of them, at the full share. -/
abbrev At (c : Dev nD) {sp : Space} {S : Shape} {e : EltTy} (M : Memref sig .tc sp S e) (f : BufTy.Contents (Elt F) M.view.ty) : sProp 𝕄 :=
  M.view.loc (c : Thread nD τ) ↦[M.view.set]{fullShare} f

set_option maxHeartbeats 4000000 in
/-- One trip of the first pass over a chunk's slabs: the two planes take the slab's labels. -/
theorem trip2 (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_) (v26 : FVec F S128x128 .f32) (v27 : Vec F S128x128 .f32) (v30 : Vec F S128x384 .bf16)
    (f3 : BufTy.Contents (Elt F) arg3.view.ty) (f20 : BufTy.Contents (Elt F) arg20.view.ty) (f21 : BufTy.Contents (Elt F) arg21.view.ty)
    (f16 : BufTy.Contents (Elt F) arg16.view.ty) (f17 : BufTy.Contents (Elt F) arg17.view.ty) (f18 : BufTy.Contents (Elt F) arg18.view.ty)
    (k : Fin k0_t2_loop.trips) (kk : Fin 32) (hkk : kk.val = k.val) :
    iprop(At c arg3 f3 ∗ At c arg20 f20 ∗ At c arg21 f21 ∗ At c arg16 f16 ∗ At c arg17 f17 ∗ At c arg18 f18)
      ⊢ wp frame (wpE (defs₀ (F := F)) Variants.none (c : Thread nD τ) none) Set.univ
          (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v26 v27 v30 k PUnit.unit)
          (fun _ => iprop(At c arg3 f3 ∗ At c arg20 f20 ∗ At c arg21 f21 ∗ (∃ f, At c arg16 f)
            ∗ (∃ f, At c arg17 f ∗ ⌜arg17.view.read (Elt F) f = rStep (k0_pay19 v30 (slab (arg3.view.read (Elt F) f3) kk))
                (arg20.view.read (Elt F) f20) (arg21.view.read (Elt F) f21) kk (arg17.view.read (Elt F) f17)⌝)
            ∗ (∃ f, At c arg18 f ∗ ⌜arg18.view.read (Elt F) f = qStep (k0_pay19 v30 (slab (arg3.view.read (Elt F) f3) kk))
                (arg20.view.read (Elt F) f20) (arg21.view.read (Elt F) f21) kk (arg18.view.read (Elt F) f18)⌝))) := by
  have hk : k.val < 16 := Nat.lt_of_lt_of_le k.isLt k0_t2_abs.2.1
  have hoff : ∀ s : Fin 4, k0_off7 k (BitVec.ofNat 32 s.val) = ![4 * kk.val + s.val, 0] := fun s => by rw [hkk]; exact off7_eq k s
  have hsl := slab_at arg3 f3 kk (k0_off6 k) (by rw [hkk]; exact off6_eq k) (k0_off6_inb k)
  unfold k0_t2_body
  iintro ⟨H3, H20, H21, H16, H17, H18⟩
  sl_exec
  sl_step
  isplitl [H3]; · iexact H3
  isplitl [H20]; · iexact H20
  isplitl [H21]; · iexact H21
  isplitl [H16]; · iexists _; iexact H16
  isplitl [H17]
  · iexists _; isplitl [H17]; · iexact H17
    ipureintro
    funext y
    refine View.read_writes_apply_of_pieces _ _ (rStep (F := F) _ _ _ kk _) _ ?_ y ?_
    · have R := r8_at arg16 arg17 arg20 arg21 f17 f20 f21 (k0_pay19 v30 (slab (arg3.view.read (Elt F) f3) kk)) kk
        inb_S128x512_S128x512_0_0
      have R := fun o ho => R o ho (fun s => k0_off7 k (BitVec.ofNat 32 s.val)) hoff (fun s => k0_off7_inb k s)
      simp only [List.forall_mem_cons]
      exact ⟨fun x => R 120 _ _ _ _ _ x, fun x => R 112 _ _ _ _ _ x, fun x => R 104 _ _ _ _ _ x, fun x => R 96 _ _ _ _ _ x, fun x => R 88 _ _ _ _ _ x, fun x => R 80 _ _ _ _ _ x, fun x => R 72 _ _ _ _ _ x, fun x => R 64 _ _ _ _ _ x, fun x => R 56 _ _ _ _ _ x, fun x => R 48 _ _ _ _ _ x, fun x => R 40 _ _ _ _ _ x, fun x => R 32 _ _ _ _ _ x, fun x => R 24 _ _ _ _ _ x, fun x => R 16 _ _ _ _ _ x, fun x => R 8 _ _ _ _ _ x, fun x => R 0 _ _ _ _ _ x, fun _ h => absurd h List.not_mem_nil⟩
    · exact View.cover_of_tiledL _ ![8, 128] (by sl_kernel_rfl) y
  · iexists _; isplitl [H18]; · iexact H18
    ipureintro
    funext y
    refine View.read_writes_apply_of_pieces _ _ (qStep (F := F) _ _ _ kk _) _ ?_ y ?_
    · have R := q8_at arg16 arg18 arg20 arg21 f18 f20 f21 (k0_pay19 v30 (slab (arg3.view.read (Elt F) f3) kk)) kk
        inb_S128x512_S128x512_0_0
      have R := fun o ho => R o ho (fun s => k0_off7 k (BitVec.ofNat 32 s.val)) hoff (fun s => k0_off7_inb k s)
      simp only [List.forall_mem_cons]
      exact ⟨fun x => R 120 _ _ _ _ _ x, fun x => R 112 _ _ _ _ _ x, fun x => R 104 _ _ _ _ _ x, fun x => R 96 _ _ _ _ _ x, fun x => R 88 _ _ _ _ _ x, fun x => R 80 _ _ _ _ _ x, fun x => R 72 _ _ _ _ _ x, fun x => R 64 _ _ _ _ _ x, fun x => R 56 _ _ _ _ _ x, fun x => R 48 _ _ _ _ _ x, fun x => R 40 _ _ _ _ _ x, fun x => R 32 _ _ _ _ _ x, fun x => R 24 _ _ _ _ _ x, fun x => R 16 _ _ _ _ _ x, fun x => R 8 _ _ _ _ _ x, fun x => R 0 _ _ _ _ _ x, fun _ h => absurd h List.not_mem_nil⟩
    · exact View.cover_of_tiledL _ ![8, 128] (by sl_kernel_rfl) y

set_option maxHeartbeats 4000000 in
/-- One trip of the second pass over a chunk's slabs: the two planes take the slab's labels. -/
theorem trip3 (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_) (v26 : FVec F S128x128 .f32) (v27 : Vec F S128x128 .f32) (v30 : Vec F S128x384 .bf16)
    (f3 : BufTy.Contents (Elt F) arg3.view.ty) (f20 : BufTy.Contents (Elt F) arg20.view.ty) (f21 : BufTy.Contents (Elt F) arg21.view.ty)
    (f16 : BufTy.Contents (Elt F) arg16.view.ty) (f17 : BufTy.Contents (Elt F) arg17.view.ty) (f18 : BufTy.Contents (Elt F) arg18.view.ty)
    (k : Fin k0_t3_loop.trips) (kk : Fin 32) (hkk : kk.val = 16 + k.val) :
    iprop(At c arg3 f3 ∗ At c arg20 f20 ∗ At c arg21 f21 ∗ At c arg16 f16 ∗ At c arg17 f17 ∗ At c arg18 f18)
      ⊢ wp frame (wpE (defs₀ (F := F)) Variants.none (c : Thread nD τ) none) Set.univ
          (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v26 v27 v30 k PUnit.unit)
          (fun _ => iprop(At c arg3 f3 ∗ At c arg20 f20 ∗ At c arg21 f21 ∗ (∃ f, At c arg16 f)
            ∗ (∃ f, At c arg17 f ∗ ⌜arg17.view.read (Elt F) f = rStep (k0_pay19 v30 (slab (arg3.view.read (Elt F) f3) kk))
                (arg20.view.read (Elt F) f20) (arg21.view.read (Elt F) f21) kk (arg17.view.read (Elt F) f17)⌝)
            ∗ (∃ f, At c arg18 f ∗ ⌜arg18.view.read (Elt F) f = qStep (k0_pay19 v30 (slab (arg3.view.read (Elt F) f3) kk))
                (arg20.view.read (Elt F) f20) (arg21.view.read (Elt F) f21) kk (arg18.view.read (Elt F) f18)⌝))) := by
  have hk : k.val < 16 := Nat.lt_of_lt_of_le k.isLt k0_t3_abs.2.1
  have hoff : ∀ s : Fin 4, k0_off9 k (BitVec.ofNat 32 s.val) = ![4 * kk.val + s.val, 0] := fun s => by rw [hkk]; exact off9_eq k s
  have hsl := slab_at arg3 f3 kk (k0_off8 k) (by rw [hkk]; exact off8_eq k) (k0_off8_inb k)
  unfold k0_t3_body
  iintro ⟨H3, H20, H21, H16, H17, H18⟩
  sl_exec
  sl_step
  isplitl [H3]; · iexact H3
  isplitl [H20]; · iexact H20
  isplitl [H21]; · iexact H21
  isplitl [H16]; · iexists _; iexact H16
  isplitl [H17]
  · iexists _; isplitl [H17]; · iexact H17
    ipureintro
    funext y
    refine View.read_writes_apply_of_pieces _ _ (rStep (F := F) _ _ _ kk _) _ ?_ y ?_
    · have R := r8_at arg16 arg17 arg20 arg21 f17 f20 f21 (k0_pay19 v30 (slab (arg3.view.read (Elt F) f3) kk)) kk
        inb_S128x512_S128x512_0_0
      have R := fun o ho => R o ho (fun s => k0_off9 k (BitVec.ofNat 32 s.val)) hoff (fun s => k0_off9_inb k s)
      simp only [List.forall_mem_cons]
      exact ⟨fun x => R 120 _ _ _ _ _ x, fun x => R 112 _ _ _ _ _ x, fun x => R 104 _ _ _ _ _ x, fun x => R 96 _ _ _ _ _ x, fun x => R 88 _ _ _ _ _ x, fun x => R 80 _ _ _ _ _ x, fun x => R 72 _ _ _ _ _ x, fun x => R 64 _ _ _ _ _ x, fun x => R 56 _ _ _ _ _ x, fun x => R 48 _ _ _ _ _ x, fun x => R 40 _ _ _ _ _ x, fun x => R 32 _ _ _ _ _ x, fun x => R 24 _ _ _ _ _ x, fun x => R 16 _ _ _ _ _ x, fun x => R 8 _ _ _ _ _ x, fun x => R 0 _ _ _ _ _ x, fun _ h => absurd h List.not_mem_nil⟩
    · exact View.cover_of_tiledL _ ![8, 128] (by sl_kernel_rfl) y
  · iexists _; isplitl [H18]; · iexact H18
    ipureintro
    funext y
    refine View.read_writes_apply_of_pieces _ _ (qStep (F := F) _ _ _ kk _) _ ?_ y ?_
    · have R := q8_at arg16 arg18 arg20 arg21 f18 f20 f21 (k0_pay19 v30 (slab (arg3.view.read (Elt F) f3) kk)) kk
        inb_S128x512_S128x512_0_0
      have R := fun o ho => R o ho (fun s => k0_off9 k (BitVec.ofNat 32 s.val)) hoff (fun s => k0_off9_inb k s)
      simp only [List.forall_mem_cons]
      exact ⟨fun x => R 120 _ _ _ _ _ x, fun x => R 112 _ _ _ _ _ x, fun x => R 104 _ _ _ _ _ x, fun x => R 96 _ _ _ _ _ x, fun x => R 88 _ _ _ _ _ x, fun x => R 80 _ _ _ _ _ x, fun x => R 72 _ _ _ _ _ x, fun x => R 64 _ _ _ _ _ x, fun x => R 56 _ _ _ _ _ x, fun x => R 48 _ _ _ _ _ x, fun x => R 40 _ _ _ _ _ x, fun x => R 32 _ _ _ _ _ x, fun x => R 24 _ _ _ _ _ x, fun x => R 16 _ _ _ _ _ x, fun x => R 8 _ _ _ _ _ x, fun x => R 0 _ _ _ _ _ x, fun _ h => absurd h List.not_mem_nil⟩
    · exact View.cover_of_tiledL _ ![8, 128] (by sl_kernel_rfl) y

/-- Before trip `n` of the first pass: the chunk, scales and biases as they were, the two planes `n` slabs on. -/
def inv2 (c : Dev nD) (arg3 : Memref sig .tc .vmem S16384x384 .i8) (arg16 : Memref sig .tc .vmem S128x512 .f32) (arg17 arg18 arg20 arg21 : Memref sig .tc .vmem S128x128 .f32)
    (v30 : Vec F S128x384 .bf16)
    (f3 : BufTy.Contents (Elt F) arg3.view.ty) (f20 : BufTy.Contents (Elt F) arg20.view.ty) (f21 : BufTy.Contents (Elt F) arg21.view.ty)
    (p : Vec F S128x128 .f32 × Vec F S128x128 .f32) (n : ℕ) (_ : Unit) : sProp 𝕄 :=
  iprop(At c arg3 f3 ∗ At c arg20 f20 ∗ At c arg21 f21 ∗ (∃ f, At c arg16 f)
    ∗ (∃ f, At c arg17 f ∗ ⌜arg17.view.read (Elt F) f
        = (planes v30 (arg3.view.read (Elt F) f3) (arg20.view.read (Elt F) f20) (arg21.view.read (Elt F) f21) 0 n p).1⌝)
    ∗ (∃ f, At c arg18 f ∗ ⌜arg18.view.read (Elt F) f
        = (planes v30 (arg3.view.read (Elt F) f3) (arg20.view.read (Elt F) f20) (arg21.view.read (Elt F) f21) 0 n p).2⌝))

theorem step2 (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_) (v26 : FVec F S128x128 .f32) (v27 : Vec F S128x128 .f32) (v30 : Vec F S128x384 .bf16)
    (f3 : BufTy.Contents (Elt F) arg3.view.ty) (f20 : BufTy.Contents (Elt F) arg20.view.ty) (f21 : BufTy.Contents (Elt F) arg21.view.ty)
    (p : Vec F S128x128 .f32 × Vec F S128x128 .f32) (k : Fin k0_t2_loop.trips) (u : Unit) :
    inv2 c arg3 arg16 arg17 arg18 arg20 arg21 v30 f3 f20 f21 p k.val u
      ⊢ wp frame (wpE (defs₀ (F := F)) Variants.none (c : Thread nD τ) none) Set.univ
          (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v26 v27 v30 k u)
          (fun u => inv2 c arg3 arg16 arg17 arg18 arg20 arg21 v30 f3 f20 f21 p (k.val + 1) u) := by
  have hk : k.val < 16 := Nat.lt_of_lt_of_le k.isLt k0_t2_abs.2.1
  unfold inv2
  iintro ⟨H3, H20, H21, ⟨%f16, H16⟩, ⟨%f17, H17, %h17⟩, ⟨%f18, H18, %h18⟩⟩
  iapply (wp_wand_r Idealize.ShloMosaic.frame (wpE (defs₀ (F := F)) Variants.none (c : Thread nD τ) none) Set.univ)
  isplitl [H3 H20 H21 H16 H17 H18]
  · iapply (trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v26 v27 v30 f3 f20 f21 f16 f17 f18 k ⟨0 + k.val, by omega⟩ (by simp))
    isplitl [H3]; · iexact H3
    isplitl [H20]; · iexact H20
    isplitl [H21]; · iexact H21
    isplitl [H16]; · iexact H16
    isplitl [H17]; · iexact H17
    iexact H18
  · iintro %_ ⟨H3, H20, H21, ⟨%g16, H16⟩, ⟨%g17, H17, %e17⟩, ⟨%g18, H18, %e18⟩⟩
    isplitl [H3]; · iexact H3
    isplitl [H20]; · iexact H20
    isplitl [H21]; · iexact H21
    isplitl [H16]; · iexists g16; iexact H16
    isplitl [H17]
    · iexists g17; isplitl [H17]; · iexact H17
      ipureintro; rw [e17, h17, planes_succ _ _ _ _ 0 k.val (by omega)]
    · iexists g18; isplitl [H18]; · iexact H18
      ipureintro; rw [e18, h18, planes_succ _ _ _ _ 0 k.val (by omega)]

/-- Before trip `n` of the second pass: the chunk, scales and biases as they were, the two planes `n` slabs on. -/
def inv3 (c : Dev nD) (arg3 : Memref sig .tc .vmem S16384x384 .i8) (arg16 : Memref sig .tc .vmem S128x512 .f32) (arg17 arg18 arg20 arg21 : Memref sig .tc .vmem S128x128 .f32)
    (v30 : Vec F S128x384 .bf16)
    (f3 : BufTy.Contents (Elt F) arg3.view.ty) (f20 : BufTy.Contents (Elt F) arg20.view.ty) (f21 : BufTy.Contents (Elt F) arg21.view.ty)
    (p : Vec F S128x128 .f32 × Vec F S128x128 .f32) (n : ℕ) (_ : Unit) : sProp 𝕄 :=
  iprop(At c arg3 f3 ∗ At c arg20 f20 ∗ At c arg21 f21 ∗ (∃ f, At c arg16 f)
    ∗ (∃ f, At c arg17 f ∗ ⌜arg17.view.read (Elt F) f
        = (planes v30 (arg3.view.read (Elt F) f3) (arg20.view.read (Elt F) f20) (arg21.view.read (Elt F) f21) 16 n p).1⌝)
    ∗ (∃ f, At c arg18 f ∗ ⌜arg18.view.read (Elt F) f
        = (planes v30 (arg3.view.read (Elt F) f3) (arg20.view.read (Elt F) f20) (arg21.view.read (Elt F) f21) 16 n p).2⌝))

theorem step3 (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_) (v26 : FVec F S128x128 .f32) (v27 : Vec F S128x128 .f32) (v30 : Vec F S128x384 .bf16)
    (f3 : BufTy.Contents (Elt F) arg3.view.ty) (f20 : BufTy.Contents (Elt F) arg20.view.ty) (f21 : BufTy.Contents (Elt F) arg21.view.ty)
    (p : Vec F S128x128 .f32 × Vec F S128x128 .f32) (k : Fin k0_t3_loop.trips) (u : Unit) :
    inv3 c arg3 arg16 arg17 arg18 arg20 arg21 v30 f3 f20 f21 p k.val u
      ⊢ wp frame (wpE (defs₀ (F := F)) Variants.none (c : Thread nD τ) none) Set.univ
          (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v26 v27 v30 k u)
          (fun u => inv3 c arg3 arg16 arg17 arg18 arg20 arg21 v30 f3 f20 f21 p (k.val + 1) u) := by
  have hk : k.val < 16 := Nat.lt_of_lt_of_le k.isLt k0_t3_abs.2.1
  unfold inv3
  iintro ⟨H3, H20, H21, ⟨%f16, H16⟩, ⟨%f17, H17, %h17⟩, ⟨%f18, H18, %h18⟩⟩
  iapply (wp_wand_r Idealize.ShloMosaic.frame (wpE (defs₀ (F := F)) Variants.none (c : Thread nD τ) none) Set.univ)
  isplitl [H3 H20 H21 H16 H17 H18]
  · iapply (trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v26 v27 v30 f3 f20 f21 f16 f17 f18 k ⟨16 + k.val, by omega⟩ rfl)
    isplitl [H3]; · iexact H3
    isplitl [H20]; · iexact H20
    isplitl [H21]; · iexact H21
    isplitl [H16]; · iexact H16
    isplitl [H17]; · iexact H17
    iexact H18
  · iintro %_ ⟨H3, H20, H21, ⟨%g16, H16⟩, ⟨%g17, H17, %e17⟩, ⟨%g18, H18, %e18⟩⟩
    isplitl [H3]; · iexact H3
    isplitl [H20]; · iexact H20
    isplitl [H21]; · iexact H21
    isplitl [H16]; · iexists g16; iexact H16
    isplitl [H17]
    · iexists g17; isplitl [H17]; · iexact H17
      ipureintro; rw [e17, h17, planes_succ _ _ _ _ 16 k.val (by omega)]
    · iexists g18; isplitl [H18]; · iexact H18
      ipureintro; rw [e18, h18, planes_succ _ _ _ _ 16 k.val (by omega)]

end Cert.Kernel.Hand

end
-- ==== Proof.Kernel.Issue.lean ====
module

public import proofs.«01_k».proof.Proof.Kernel.Trips

/-!
  The gather of the 1764 label rows: each grid point issues up to 29 row copies on one semaphore, all
  drained at the last point. One batch of 1764 transfers, transfer `p` the words of label `p`.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx Idealize.ShloMosaic.WordCmp
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem coord_lt (i : grid0.Coords) : (i 0).val < 62 := (i 0).isLt

theorem off2_eq (i : grid0.Coords) (k : Fin k0_t1_loop.trips) : k0_off2 i k = ![29 * (i 0).val + k.val, 0] := by
  have h := coord_lt i
  have hk : k.val < 29 := Nat.lt_of_lt_of_le k.isLt k0_t1_abs.2.1
  simp only [k0_off2, Scalar.muli, Scalar.addi, Scf.iv, IntOp.addi, IntOp.muli]
  simp
  omega

theorem off5_eq (i : grid0.Coords) (k : Fin k0_t1_loop.trips) : k0_off5 i k = ![29 * (i 0).val + k.val, 0] := by
  have h := coord_lt i
  have hk : k.val < 29 := Nat.lt_of_lt_of_le k.isLt k0_t1_abs.2.1
  simp only [k0_off5, Scalar.muli, Scalar.addi, Scf.iv, Scalar.indexCast, IntOp.addi, IntOp.muli]
  simp
  omega

theorem off1_eq (i : grid0.Coords) (k : Fin k0_t1_loop.trips) : k0_off1 i k = ![29 * (i 0).val + k.val] := by
  have h := coord_lt i
  have hk : k.val < 29 := Nat.lt_of_lt_of_le k.isLt k0_t1_abs.2.1
  simp only [k0_off1, Scalar.muli, Scalar.addi, Scf.iv, Scalar.indexCast, IntOp.addi, IntOp.muli]
  simp
  omega

theorem ext_iff : ∀ b : BitVec 1, (Scalar.cmpi .ne (Scalar.extui b : BitVec 32) 0#32 = 1#1 ↔ b = 1#1) := by decide

theorem cond1_iff (i : grid0.Coords) : k0_cond1 i = 1#1 ↔ (i 0).val = 0 := by
  have h := coord_lt i
  exact (ext_iff _).trans (cmpi_eq_ofNat_eq_one_iff (a := (i 0).val) (b := 0) (by omega) (by decide))

theorem cond3_iff (i : grid0.Coords) : k0_cond3 i = 1#1 ↔ (i 0).val = 61 := by
  have h := coord_lt i
  exact (ext_iff _).trans (cmpi_eq_ofNat_eq_one_iff (a := (i 0).val) (b := 61) (by omega) (by decide))

theorem cond2_iff (i : grid0.Coords) (k : Fin k0_t1_loop.trips) : k0_cond2 i k = 1#1 ↔ 29 * (i 0).val + k.val < 1764 := by
  have h := coord_lt i
  have hk : k.val < 29 := Nat.lt_of_lt_of_le k.isLt k0_t1_abs.2.1
  have e : (Scalar.addi (Scalar.muli (BitVec.ofNat 32 (i 0).val) 29#32) (Scf.iv 0#32 1#32 k) : BitVec 32) = BitVec.ofNat 32 (29 * (i 0).val + k.val) := by
    apply BitVec.eq_of_toNat_eq
    simp only [Scalar.muli, Scalar.addi, Scf.iv, IntOp.addi, IntOp.muli]
    simp
    omega
  show Scalar.cmpi .ne (Scalar.extui (Scalar.cmpi .slt (Scalar.addi (Scalar.muli (BitVec.ofNat 32 (i 0).val) 29#32) (Scf.iv 0#32 1#32 k)) 1764#32)) 0#32 = 1#1 ↔ _
  rw [e, ext_iff]
  exact cmpi_slt_ofNat_eq_one_iff (by simp; omega) (by decide)

/-! ### The rows -/

theorem gInb (p : Fin 1792) : ∀ a, (![p.val, 0] : Fin 2 → ℕ) a + S1x384.size a ≤ S1792x384.size a := by
  have := p.isLt; intro a; fin_cases a
  · show p.val + 1 ≤ 1792; omega
  · show 0 + 384 ≤ 384; omega

/-- A label's place among the rows of the gather buffer, which has 28 more. -/
def wide (p : Fin 1764) : Fin 1792 := ⟨p.val, Nat.lt_of_lt_of_le p.isLt (by decide)⟩

/-- Row `p` of the gathered words. -/
def gRow (M22 : Memref sig .tc .vmem S1792x384 .i32) (p : Fin 1792) : Memref sig .tc .vmem S1x384 .i32 :=
  M22.slice (Rect.unit (s := S1792x384) ![p.val, 0] S1x384.size (gInb p)) (fun _ => rfl)

/-- A label whose row of packed words, and row of scales, are rows of their arrays. -/
def LabOk (w : BitVec 32) : Prop :=
  (∀ a, k0_off3 w a + S1x384.size a ≤ S253952x384.size a) ∧ (∀ a, k0_off4 w a + S1x128.size a ≤ S7936x128.size a)

/-- The row of packed words that holds label `w`'s. -/
def wRow (M9 : Memref sig .tc .hbm S253952x384 .i32) (w : BitVec 32) (h : LabOk w) : Memref sig .tc .hbm S1x384 .i32 :=
  M9.slice (Rect.unit (s := S253952x384) (k0_off3 w) S1x384.size h.1) (fun _ => rfl)

/-- A view held by its own elements, at a share. -/
def heldOf (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦[M.view.set]{q} f

instance heldOf_storable (c : Dev nD) {sp : Space} {S : Shape} {e : EltTy} (M : Memref sig .tc sp S e) (q : PosShare TreeShare)
    (f : Buf (Elt F) (M.view.loc (c : Thread nD τ))) : BI.Storable (upEmb : UEmb _ 𝕄) (heldOf c M q f) := by
  unfold heldOf; infer_instance

section Family

variable (c : Dev nD) (M9 : Memref sig .tc .hbm S253952x384 .i32) (M22 : Memref sig .tc .vmem S1792x384 .i32)
  (lw : Fin 1764 → BitVec 32) (hl : ∀ p, LabOk (lw p)) (fw : BufTy.Contents (Elt F) M9.view.ty)

/-- A row of the gather buffer owned, at some contents. -/
def rowG (p : Fin 1792) : sProp 𝕄 :=
  iprop(∃ g, heldOf c (gRow M22 p) fullShare g)

/-- The row that transfer `p` fills. -/
def blkG (p : Fin 1764) : sProp 𝕄 := rowG (F := F) c M22 (wide p)

theorem blkG_eq (p : Fin 1764) :
    blkG (F := F) c M22 p = iprop(∃ g, heldOf c (gRow M22 (wide p)) fullShare g) := rfl

/-- The share of label `p`'s words that transfer `p` reads under. -/
def wTok (p : Fin 1764) : sProp 𝕄 :=
  heldOf c (wRow M9 (lw p) (hl p)) (Transfers.shareTokN fullShare p.val) fw

/-- What transfer `p` leaves: its row, and its share back. -/
def deliv (p : Fin 1764) : sProp 𝕄 := iprop(blkG (F := F) c M22 p ∗ wTok c M9 lw hl fw p)

instance deliv_storable (p : Fin 1764) : BI.Storable (upEmb : UEmb _ 𝕄) (deliv c M9 M22 lw hl fw p) := by
  have h1 : BI.Storable (upEmb : UEmb _ 𝕄) (wTok c M9 lw hl fw p) := heldOf_storable c _ _ _
  have h2 : BI.Storable (upEmb : UEmb _ 𝕄) (rowG (F := F) c M22 (wide p)) := by unfold rowG; infer_instance
  unfold deliv blkG; infer_instance

/-- A row of the gather buffer under another name. -/
theorem blkG_as (p : Fin 1764) (M' : Memref sig .tc .vmem S1x384 .i32) (h : gRow M22 (wide p) = M') :
    blkG (F := F) c M22 p = iprop(∃ g, heldOf c M' fullShare g) := by subst h; rfl

/-- A row landed, named either way, is its transfer's delivery. -/
theorem deliv_of (p : Fin 1764) (M' : Memref sig .tc .vmem S1x384 .i32) (h : gRow M22 (wide p) = M')
    (g : Buf (Elt F) (M'.view.loc (c : Thread nD τ))) :
    iprop(heldOf c M' fullShare g ∗ wTok c M9 lw hl fw p) ⊢ deliv c M9 M22 lw hl fw p := by
  unfold deliv
  rw [blkG_as c M22 p M' h]
  iintro ⟨H, HW⟩
  isplitl [H]
  · iexists g; iexact H
  · iexact HW

/-- One row's credit. -/
abbrev NN (M26 : DmaSems sig S_) : ℕ := (gRow M22 0).view.amount (.dma M26.sem)

/-- The gather's batch: `j` rows issued, `u` units consumed. -/
abbrev batch (M26 : DmaSems sig S_) (j u : ℕ) : sProp 𝕄 :=
  Transfers.Batch (countersEmb (U := Pipeline.UD sig nD τ)) (c : Thread nD τ) (.dma M26.sem) () (NN M22 M26) (deliv c M9 M22 lw hl fw) j u

end Family

/-- A row named by another spelling of its offsets. -/
theorem row_as (M22 : Memref sig .tc .vmem S1792x384 .i32) (p : Fin 1792) (off : Fin 2 → ℕ) (ho : off = ![p.val, 0])
    (h : ∀ a, off a + S1x384.size a ≤ S1792x384.size a) :
    gRow M22 p = M22.slice (Rect.unit (s := S1792x384) off S1x384.size h) (fun _ => rfl) := by
  subst ho; rfl

/-- Before trip `k` of a point's issues: the rows issued so far, and the rows and shares not yet used. -/
def issueAt (c : Dev nD) (i : grid0.Coords) (arg1 : Memref sig .tc .smem S1764 .i32) (arg6 arg7 : Memref sig .tc .vmem S7936x128 .f32)
    (arg9 : Memref sig .tc .hbm S253952x384 .i32) (arg22 : Memref sig .tc .vmem S1792x384 .i32) (arg23 arg24 : Memref sig .tc .vmem S1792x128 .f32)
    (arg25 : Memref sig .tc .vmem S1792x128 .i32) (arg26 : DmaSems sig S_)
    (lw : Fin 1764 → BitVec 32) (hl : ∀ p, LabOk (lw p)) (fw : BufTy.Contents (Elt F) arg9.view.ty)
    (f1 : BufTy.Contents (Elt F) arg1.view.ty) (f6 : BufTy.Contents (Elt F) arg6.view.ty) (f7 : BufTy.Contents (Elt F) arg7.view.ty)
    (k : ℕ) (_ : Unit) : sProp 𝕄 :=
  iprop(batch c arg9 arg22 lw hl fw arg26 (min (29 * (i 0).val + k) 1764) 0
    ∗ bigSep (Ring.rangeSet 1764 (min (29 * (i 0).val + k) 1764) 1764) (blkG (F := F) c arg22)
    ∗ bigSep (Ring.rangeSet 1764 (min (29 * (i 0).val + k) 1764) 1764) (wTok c arg9 lw hl fw)
    ∗ At c arg1 f1 ∗ At c arg6 f6 ∗ At c arg7 f7
    ∗ (∃ f, At (F := F) c arg23 f) ∗ (∃ f, At (F := F) c arg24 f) ∗ (∃ f, At (F := F) c arg25 f))

/-- A hand rule leaves its continuation applied: the next statement is `k a`. -/
theorem ret_bind' {E : Type → Type} {α β : Type} (a : α) (k : α → Prog E β) : (Prog.ret a).bind k = k a := rfl

set_option maxHeartbeats 400000 in
theorem issue_step (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (lw : Fin 1764 → BitVec 32) (hl : ∀ p, LabOk (lw p)) (fw : BufTy.Contents (Elt F) arg9.view.ty)
    (f1 : BufTy.Contents (Elt F) arg1.view.ty) (f6 : BufTy.Contents (Elt F) arg6.view.ty) (f7 : BufTy.Contents (Elt F) arg7.view.ty)
    (hlw : ∀ p, lw p = arg1.view.read (Elt F) f1 (ix1 p))
    (k : Fin k0_t1_loop.trips) (u : Unit) :
    issueAt c i arg1 arg6 arg7 arg9 arg22 arg23 arg24 arg25 arg26 lw hl fw f1 f6 f7 k.val u
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 k u)
          (fun u => issueAt c i arg1 arg6 arg7 arg9 arg22 arg23 arg24 arg25 arg26 lw hl fw f1 f6 f7 (k.val + 1) u) := by
  have hk : k.val < 29 := Nat.lt_of_lt_of_le k.isLt k0_t1_abs.2.1
  by_cases hlt : 29 * (i 0).val + k.val < 1764
  · have hc : k0_cond2 i k = 1#1 := (cond2_iff i k).mpr hlt
    obtain ⟨p, hp⟩ : ∃ p : Fin 1764, p.val = 29 * (i 0).val + k.val := ⟨⟨_, hlt⟩, rfl⟩
    have hp' := p.isLt
    have hrd : ∀ x, arg1.view.read (Elt F) f1 ((Rect.unit (s := S1764) (k0_off1 i k) S1.size (k0_off1_inb i k hc)).toLoadRect.idx x) = lw p := fun x => by
      rw [hlw p]
      refine congrArg (arg1.view.read (Elt F) f1) (funext fun a => Fin.ext ?_)
      obtain rfl : a = 0 := Subsingleton.elim _ _
      have h0 : (x 0).val < 1 := (x 0).isLt
      have h1 : (k0_off1 i k) 0 = 29 * (i 0).val + k.val := congrFun (off1_eq i k) 0
      show (k0_off1 i k) 0 + 1 * (x 0).val = p.val
      omega
    have hchk : k0_chk1 i k (lw p) := ⟨fun _ => (hl p).1, fun _ => (hl p).2⟩
    have e1 : min (29 * (i 0).val + k.val) 1764 = p.val := by omega
    have e2 : min (29 * (i 0).val + (k.val + 1)) 1764 = p.val + 1 := by omega
    have hrow := row_as arg22 (wide p) (k0_off2 i k) (by rw [off2_eq]; exact congrArg (fun n => ![n, 0]) hp.symm) (k0_off2_inb i k hc)
    unfold issueAt
    rw [e1, e2, Ring.bigSep_rangeSet_head (Φ := blkG (F := F) c arg22) (by omega) (by omega),
      Ring.bigSep_rangeSet_head (Φ := wTok c arg9 lw hl fw) (by omega) (by omega)]
    unfold k0_t1_body
    iintro ⟨HB, ⟨HG, HGs⟩, ⟨HW, HWs⟩, H1, H6, H7, H23, H24, H25⟩
    ihave HG := (Entails.of_eq (blkG_as c arg22 p _ hrow)) $$ HG
    icases HG with ⟨%gk, HG⟩
    icases H23 with ⟨%f23, H23⟩
    icases H24 with ⟨%f24, H24⟩
    icases H25 with ⟨%f25, H25⟩
    sl_exec
    generalize hw : issue_step.sl.r i arg1 f1 k hc = w
    obtain rfl : lw p = w := (hrd _).symm.trans hw
    iapply (wp_assume _ _ _ _ hchk)
    unfold heldOf
    iapply (Transfers.wp_dmaBatch (countersEmb (U := Pipeline.UD sig nD τ)) Variants.none (c : Thread nD τ) none
      (src := wRow arg9 (lw p) (hl p)) (dst := arg22.slice (Rect.unit (s := S1792x384) (k0_off2 i k) S1x384.size (k0_off2_inb i k hc)) (fun _ => rfl))
      () (NN arg22 arg26) rfl subset_rfl (D := deliv c arg9 arg22 lw hl fw) (j := p.val) (u := 0) hp' (Nat.zero_le _) (deliv_of c arg9 arg22 lw hl fw p _ hrow _)) $$ [HW HG HB]
    · isplitl [HW]; · unfold wTok heldOf; iexact HW
      isplitl [HG]; · iexact HG
      iexact HB
    iintro HB
    simp only [ret_bind']
    sl_exec
    rw [wp_ret]
    imodintro
    isplitl [HB]; · iexact HB
    isplitl [HGs]; · iexact HGs
    isplitl [HWs]; · iexact HWs
    isplitl [H1]; · iexact H1
    isplitl [H6]; · iexact H6
    isplitl [H7]; · iexact H7
    isplitl [H23]; · iexists _; iexact H23
    isplitl [H24]; · iexists _; iexact H24
    iexists _; iexact H25
  · have hc : ¬ k0_cond2 i k = 1#1 := fun h => hlt ((cond2_iff i k).mp h)
    have e1 : min (29 * (i 0).val + (k.val + 1)) 1764 = min (29 * (i 0).val + k.val) 1764 := by omega
    unfold issueAt
    rw [e1]
    unfold k0_t1_body
    iintro H
    sl_exec
    rw [wp_ret]
    imodintro
    iexact H

/-- Before trip `k` of the waits: `k` rows' credit consumed, or, after the last, every row and share back and the semaphore at zero. -/
def drainAt (c : Dev nD) (arg9 : Memref sig .tc .hbm S253952x384 .i32) (arg22 : Memref sig .tc .vmem S1792x384 .i32) (arg26 : DmaSems sig S_)
    (lw : Fin 1764 → BitVec 32) (hl : ∀ p, LabOk (lw p)) (fw : BufTy.Contents (Elt F) arg9.view.ty) (k : ℕ) (_ : Unit) : sProp 𝕄 :=
  iprop((∃ W, owes (c : Thread nD τ) 0 W)
    ∗ (if k < 1764 then batch c arg9 arg22 lw hl fw arg26 1764 (k * NN arg22 arg26)
       else iprop(semVal ((c : Thread nD τ), SemLoc.dma arg26.sem) 0 ∗ bigSep Finset.univ (deliv c arg9 arg22 lw hl fw))))

theorem t4_trips : k0_t4_loop.trips = 1764 := by decide +kernel

set_option maxHeartbeats 1000000 in
theorem drain_step (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (lw : Fin 1764 → BitVec 32) (hl : ∀ p, LabOk (lw p)) (fw : BufTy.Contents (Elt F) arg9.view.ty)
    (hN : 0 < NN arg22 arg26) (v30 : Vec F S128x384 .bf16) (h3 : k0_cond3 i = 1#1)
    (k : Fin k0_t4_loop.trips) (u : Unit) :
    drainAt c arg9 arg22 arg26 lw hl fw k.val u
      ⊢ wp frame (wpE (defs₀ (F := F)) Variants.none (c : Thread nD τ) none) Set.univ
          (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v30 h3 k u)
          (fun u => drainAt c arg9 arg22 arg26 lw hl fw (k.val + 1) u) := by
  have hk : k.val < 1764 := Nat.lt_of_lt_of_eq k.isLt t4_trips
  unfold drainAt k0_t4_body
  rw [if_pos hk]
  iintro ⟨⟨%W, HO⟩, HB⟩
  by_cases h1 : k.val + 1 < 1764
  · rw [if_pos h1]
    iapply (Transfers.wp_waitBatch (countersEmb (U := Pipeline.UD sig nD τ)) Variants.none (c : Thread nD τ) none (srcw := arg9.slice (Rect.unit (s := S253952x384) ![0, 0] S1x384.size inb_S253952x384_S1x384_0_0) (fun _ => rfl))
      (dstw := arg22.slice (Rect.unit (s := S1792x384) (k0_off10 k) S1x384.size (k0_off10_inb i k h3)) (fun _ => rfl))
      (hsrc := View.wordExact_bits rfl) (hdst := View.wordExact_bits rfl) ()
      (N := NN arg22 arg26) rfl (D := deliv c arg9 arg22 lw hl fw) (u := k.val * NN arg22 arg26)
      (by rw [← Nat.succ_mul, Nat.mul_comm]; exact Nat.mul_lt_mul_of_pos_left h1 hN)) $$ [HB HO]
    · isplitl [HB] <;> iassumption
    iintro ⟨HB, HO⟩
    simp only [ret_bind']
    sl_exec
    rw [wp_ret]
    imodintro
    isplitl [HO]; · iexists _; iexact HO
    rw [Nat.succ_mul]
    iexact HB
  · rw [if_neg h1]
    iapply (Transfers.wp_waitBatchLast (countersEmb (U := Pipeline.UD sig nD τ)) Variants.none (c : Thread nD τ) none (srcw := arg9.slice (Rect.unit (s := S253952x384) ![0, 0] S1x384.size inb_S253952x384_S1x384_0_0) (fun _ => rfl))
      (dstw := arg22.slice (Rect.unit (s := S1792x384) (k0_off10 k) S1x384.size (k0_off10_inb i k h3)) (fun _ => rfl))
      (hsrc := View.wordExact_bits rfl) (hdst := View.wordExact_bits rfl) ()
      (N := NN arg22 arg26) rfl hN (D := deliv c arg9 arg22 lw hl fw) (u := k.val * NN arg22 arg26)
      (by rw [← Nat.succ_mul, Nat.mul_comm, show k.val.succ = 1764 by omega])) $$ [HB HO]
    · isplitl [HB] <;> iassumption
    iintro ⟨Hall, Hsem, HO⟩
    simp only [ret_bind']
    sl_exec
    rw [wp_ret]
    imodintro
    isplitl [HO]; · iexists _; iexact HO
    isplitl [Hsem]; · iexact Hsem
    iexact Hall

end Cert.Kernel.Hand

end
-- ==== Proof.Kernel.Split.lean ====
module

public import proofs.«01_k».proof.Proof.Kernel.Issue

/-!
  The gather's two buffers in pieces: the rows of the gathered words one by one, and the packed words as one
  share per label, each cut into the row its transfer reads and the rest.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem mem_gset (M22 : Memref sig .tc .vmem S1792x384 .i32) (p : Fin 1792) (y : S1792x384.Idx) :
    y ∈ (Rect.unit (s := S1792x384) ![p.val, 0] S1x384.size (gInb p)).set ↔ (y 0).val = p.val := by
  rw [Rect.mem_set_unit]
  have h1 : (y 1).val < 384 := (y 1).isLt
  constructor
  · intro H; have a0 : p.val ≤ (y 0).val ∧ (y 0).val < p.val + 1 := H 0; omega
  · intro H a; fin_cases a
    · show p.val ≤ (y 0).val ∧ (y 0).val < p.val + 1; omega
    · show 0 ≤ (y 1).val ∧ (y 1).val < 0 + 384; omega

/-- Row `p`'s elements in the buffer. -/
def gSet (M22 : Memref sig .tc .vmem S1792x384 .i32) (p : Fin 1792) : Finset M22.view.ty.Idx :=
  (Rect.unit (s := S1792x384) ![p.val, 0] S1x384.size (gInb p)).set.map M22.view.emb

theorem gRow_set (M22 : Memref sig .tc .vmem S1792x384 .i32) (p : Fin 1792) : (gRow M22 p).view.set = gSet M22 p :=
  View.set_slice M22.view _

theorem gSet_disjoint (M22 : Memref sig .tc .vmem S1792x384 .i32) :
    ∀ p p' : Fin 1792, p ≠ p' → Disjoint (gSet M22 p) (gSet M22 p') := fun p p' hne => by
  unfold gSet
  rw [Finset.disjoint_map, Finset.disjoint_left]
  intro y hy hy'
  rw [mem_gset M22] at hy hy'
  exact hne (Fin.ext (by omega))

theorem gSet_cover (M22 : Memref sig .tc .vmem S1792x384 .i32) : Finset.univ.biUnion (gSet M22) = M22.view.set := by
  ext z
  rw [Finset.mem_biUnion]
  constructor
  · rintro ⟨p, -, hp⟩
    obtain ⟨y, -, rfl⟩ := Finset.mem_map.mp hp
    exact Finset.mem_map_of_mem _ (Finset.mem_univ y)
  · intro hz
    obtain ⟨y, -, rfl⟩ := Finset.mem_map.mp hz
    exact ⟨y 0, Finset.mem_univ _, Finset.mem_map_of_mem _ ((mem_gset M22 _ y).mpr rfl)⟩

theorem rowG_eq (c : Dev nD) (M22 : Memref sig .tc .vmem S1792x384 .i32) (p : Fin 1792) :
    rowG (F := F) c M22 p = iprop(∃ f, M22.view.loc (c : Thread nD τ) ↦[gSet M22 p]{fullShare} f) := by
  unfold rowG heldOf
  rw [gRow_set]
  rfl

/-- The rows no transfer fills. -/
def pads (c : Dev nD) (M22 : Memref sig .tc .vmem S1792x384 .i32) : sProp 𝕄 :=
  bigSep (Ring.rangeSet 1792 1764 1792) (rowG (F := F) c M22)

theorem rows_eq (c : Dev nD) (M22 : Memref sig .tc .vmem S1792x384 .i32) :
    bigSep Finset.univ (rowG (F := F) c M22)
      = iprop(bigSep (Ring.rangeSet 1764 0 1764) (blkG (F := F) c M22) ∗ pads (F := F) c M22) := by
  have e : bigSep (Ring.rangeSet 1792 0 1764) (rowG (F := F) c M22) = bigSep (Ring.rangeSet 1764 0 1764) (blkG (F := F) c M22) := by
    rw [Ring.bigSep_rangeSet_eq_range (NB := 1792) (lo := 0) (hi := 1764) (by omega)
        (fun k => if h : 0 + k < 1764 then blkG (F := F) c M22 ⟨0 + k, h⟩ else if h : 0 + k < 1792 then rowG (F := F) c M22 ⟨0 + k, h⟩ else BI.emp) ?_,
      Ring.bigSep_rangeSet_eq_range (NB := 1764) (lo := 0) (hi := 1764) (by omega)
        (fun k => if h : 0 + k < 1764 then blkG (F := F) c M22 ⟨0 + k, h⟩ else if h : 0 + k < 1792 then rowG (F := F) c M22 ⟨0 + k, h⟩ else BI.emp) ?_]
    · intro k h; exact dif_pos h
    · intro k h
      by_cases h' : 0 + k < 1764
      · rw [dif_pos h']; rfl
      · rw [dif_neg h', dif_pos h]
  rw [← Ring.rangeSet_univ, Ring.bigSep_rangeSet_split (a := 0) (b := 1764) (d := 1792) (by omega) (by omega), e]
  rfl

/-- The gather buffer held is its rows held; -/
theorem g_split (c : Dev nD) (M22 : Memref sig .tc .vmem S1792x384 .i32) :
    (iprop(∃ f, At (F := F) c M22 f) : sProp 𝕄) ⊢ iprop(bigSep (Ring.rangeSet 1764 0 1764) (blkG (F := F) c M22) ∗ pads (F := F) c M22) := by
  rw [← rows_eq]
  refine sProp.exists_elim fun f => ?_
  refine (Entails.of_eq (Ring.pointsTo_sub_blocks (ℓ := M22.view.loc (c : Thread nD τ)) (q := fullShare) (gSet M22)
      (gSet_disjoint M22) M22.view.set (gSet_cover M22) f)).trans (BI.bigSep_mono fun p _ => ?_)
  rw [rowG_eq]
  show (M22.view.loc (c : Thread nD τ) ↦[gSet M22 p]{fullShare} f : sProp 𝕄) ⊢ iprop(∃ f, M22.view.loc (c : Thread nD τ) ↦[gSet M22 p]{fullShare} f)
  iintro H; iexists f; iexact H

/-- and back. -/
theorem g_join (c : Dev nD) (M22 : Memref sig .tc .vmem S1792x384 .i32) (f₀ : BufTy.Contents (Elt F) M22.view.ty) :
    iprop(bigSep (Ring.rangeSet 1764 0 1764) (blkG (F := F) c M22) ∗ pads (F := F) c M22) ⊢ (iprop(∃ f, At (F := F) c M22 f) : sProp 𝕄) := by
  rw [← rows_eq]
  rw [BI.bigSep_congr fun p _ => rowG_eq c M22 p]
  exact Ring.pointsTo_sub_blocks_join_exists (ℓ := M22.view.loc (c : Thread nD τ)) (q := fullShare) (gSet M22)
    (gSet_disjoint M22) M22.view.set (gSet_cover M22) f₀

section Words

variable (c : Dev nD) (M9 : Memref sig .tc .hbm S253952x384 .i32)
  (lw : Fin 1764 → BitVec 32) (hl : ∀ p, LabOk (lw p)) (fw : BufTy.Contents (Elt F) M9.view.ty)

/-- What of its share transfer `p` does not read. -/
def wOff (p : Fin 1764) : sProp 𝕄 :=
  M9.view.loc (c : Thread nD τ) ↦[M9.view.set \ (wRow M9 (lw p) (hl p)).view.set]{Transfers.shareTokN fullShare p.val} fw

/-- What the transfers do not read of the packed words. -/
def wRest : sProp 𝕄 :=
  iprop((M9.view.loc (c : Thread nD τ) ↦[M9.view.set]{Transfers.shareDrop fullShare 1764} fw)
    ∗ bigSep Finset.univ (wOff c M9 lw hl fw))

theorem wTok_split (p : Fin 1764) :
    (M9.view.loc (c : Thread nD τ) ↦[M9.view.set]{Transfers.shareTokN fullShare p.val} fw : sProp 𝕄)
      ⊣⊢ iprop(wTok c M9 lw hl fw p ∗ wOff c M9 lw hl fw p) :=
  pointsTo_split_subset (View.set_slice_subset M9.view _)

theorem toks_eq :
    (bigSep (Finset.range 1764) fun k => (M9.view.loc (c : Thread nD τ) ↦[M9.view.set]{Transfers.shareTokN fullShare k} fw : sProp 𝕄))
      = bigSep Finset.univ fun p : Fin 1764 => (M9.view.loc (c : Thread nD τ) ↦[M9.view.set]{Transfers.shareTokN fullShare p.val} fw : sProp 𝕄) := by
  rw [← Ring.rangeSet_univ (NB := 1764)]
  exact (Ring.bigSep_rangeSet_eq_range (NB := 1764) (lo := 0) (hi := 1764)
    (Φ := fun p : Fin 1764 => (M9.view.loc (c : Thread nD τ) ↦[M9.view.set]{Transfers.shareTokN fullShare p.val} fw : sProp 𝕄)) (by omega)
    (fun k => M9.view.loc (c : Thread nD τ) ↦[M9.view.set]{Transfers.shareTokN fullShare k} fw) (fun k h => by simp only [Nat.zero_add])).symm

theorem wToks_split :
    (bigSep Finset.univ fun p : Fin 1764 => (M9.view.loc (c : Thread nD τ) ↦[M9.view.set]{Transfers.shareTokN fullShare p.val} fw : sProp 𝕄))
      ⊢ iprop(bigSep Finset.univ (wTok c M9 lw hl fw) ∗ bigSep Finset.univ (wOff c M9 lw hl fw)) :=
  (BI.bigSep_mono fun p _ => (wTok_split c M9 lw hl fw p).1).trans (Entails.of_eq (BI.bigSep_sep _ _ _))

theorem wToks_join :
    iprop(bigSep Finset.univ (wTok c M9 lw hl fw) ∗ bigSep Finset.univ (wOff c M9 lw hl fw))
      ⊢ (bigSep Finset.univ fun p : Fin 1764 => (M9.view.loc (c : Thread nD τ) ↦[M9.view.set]{Transfers.shareTokN fullShare p.val} fw : sProp 𝕄)) :=
  (Entails.of_eq (BI.bigSep_sep _ _ _).symm).trans (BI.bigSep_mono fun p _ => (wTok_split c M9 lw hl fw p).2)

/-- The packed words held are every transfer's share of its row, and the rest; -/
theorem w_split :
    (M9.view.loc (c : Thread nD τ) ↦[M9.view.set]{fullShare} fw : sProp 𝕄)
      ⊢ iprop(bigSep (Ring.rangeSet 1764 0 1764) (wTok c M9 lw hl fw) ∗ wRest c M9 lw hl fw) := by
  refine (Transfers.pointsTo_toks_range fullShare 1764).1.trans ?_
  rw [toks_eq, Ring.rangeSet_univ]
  unfold wRest
  iintro ⟨H, HT⟩
  ihave HT := (wToks_split c M9 lw hl fw) $$ HT
  icases HT with ⟨HA, HB⟩
  isplitl [HA]; · iexact HA
  isplitl [H]; · iexact H
  iexact HB

/-- and back. -/
theorem w_join :
    iprop(bigSep (Ring.rangeSet 1764 0 1764) (wTok c M9 lw hl fw) ∗ wRest c M9 lw hl fw)
      ⊢ (M9.view.loc (c : Thread nD τ) ↦[M9.view.set]{fullShare} fw : sProp 𝕄) := by
  refine BIBase.Entails.trans ?_ (Transfers.pointsTo_toks_range fullShare 1764).2
  rw [toks_eq, Ring.rangeSet_univ]
  unfold wRest
  iintro ⟨HA, H, HB⟩
  isplitl [H]; · iexact H
  iapply (wToks_join c M9 lw hl fw)
  isplitl [HA] <;> iassumption

end Words

/-- The deliveries are the rows and the shares. -/
theorem deliv_eq (c : Dev nD) (M9 : Memref sig .tc .hbm S253952x384 .i32) (M22 : Memref sig .tc .vmem S1792x384 .i32)
    (lw : Fin 1764 → BitVec 32) (hl : ∀ p, LabOk (lw p)) (fw : BufTy.Contents (Elt F) M9.view.ty) :
    bigSep Finset.univ (deliv c M9 M22 lw hl fw)
      = iprop(bigSep (Ring.rangeSet 1764 0 1764) (blkG (F := F) c M22) ∗ bigSep (Ring.rangeSet 1764 0 1764) (wTok c M9 lw hl fw)) := by
  rw [Ring.rangeSet_univ]
  exact BI.bigSep_sep _ _ _

end Cert.Kernel.Hand

end
-- ==== Proof.Kernel.Later.lean ====
module

public import proofs.«01_k».proof.Proof.Kernel.Split

/-!
  The head of a grid point's body: the first point quantises `x` and allocates the gather's batch; every
  point issues its rows, broadcasts the chunk's scales and biases and clears the running planes.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem t1_trips : k0_t1_loop.trips = 29 := by decide +kernel

/-- A memref's elements held at contents that read as `v`. -/
def Reads (c : Dev nD) {sp : Space} {S : Shape} {e : EltTy} (M : Memref sig .tc sp S e) (v : S.Idx → Elt F e) : sProp 𝕄 :=
  iprop(∃ f, At c M f ∗ ⌜M.view.read (Elt F) f = v⌝)

/-- What the head leaves in the buffers it prepares. -/
def headPost (c : Dev nD) (i : grid0.Coords) (arg4 arg5 arg17 arg18 arg19 arg20 arg21 : Memref sig .tc .vmem S128x128 .f32)
    (f4 : BufTy.Contents (Elt F) arg4.view.ty) (f5 : BufTy.Contents (Elt F) arg5.view.ty)
    (r : Σ' (arg0 : BitVec 32) (v26 : FVec F S128x128 .f32), Vec F S128x128 .f32) : sProp 𝕄 :=
  iprop(⌜r.1 = BitVec.ofNat 32 (i 0).val ∧ r.2.1 = k0_pay497 (F := F)⌝
    ∗ At c arg4 f4 ∗ At c arg5 f5
    ∗ Reads c arg17 (k0_pay495 (F := F)) ∗ Reads c arg18 (k0_pay496 (F := F)) ∗ (∃ f, At (F := F) c arg19 f)
    ∗ Reads c arg20 (k0_pay493 (arg4.view.read (Elt F) f4)) ∗ Reads c arg21 (k0_pay494 (arg5.view.read (Elt F) f5)))

theorem headPost_intro (c : Dev nD) (i : grid0.Coords) (arg4 arg5 arg17 arg18 arg19 arg20 arg21 : Memref sig .tc .vmem S128x128 .f32)
    (f4 : BufTy.Contents (Elt F) arg4.view.ty) (f5 : BufTy.Contents (Elt F) arg5.view.ty)
    (r : Σ' (arg0 : BitVec 32) (v26 : FVec F S128x128 .f32), Vec F S128x128 .f32)
    (f17 : BufTy.Contents (Elt F) arg17.view.ty) (f18 : BufTy.Contents (Elt F) arg18.view.ty) (f19 : BufTy.Contents (Elt F) arg19.view.ty)
    (f20 : BufTy.Contents (Elt F) arg20.view.ty) (f21 : BufTy.Contents (Elt F) arg21.view.ty)
    (hr : r.1 = BitVec.ofNat 32 (i 0).val) (hr' : r.2.1 = k0_pay497 (F := F))
    (h17 : arg17.view.read (Elt F) f17 = k0_pay495 (F := F)) (h18 : arg18.view.read (Elt F) f18 = k0_pay496 (F := F))
    (h20 : arg20.view.read (Elt F) f20 = k0_pay493 (arg4.view.read (Elt F) f4)) (h21 : arg21.view.read (Elt F) f21 = k0_pay494 (arg5.view.read (Elt F) f5)) :
    iprop(At c arg4 f4 ∗ At c arg5 f5 ∗ At c arg17 f17 ∗ At c arg18 f18 ∗ At c arg19 f19 ∗ At c arg20 f20 ∗ At c arg21 f21)
      ⊢ headPost c i arg4 arg5 arg17 arg18 arg19 arg20 arg21 f4 f5 r := by
  unfold headPost Reads
  iintro ⟨H4, H5, H17, H18, H19, H20, H21⟩
  isplitr; · ipureintro; exact ⟨hr, hr'⟩
  isplitl [H4]; · iexact H4
  isplitl [H5]; · iexact H5
  isplitl [H17]
  · iexists f17; isplitl [H17]; · iexact H17
    ipureintro; exact h17
  isplitl [H18]
  · iexists f18; isplitl [H18]; · iexact H18
    ipureintro; exact h18
  isplitl [H19]; · iexists f19; iexact H19
  isplitl [H20]
  · iexists f20; isplitl [H20]; · iexact H20
    ipureintro; exact h20
  · iexists f21; isplitl [H21]; · iexact H21
    ipureintro; exact h21

set_option maxHeartbeats 2000000 in
theorem head_later (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (lw : Fin 1764 → BitVec 32) (hl : ∀ p, LabOk (lw p)) (fw : BufTy.Contents (Elt F) arg9.view.ty)
    (f1 : BufTy.Contents (Elt F) arg1.view.ty) (f6 : BufTy.Contents (Elt F) arg6.view.ty) (f7 : BufTy.Contents (Elt F) arg7.view.ty)
    (f4 : BufTy.Contents (Elt F) arg4.view.ty) (f5 : BufTy.Contents (Elt F) arg5.view.ty)
    (hlw : ∀ p, lw p = arg1.view.read (Elt F) f1 (ix1 p)) (h1 : ¬ k0_cond1 i = 1#1) :
    iprop(issueAt c i arg1 arg6 arg7 arg9 arg22 arg23 arg24 arg25 arg26 lw hl fw f1 f6 f7 0 ()
        ∗ At c arg4 f4 ∗ At c arg5 f5 ∗ (∃ f, At (F := F) c arg17 f) ∗ (∃ f, At (F := F) c arg18 f) ∗ (∃ f, At (F := F) c arg19 f)
        ∗ (∃ f, At (F := F) c arg20 f) ∗ (∃ f, At (F := F) c arg21 f))
      ⊢ wp frame (wpE (defs₀ (F := F)) Variants.none (c : Thread nD τ) none) Set.univ
          (k0_part100 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
          (fun r => iprop(issueAt c i arg1 arg6 arg7 arg9 arg22 arg23 arg24 arg25 arg26 lw hl fw f1 f6 f7 29 ()
            ∗ headPost c i arg4 arg5 arg17 arg18 arg19 arg20 arg21 f4 f5 r)) := by
  rw [k0_part100_eq_skeleton]
  unfold k0_part100_skel
  rw [dif_neg h1]
  iintro ⟨HI, H4, H5, ⟨%f17, H17⟩, ⟨%f18, H18⟩, ⟨%f19, H19⟩, ⟨%f20, H20⟩, ⟨%f21, H21⟩⟩
  sl_for (issueAt c i arg1 arg6 arg7 arg9 arg22 arg23 arg24 arg25 arg26 lw hl fw f1 f6 f7) $$ [HI]
  · intro k u
    exact issue_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 lw hl fw f1 f6 f7 hlw k u
  · iexact HI
  iintro %u HI
  rw [show Scf.trips k0_t1_loop.lb k0_t1_loop.ub k0_t1_loop.st = 29 from t1_trips]
  sl_exec
  rw [wp_ret]
  imodintro
  isplitl [HI]; · iexact HI
  iapply (headPost_intro c i arg4 arg5 arg17 arg18 arg19 arg20 arg21 f4 f5 _ _ _ _ _ _ rfl rfl (View.read_writes_full _ _ _ _ _) (View.read_writes_full _ _ _ _ _)
    ((View.read_writes_full _ _ _ _ _).trans (congrArg (k0_pay493 (F := F)) (View.readAt_full (Val := Elt F) arg4.view f4 inb_S128x128_S128x128_0_0))) ((View.read_writes_full _ _ _ _ _).trans (congrArg (k0_pay494 (F := F)) (View.readAt_full (Val := Elt F) arg5.view f5 inb_S128x128_S128x128_0_0))))
  isplitl [H4]; · iexact H4
  isplitl [H5]; · iexact H5
  isplitl [H17]; · iexact H17
  isplitl [H18]; · iexact H18
  isplitl [H19]; · iexact H19
  isplitl [H20]; · iexact H20
  iexact H21

/-- The quantiser's three results and what the later points multiply by. -/
def codesV (x : Vec F S128x384 .bf16) := k0_pay11 (F := F) (k0_pay9 x) k0_pay10
def scalesV (x : Vec F S128x384 .bf16) := k0_pay13 (F := F) (k0_pay8 x)
def xqV (x : Vec F S128x384 .bf16) := k0_pay12 (F := F) (k0_pay8 x) (k0_pay9 x) k0_pay10

set_option maxHeartbeats 2000000 in
theorem head_first (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (lw : Fin 1764 → BitVec 32) (hl : ∀ p, LabOk (lw p)) (fw : BufTy.Contents (Elt F) arg9.view.ty)
    (f1 : BufTy.Contents (Elt F) arg1.view.ty) (f6 : BufTy.Contents (Elt F) arg6.view.ty) (f7 : BufTy.Contents (Elt F) arg7.view.ty)
    (f4 : BufTy.Contents (Elt F) arg4.view.ty) (f5 : BufTy.Contents (Elt F) arg5.view.ty)
    (hlw : ∀ p, lw p = arg1.view.read (Elt F) f1 (ix1 p))
    (f2 : BufTy.Contents (Elt F) arg2.view.ty) (h1 : k0_cond1 i = 1#1) :
    iprop(semVal ((c : Thread nD τ), SemLoc.dma arg26.sem) 0 ∗ (∃ f, At (F := F) c arg22 f)
        ∗ bigSep (Ring.rangeSet 1764 0 1764) (wTok c arg9 lw hl fw)
        ∗ At c arg1 f1 ∗ At c arg6 f6 ∗ At c arg7 f7
        ∗ (∃ f, At (F := F) c arg23 f) ∗ (∃ f, At (F := F) c arg24 f) ∗ (∃ f, At (F := F) c arg25 f)
        ∗ At c arg2 f2 ∗ (∃ f, At (F := F) c arg10 f) ∗ (∃ f, At (F := F) c arg13 f) ∗ (∃ f, At (F := F) c arg14 f) ∗ (∃ f, At (F := F) c arg15 f)
        ∗ At c arg4 f4 ∗ At c arg5 f5 ∗ (∃ f, At (F := F) c arg17 f) ∗ (∃ f, At (F := F) c arg18 f) ∗ (∃ f, At (F := F) c arg19 f)
        ∗ (∃ f, At (F := F) c arg20 f) ∗ (∃ f, At (F := F) c arg21 f))
      ⊢ wp frame (wpE (defs₀ (F := F)) Variants.none (c : Thread nD τ) none) Set.univ
          (k0_part100 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
          (fun r => iprop(issueAt c i arg1 arg6 arg7 arg9 arg22 arg23 arg24 arg25 arg26 lw hl fw f1 f6 f7 29 ()
            ∗ pads (F := F) c arg22 ∗ At c arg2 f2
            ∗ Reads c arg10 (k0_pay14 (F := F)) ∗ Reads c arg13 (codesV (arg2.view.read (Elt F) f2)) ∗ Reads c arg14 (scalesV (arg2.view.read (Elt F) f2))
            ∗ Reads c arg15 (xqV (arg2.view.read (Elt F) f2))
            ∗ headPost c i arg4 arg5 arg17 arg18 arg19 arg20 arg21 f4 f5 r)) := by
  rw [k0_part100_eq_skeleton]
  unfold k0_part100_skel
  rw [dif_pos h1]
  simp only [k0_part1_eq_skeleton, k0_part2_eq_skeleton]
  unfold k0_part1_skel k0_part2_skel
  iintro ⟨Hs, ⟨%f22, H22⟩, HW, H1, H6, H7, ⟨%f23, H23⟩, ⟨%f24, H24⟩, ⟨%f25, H25⟩, H2, ⟨%f10, H10⟩, ⟨%f13, H13⟩, ⟨%f14, H14⟩, ⟨%f15, H15⟩, H4, H5, ⟨%f17, H17⟩, ⟨%f18, H18⟩, ⟨%f19, H19⟩, ⟨%f20, H20⟩, ⟨%f21, H21⟩⟩
  sl_exec
  ihave HG := (g_split c arg22) $$ [H22]
  · iexists _; iexact H22
  icases HG with ⟨HG, HP⟩
  imod (Transfers.batch_alloc' (Lvl := ℕ) (countersEmb (U := Pipeline.UD sig nD τ)) (c : Thread nD τ) () (NN arg22 arg26)
    (deliv c arg9 arg22 lw hl fw) (sm := .dma arg26.sem) (E := Set.univ)) $$ Hs with HB
  sl_for (issueAt c i arg1 arg6 arg7 arg9 arg22 arg23 arg24 arg25 arg26 lw hl fw f1 f6 f7) $$ [HB HG HW H1 H6 H7 H23 H24 H25]
  · intro k u
    exact issue_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 lw hl fw f1 f6 f7 hlw k u
  · have hi : (i 0).val = 0 := (cond1_iff i).mp h1
    unfold issueAt
    rw [hi]
    isplitl [HB]; · iexact HB
    isplitl [HG]; · iexact HG
    isplitl [HW]; · iexact HW
    isplitl [H1]; · iexact H1
    isplitl [H6]; · iexact H6
    isplitl [H7]; · iexact H7
    isplitl [H23]; · iexists _; iexact H23
    isplitl [H24]; · iexists _; iexact H24
    iexists _; iexact H25
  iintro %u HI
  rw [show Scf.trips k0_t1_loop.lb k0_t1_loop.ub k0_t1_loop.st = 29 from t1_trips]
  sl_exec
  rw [wp_ret]
  imodintro
  isplitl [HI]; · iexact HI
  isplitl [HP]; · iexact HP
  isplitl [H2]; · iexact H2
  unfold Reads
  isplitl [H10]
  · iexists _; isplitl [H10]; · iexact H10
    ipureintro; exact View.read_writes_full _ _ _ _ _
  isplitl [H13]
  · iexists _; isplitl [H13]; · iexact H13
    ipureintro; refine (View.read_writes_full _ _ _ _ _).trans ?_
    exact congrArg (codesV (F := F)) (View.readAt_full (Val := Elt F) arg2.view f2 inb_S128x384_S128x384_0_0)
  isplitl [H14]
  · iexists _; isplitl [H14]; · iexact H14
    ipureintro; refine (View.read_writes_full _ _ _ _ _).trans ?_
    exact congrArg (scalesV (F := F)) (View.readAt_full (Val := Elt F) arg2.view f2 inb_S128x384_S128x384_0_0)
  isplitl [H15]
  · iexists _; isplitl [H15]; · iexact H15
    ipureintro; refine (View.read_writes_full _ _ _ _ _).trans ?_
    exact congrArg (xqV (F := F)) (View.readAt_full (Val := Elt F) arg2.view f2 inb_S128x384_S128x384_0_0)
  iapply (headPost_intro c i arg4 arg5 arg17 arg18 arg19 arg20 arg21 f4 f5 _ _ _ _ _ _ rfl rfl (View.read_writes_full _ _ _ _ _) (View.read_writes_full _ _ _ _ _)
    ((View.read_writes_full _ _ _ _ _).trans (congrArg (k0_pay493 (F := F)) (View.readAt_full (Val := Elt F) arg4.view f4 inb_S128x128_S128x128_0_0))) ((View.read_writes_full _ _ _ _ _).trans (congrArg (k0_pay494 (F := F)) (View.readAt_full (Val := Elt F) arg5.view f5 inb_S128x128_S128x128_0_0))))
  isplitl [H4]; · iexact H4
  isplitl [H5]; · iexact H5
  isplitl [H17]; · iexact H17
  isplitl [H18]; · iexact H18
  isplitl [H19]; · iexact H19
  isplitl [H20]; · iexact H20
  iexact H21

end Cert.Kernel.Hand

end
-- ==== Proof.Kernel.Mid.lean ====
module

public import proofs.«01_k».proof.Proof.Kernel.Later

/-!
  The middle of a grid point's body: two passes of sixteen slabs, the product plane folded into the
  logarithm plane after each.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem t2_trips : k0_t2_loop.trips = 16 := by decide +kernel
theorem t3_trips : k0_t3_loop.trips = 16 := by decide +kernel

/-- The planes after a chunk's first sixteen slabs, -/
def mid1 (x : Vec F S128x384 .bf16) (w : Vec F S16384x384 .i8) (ws b : Vec F S128x128 .f32) : Vec F S128x128 .f32 × Vec F S128x128 .f32 :=
  planes x w (k0_pay493 ws) (k0_pay494 b) 0 16 (k0_pay495, k0_pay496)

/-- and after all thirty-two, the product plane started afresh between. -/
def mid2 (x : Vec F S128x384 .bf16) (w : Vec F S16384x384 .i8) (ws b : Vec F S128x128 .f32) : Vec F S128x128 .f32 × Vec F S128x128 .f32 :=
  planes x w (k0_pay493 ws) (k0_pay494 b) 16 16 ((mid1 x w ws b).1, k0_pay502)

/-- The logarithm plane of a chunk. -/
def logs (x : Vec F S128x384 .bf16) (w : Vec F S16384x384 .i8) (ws b : Vec F S128x128 .f32) : Vec F S128x128 .f32 :=
  k0_pay505 (k0_pay501 (k0_pay498 k0_pay497) (mid1 x w ws b).2) (mid2 x w ws b).2

set_option maxHeartbeats 2000000 in
theorem passes (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_) (v27 : Vec F S128x128 .f32)
    (x : Vec F S128x384 .bf16) (ws b : Vec F S128x128 .f32)
    (f3 : BufTy.Contents (Elt F) arg3.view.ty) :
    iprop(At c arg3 f3 ∗ Reads c arg15 x ∗ (∃ f, At (F := F) c arg16 f) ∗ Reads c arg17 (k0_pay495 (F := F)) ∗ Reads c arg18 (k0_pay496 (F := F))
        ∗ (∃ f, At (F := F) c arg19 f) ∗ Reads c arg20 (k0_pay493 ws) ∗ Reads c arg21 (k0_pay494 b))
      ⊢ wp frame (wpE (defs₀ (F := F)) Variants.none (c : Thread nD τ) none) Set.univ
          (k0_part101 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 (k0_pay497 (F := F)) v27)
          (fun r => iprop(⌜r.1 = x ∧ r.2 = k0_pay506 (F := F)⌝ ∗ At c arg3 f3 ∗ Reads c arg15 x ∗ (∃ f, At (F := F) c arg16 f)
            ∗ Reads c arg17 (mid2 x (arg3.view.read (Elt F) f3) ws b).1 ∗ (∃ f, At (F := F) c arg18 f)
            ∗ Reads c arg19 (logs x (arg3.view.read (Elt F) f3) ws b) ∗ (∃ f, At (F := F) c arg20 f) ∗ (∃ f, At (F := F) c arg21 f))) := by
  rw [k0_part101_eq_skeleton]
  unfold k0_part101_skel Reads
  iintro ⟨H3, ⟨%f15, H15, %h15⟩, H16, ⟨%f17, H17, %h17⟩, ⟨%f18, H18, %h18⟩, ⟨%f19, H19⟩, ⟨%f20, H20, %h20⟩, ⟨%f21, H21, %h21⟩⟩
  have hx : arg15.view.readAt (Elt F) (Rect.unit ![0, 0] S128x384.size inb_S128x384_S128x384_0_0).toLoadRect f15 = x :=
    (View.readAt_full _ _ _).trans h15
  sl_exec
  sl_for (inv2 c arg3 arg16 arg17 arg18 arg20 arg21 x f3 f20 f21 (k0_pay495 (F := F), k0_pay496 (F := F))) $$ [H3 H16 H17 H18 H20 H21]
  · intro k u
    rw [← hx]
    exact step2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 _ _ _ f3 f20 f21 _ k u
  · unfold inv2
    isplitl [H3]; · iexact H3
    isplitl [H20]; · iexact H20
    isplitl [H21]; · iexact H21
    isplitl [H16]; · iexact H16
    isplitl [H17]
    · iexists _; isplitl [H17]; · iexact H17
      ipureintro; exact h17
    · iexists _; isplitl [H18]; · iexact H18
      ipureintro; exact h18
  iintro %u HI
  rw [show Scf.trips k0_t2_loop.lb k0_t2_loop.ub k0_t2_loop.st = 16 from t2_trips]
  unfold inv2
  icases HI with ⟨H3, H20, H21, H16, ⟨%g17, H17, %e17⟩, ⟨%g18, H18, %e18⟩⟩
  sl_exec
  have e18' : arg18.view.readAt (Elt F) (Rect.unit ![0, 0] S128x128.size inb_S128x128_S128x128_0_0).toLoadRect g18
      = (mid1 x (arg3.view.read (Elt F) f3) ws b).2 :=
    (View.readAt_full _ _ _).trans (e18.trans (by rw [h20, h21]; rfl))
  rw [e18', show passes.sl.v32 (F := F) arg19 = k0_pay498 k0_pay497 from View.readCov_full _ _ _ _ _]
  sl_for (inv3 c arg3 arg16 arg17 arg18 arg20 arg21 x f3 f20 f21 ((mid1 x (arg3.view.read (Elt F) f3) ws b).1, k0_pay502 (F := F))) $$ [H3 H16 H17 H18 H20 H21]
  · intro k u
    exact step3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 _ _ _ f3 f20 f21 _ k u
  · unfold inv3
    isplitl [H3]; · iexact H3
    isplitl [H20]; · iexact H20
    isplitl [H21]; · iexact H21
    isplitl [H16]; · iexact H16
    isplitl [H17]
    · iexists _; isplitl [H17]; · iexact H17
      ipureintro; exact e17.trans (by rw [h20, h21]; rfl)
    · iexists _; isplitl [H18]; · iexact H18
      ipureintro; exact View.read_writes_full _ _ _ _ _
  iintro %u' HI
  rw [show Scf.trips k0_t3_loop.lb k0_t3_loop.ub k0_t3_loop.st = 16 from t3_trips]
  unfold inv3
  icases HI with ⟨H3, H20, H21, H16, ⟨%p17, H17, %r17⟩, ⟨%p18, H18, %r18⟩⟩
  sl_exec
  rw [wp_ret]
  imodintro
  isplitr; · ipureintro; exact ⟨rfl, rfl⟩
  isplitl [H3]; · iexact H3
  isplitl [H15]
  · iexists _; isplitl [H15]; · iexact H15
    ipureintro; exact h15
  isplitl [H16]; · iexact H16
  isplitl [H17]
  · iexists _; isplitl [H17]; · iexact H17
    ipureintro; exact r17.trans (by rw [h20, h21]; rfl)
  isplitl [H18]; · iexists _; iexact H18
  isplitl [H19]
  · iexists _; isplitl [H19]; · iexact H19
    ipureintro
    refine (View.read_writes_full _ _ _ _ _).trans ?_
    rw [show passes.sl.v44 (F := F) arg3 arg19 x ws b f3 = k0_pay501 (k0_pay498 k0_pay497) (mid1 x (arg3.view.read (Elt F) f3) ws b).2 from View.readCov_full _ _ _ _ _,
      show arg18.view.readAt (Elt F) (Rect.unit ![0, 0] S128x128.size inb_S128x128_S128x128_0_0).toLoadRect p18
        = (mid2 x (arg3.view.read (Elt F) f3) ws b).2 from (View.readAt_full _ _ _).trans (r18.trans (by rw [h20, h21]; rfl))]
    rfl
  isplitl [H20]; · iexists _; iexact H20
  iexists _; iexact H21

end Cert.Kernel.Hand

end
-- ==== Proof.Kernel.Body.lean ====
module

public import proofs.«01_k».proof.Proof.Kernel.Mid

/-!
  A grid point's body: at the first point, at a point between, and at the last.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The dense losses after a point: the point's column set to the chunk's sum, the others as they were. -/
def denseStep (n : BitVec 32) (x : Vec F S128x384 .bf16) (w : Vec F S16384x384 .i8) (ws b : Vec F S128x128 .f32) (d : Vec F S128x62 .f32) : Vec F S128x62 .f32 :=
  k0_pay2 n (mid2 x w ws b).1 (logs x w ws b) d

section Bundles

variable (c : Dev nD) (arg16 : Memref sig .tc .vmem S128x512 .f32) (arg17 arg18 arg19 arg20 arg21 : Memref sig .tc .vmem S128x128 .f32)

/-- The buffers a point fills before it reads them. -/
def planesAny : sProp 𝕄 :=
  iprop((∃ f, At (F := F) c arg16 f) ∗ (∃ f, At (F := F) c arg17 f) ∗ (∃ f, At (F := F) c arg18 f) ∗ (∃ f, At (F := F) c arg19 f)
    ∗ (∃ f, At (F := F) c arg20 f) ∗ (∃ f, At (F := F) c arg21 f))

end Bundles

set_option maxHeartbeats 2000000 in
/-- The body at a point that is not the last, from what its head leaves. -/
theorem body_core (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (f3 : BufTy.Contents (Elt F) arg3.view.ty) (f4 : BufTy.Contents (Elt F) arg4.view.ty) (f5 : BufTy.Contents (Elt F) arg5.view.ty)
    (x : Vec F S128x384 .bf16) (d : Vec F S128x62 .f32) (Pre X : sProp 𝕄)
    (hhead : Pre ⊢ wp frame (wpE (defs₀ (F := F)) Variants.none (c : Thread nD τ) none) Set.univ (k0_part100 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
      (fun r => iprop(X ∗ Reads c arg10 d ∗ Reads c arg15 x ∗ headPost c i arg4 arg5 arg17 arg18 arg19 arg20 arg21 f4 f5 r)))
    (h3 : ¬ k0_cond3 i = 1#1) :
    iprop(Pre ∗ At c arg3 f3 ∗ (∃ f, At (F := F) c arg16 f))
      ⊢ wp frame (wpE (defs₀ (F := F)) Variants.none (c : Thread nD τ) none) Set.univ
          (cc0_xmc_bce (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
          (fun _ => iprop(X ∗ At c arg3 f3 ∗ At c arg4 f4 ∗ At c arg5 f5
            ∗ Reads c arg10 (denseStep (BitVec.ofNat 32 (i 0).val) x (arg3.view.read (Elt F) f3) (arg4.view.read (Elt F) f4) (arg5.view.read (Elt F) f5) d)
            ∗ Reads c arg15 x ∗ planesAny (F := F) c arg16 arg17 arg18 arg19 arg20 arg21)) := by
  rw [cc0_xmc_bce_eq_skeleton]
  unfold cc0_xmc_bce_skel planesAny
  iintro ⟨HPre, H3, H16⟩
  rw [wp_bind]
  iapply (wp_wand_r Idealize.ShloMosaic.frame (wpE (defs₀ (F := F)) Variants.none (c : Thread nD τ) none) Set.univ)
  isplitl [HPre]
  · iapply hhead; iexact HPre
  iintro %r ⟨HX, H10, H15, HP⟩
  unfold headPost
  icases HP with ⟨%hr, H4, H5, H17, H18, H19, H20, H21⟩
  obtain ⟨a0, v26, v27⟩ := r
  obtain ⟨rfl, rfl⟩ := hr
  dsimp only
  rw [wp_bind]
  iapply (wp_wand_r Idealize.ShloMosaic.frame (wpE (defs₀ (F := F)) Variants.none (c : Thread nD τ) none) Set.univ)
  isplitl [H3 H15 H16 H17 H18 H19 H20 H21]
  · iapply (passes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v27 x (arg4.view.read (Elt F) f4) (arg5.view.read (Elt F) f5) f3)
    isplitl [H3]; · iexact H3
    isplitl [H15]; · iexact H15
    isplitl [H16]; · iexact H16
    isplitl [H17]; · iexact H17
    isplitl [H18]; · iexact H18
    isplitl [H19]; · iexact H19
    isplitl [H20]; · iexact H20
    iexact H21
  iintro %r ⟨%hr, H3, H15, H16, H17, H18, H19, H20, H21⟩
  obtain ⟨v30, v51⟩ := r
  obtain ⟨hv, rfl⟩ := hr
  dsimp only at hv
  subst hv
  dsimp only
  unfold Reads
  icases H10 with ⟨%f10, H10, %h10⟩
  icases H17 with ⟨%f17, H17, %h17⟩
  icases H18 with ⟨%f18, H18⟩
  icases H19 with ⟨%f19, H19, %h19⟩
  sl_exec
  rw [wp_ret]
  imodintro
  isplitl [HX]; · iexact HX
  isplitl [H3]; · iexact H3
  isplitl [H4]; · iexact H4
  isplitl [H5]; · iexact H5
  isplitl [H10]
  · iexists _; isplitl [H10]; · iexact H10
    ipureintro
    refine (View.read_writes_full _ _ _ _ _).trans ?_
    unfold denseStep
    rw [← h17, ← h19, ← h10]
    exact congr (congr (congrArg (k0_pay2 (F := F) (BitVec.ofNat 32 (i 0).val)) (View.readAt_full (Val := Elt F) arg17.view f17 inb_S128x128_S128x128_0_0))
      (View.readAt_full (Val := Elt F) arg19.view f19 inb_S128x128_S128x128_0_0)) (View.readAt_full (Val := Elt F) arg10.view f10 inb_S128x62_S128x62_0_0)
  isplitl [H15]; · iexact H15
  isplitl [H16]; · iexact H16
  isplitl [H17]; · iexists _; iexact H17
  isplitl [H18]; · iexists _; iexact H18
  isplitl [H19]; · iexists _; iexact H19
  isplitl [H20]; · iexact H20
  iexact H21

set_option maxHeartbeats 4000000 in
/-- The body at the last point, from what its head leaves: every row issued, it waits for them all and forms the
    two results of the sparse part, at contents not named here. -/
theorem body_last (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (f3 : BufTy.Contents (Elt F) arg3.view.ty) (f4 : BufTy.Contents (Elt F) arg4.view.ty) (f5 : BufTy.Contents (Elt F) arg5.view.ty)
    (x : Vec F S128x384 .bf16) (d : Vec F S128x62 .f32)
    (lw : Fin 1764 → BitVec 32) (hl : ∀ p, LabOk (lw p)) (fw : BufTy.Contents (Elt F) arg9.view.ty)
    (hN : 0 < NN arg22 arg26) (f8 : BufTy.Contents (Elt F) arg8.view.ty) (g₀ : BufTy.Contents (Elt F) arg22.view.ty)
    (Pre X : sProp 𝕄)
    (hhead : Pre ⊢ wp frame (wpE (defs₀ (F := F)) Variants.none (c : Thread nD τ) none) Set.univ (k0_part100 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
      (fun r => iprop((X ∗ batch c arg9 arg22 lw hl fw arg26 1764 0 ∗ (∃ f, At (F := F) c arg23 f) ∗ (∃ f, At (F := F) c arg24 f) ∗ (∃ f, At (F := F) c arg25 f)) ∗ Reads c arg10 d ∗ Reads c arg15 x ∗ headPost c i arg4 arg5 arg17 arg18 arg19 arg20 arg21 f4 f5 r)))
    (h3 : k0_cond3 i = 1#1) :
    iprop(Pre ∗ At c arg3 f3 ∗ (∃ f, At (F := F) c arg16 f) ∗ pads (F := F) c arg22 ∗ At c arg8 f8
        ∗ (∃ f, At (F := F) c arg11 f) ∗ (∃ f, At (F := F) c arg12 f) ∗ (∃ W, owes (c : Thread nD τ) 0 W))
      ⊢ wp frame (wpE (defs₀ (F := F)) Variants.none (c : Thread nD τ) none) Set.univ
          (cc0_xmc_bce (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
          (fun _ => iprop(X ∗ At c arg3 f3 ∗ At c arg4 f4 ∗ At c arg5 f5
            ∗ Reads c arg10 (denseStep (BitVec.ofNat 32 (i 0).val) x (arg3.view.read (Elt F) f3) (arg4.view.read (Elt F) f4) (arg5.view.read (Elt F) f5) d)
            ∗ Reads c arg15 x ∗ planesAny (F := F) c arg16 arg17 arg18 arg19 arg20 arg21
            ∗ At c arg8 f8 ∗ (∃ f, At (F := F) c arg11 f) ∗ (∃ f, At (F := F) c arg12 f) ∗ (∃ W, owes (c : Thread nD τ) 0 W)
            ∗ semVal ((c : Thread nD τ), SemLoc.dma arg26.sem) 0 ∗ bigSep (Ring.rangeSet 1764 0 1764) (wTok c arg9 lw hl fw)
            ∗ (∃ f, At (F := F) c arg22 f) ∗ (∃ f, At (F := F) c arg23 f) ∗ (∃ f, At (F := F) c arg24 f) ∗ (∃ f, At (F := F) c arg25 f))) := by
  rw [cc0_xmc_bce_eq_skeleton]
  unfold cc0_xmc_bce_skel planesAny
  iintro ⟨HPre, H3, H16, HPd, H8, ⟨%f11, H11⟩, ⟨%f12, H12⟩, HO⟩
  rw [wp_bind]
  iapply (wp_wand_r Idealize.ShloMosaic.frame (wpE (defs₀ (F := F)) Variants.none (c : Thread nD τ) none) Set.univ)
  isplitl [HPre]
  · iapply hhead; iexact HPre
  iintro %r ⟨HX, H10, H15, HP⟩
  unfold headPost
  icases HP with ⟨%hr, H4, H5, H17, H18, H19, H20, H21⟩
  obtain ⟨a0, v26, v27⟩ := r
  obtain ⟨rfl, rfl⟩ := hr
  dsimp only
  rw [wp_bind]
  iapply (wp_wand_r Idealize.ShloMosaic.frame (wpE (defs₀ (F := F)) Variants.none (c : Thread nD τ) none) Set.univ)
  isplitl [H3 H15 H16 H17 H18 H19 H20 H21]
  · iapply (passes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v27 x (arg4.view.read (Elt F) f4) (arg5.view.read (Elt F) f5) f3)
    isplitl [H3]; · iexact H3
    isplitl [H15]; · iexact H15
    isplitl [H16]; · iexact H16
    isplitl [H17]; · iexact H17
    isplitl [H18]; · iexact H18
    isplitl [H19]; · iexact H19
    isplitl [H20]; · iexact H20
    iexact H21
  iintro %r ⟨%hr, H3, H15, H16, H17, H18, H19, H20, H21⟩
  obtain ⟨v30, v51⟩ := r
  obtain ⟨hv, rfl⟩ := hr
  dsimp only at hv
  subst hv
  dsimp only
  unfold Reads
  icases H10 with ⟨%f10, H10, %h10⟩
  icases H17 with ⟨%f17, H17, %h17⟩
  icases H18 with ⟨%f18, H18⟩
  icases H19 with ⟨%f19, H19, %h19⟩
  icases HX with ⟨HX, HB, ⟨%f23, H23⟩, ⟨%f24, H24⟩, ⟨%f25, H25⟩⟩
  sl_exec
  sl_for (drainAt c arg9 arg22 arg26 lw hl fw) $$ [HB HO]
  · intro k u
    exact drain_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 lw hl fw hN v30 h3 k u
  · unfold drainAt
    rw [if_pos (by omega)]
    isplitl [HO]; · iexact HO
    rw [Nat.zero_mul]
    iexact HB
  iintro %u HI
  rw [show Scf.trips k0_t4_loop.lb k0_t4_loop.ub k0_t4_loop.st = 1764 from t4_trips]
  unfold drainAt
  rw [if_neg (Nat.lt_irrefl _), deliv_eq]
  icases HI with ⟨HO, Hs, HG, HW⟩
  ihave HG := (g_join c arg22 g₀) $$ [HG HPd]
  · isplitl [HG] <;> iassumption
  icases HG with ⟨%f22, H22⟩
  sl_exec
  rw [wp_ret]
  imodintro
  isplitl [HX]; · iexact HX
  isplitl [H3]; · iexact H3
  isplitl [H4]; · iexact H4
  isplitl [H5]; · iexact H5
  isplitl [H10]
  · iexists _; isplitl [H10]; · iexact H10
    ipureintro
    refine (View.read_writes_full _ _ _ _ _).trans ?_
    unfold denseStep
    rw [← h17, ← h19, ← h10]
    exact congr (congr (congrArg (k0_pay2 (F := F) (BitVec.ofNat 32 (i 0).val)) (View.readAt_full (Val := Elt F) arg17.view f17 inb_S128x128_S128x128_0_0))
      (View.readAt_full (Val := Elt F) arg19.view f19 inb_S128x128_S128x128_0_0)) (View.readAt_full (Val := Elt F) arg10.view f10 inb_S128x62_S128x62_0_0)
  isplitl [H15]; · iexact H15
  isplitl [H16 H17 H18 H19 H20 H21]
  · isplitl [H16]; · iexact H16
    isplitl [H17]; · iexists _; iexact H17
    isplitl [H18]; · iexists _; iexact H18
    isplitl [H19]; · iexists _; iexact H19
    isplitl [H20]; · iexact H20
    iexact H21
  isplitl [H8]; · iexact H8
  isplitl [H11]; · iexists _; iexact H11
  isplitl [H12]; · iexists _; iexact H12
  isplitl [HO]; · iexact HO
  isplitl [Hs]; · iexact Hs
  isplitl [HW]; · iexact HW
  isplitl [H22]; · iexists _; iexact H22
  isplitl [H23]; · iexists _; iexact H23
  isplitl [H24]; · iexists _; iexact H24
  iexists _; iexact H25

end Cert.Kernel.Hand

end
-- ==== Proof.Kernel.Point.lean ====
module

public import proofs.«01_k».proof.Proof.Kernel.Body

/-!
  A grid point as the pipeline meets it: every buffer at what it reads, the transfers in flight between points.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A buffer owned, at some contents. -/
def Some' (c : Dev nD) {sp : Space} {S : Shape} {e : EltTy} (M : Memref sig .tc sp S e) : sProp 𝕄 := iprop(∃ f, At (F := F) c M f)

/-- What is in flight, and what is not yet used, once `n` rows are asked for. -/
def carry (c : Dev nD) (arg9 : Memref sig .tc .hbm S253952x384 .i32) (arg22 : Memref sig .tc .vmem S1792x384 .i32)
    (arg23 arg24 : Memref sig .tc .vmem S1792x128 .f32) (arg25 : Memref sig .tc .vmem S1792x128 .i32) (arg26 : DmaSems sig S_)
    (lw : Fin 1764 → BitVec 32) (hl : ∀ p, LabOk (lw p)) (fw : BufTy.Contents (Elt F) arg9.view.ty) (n : ℕ) : sProp 𝕄 :=
  iprop(batch c arg9 arg22 lw hl fw arg26 n 0
    ∗ bigSep (Ring.rangeSet 1764 n 1764) (blkG (F := F) c arg22)
    ∗ bigSep (Ring.rangeSet 1764 n 1764) (wTok c arg9 lw hl fw)
    ∗ (∃ f, At (F := F) c arg23 f) ∗ (∃ f, At (F := F) c arg24 f) ∗ (∃ f, At (F := F) c arg25 f))

section Inputs

variable (c : Dev nD) (arg1 : Memref sig .tc .smem S1764 .i32) (arg2 : Memref sig .tc .vmem S128x384 .bf16)
  (arg3 : Memref sig .tc .vmem S16384x384 .i8) (arg4 arg5 : Memref sig .tc .vmem S128x128 .f32) (arg6 arg7 : Memref sig .tc .vmem S7936x128 .f32)
  (arg8 : Memref sig .tc .vmem S2x128 .i32)
  (v1 : Vec F S1764 .i32) (v2 : Vec F S128x384 .bf16) (v3 : Vec F S16384x384 .i8) (v4 v5 : Vec F S128x128 .f32) (v6 v7 : Vec F S7936x128 .f32)
  (v8 : Vec F S2x128 .i32)

/-- The input blocks of a point. -/
def ins : sProp 𝕄 :=
  iprop(Reads c arg1 v1 ∗ Reads c arg2 v2 ∗ Reads c arg3 v3 ∗ Reads c arg4 v4 ∗ Reads c arg5 v5 ∗ Reads c arg6 v6 ∗ Reads c arg7 v7 ∗ Reads c arg8 v8)

end Inputs

theorem issueAt_of (c : Dev nD) (i : grid0.Coords) (arg1 : Memref sig .tc .smem S1764 .i32) (arg6 arg7 : Memref sig .tc .vmem S7936x128 .f32)
    (arg9 : Memref sig .tc .hbm S253952x384 .i32) (arg22 : Memref sig .tc .vmem S1792x384 .i32) (arg23 arg24 : Memref sig .tc .vmem S1792x128 .f32)
    (arg25 : Memref sig .tc .vmem S1792x128 .i32) (arg26 : DmaSems sig S_)
    (lw : Fin 1764 → BitVec 32) (hl : ∀ p, LabOk (lw p)) (fw : BufTy.Contents (Elt F) arg9.view.ty)
    (f1 : BufTy.Contents (Elt F) arg1.view.ty) (f6 : BufTy.Contents (Elt F) arg6.view.ty) (f7 : BufTy.Contents (Elt F) arg7.view.ty)
    (k n : ℕ) (hn : min (29 * (i 0).val + k) 1764 = n) :
    iprop(carry c arg9 arg22 arg23 arg24 arg25 arg26 lw hl fw n ∗ At c arg1 f1 ∗ At c arg6 f6 ∗ At c arg7 f7)
      ⊢ issueAt c i arg1 arg6 arg7 arg9 arg22 arg23 arg24 arg25 arg26 lw hl fw f1 f6 f7 k () := by
  subst hn
  unfold carry issueAt
  iintro ⟨⟨HB, Hg, Hw, H23, H24, H25⟩, H1, H6, H7⟩
  isplitl [HB]; · iexact HB
  isplitl [Hg]; · iexact Hg
  isplitl [Hw]; · iexact Hw
  isplitl [H1]; · iexact H1
  isplitl [H6]; · iexact H6
  isplitl [H7]; · iexact H7
  isplitl [H23]; · iexact H23
  isplitl [H24]; · iexact H24
  iexact H25

theorem issueAt_to (c : Dev nD) (i : grid0.Coords) (arg1 : Memref sig .tc .smem S1764 .i32) (arg6 arg7 : Memref sig .tc .vmem S7936x128 .f32)
    (arg9 : Memref sig .tc .hbm S253952x384 .i32) (arg22 : Memref sig .tc .vmem S1792x384 .i32) (arg23 arg24 : Memref sig .tc .vmem S1792x128 .f32)
    (arg25 : Memref sig .tc .vmem S1792x128 .i32) (arg26 : DmaSems sig S_)
    (lw : Fin 1764 → BitVec 32) (hl : ∀ p, LabOk (lw p)) (fw : BufTy.Contents (Elt F) arg9.view.ty)
    (f1 : BufTy.Contents (Elt F) arg1.view.ty) (f6 : BufTy.Contents (Elt F) arg6.view.ty) (f7 : BufTy.Contents (Elt F) arg7.view.ty)
    (k n : ℕ) (hn : min (29 * (i 0).val + k) 1764 = n) :
    issueAt c i arg1 arg6 arg7 arg9 arg22 arg23 arg24 arg25 arg26 lw hl fw f1 f6 f7 k ()
      ⊢ iprop(carry c arg9 arg22 arg23 arg24 arg25 arg26 lw hl fw n ∗ At c arg1 f1 ∗ At c arg6 f6 ∗ At c arg7 f7) := by
  subst hn
  unfold carry issueAt
  iintro ⟨HB, Hg, Hw, H1, H6, H7, H23, H24, H25⟩
  isplitl [HB Hg Hw H23 H24 H25]
  · isplitl [HB]; · iexact HB
    isplitl [Hg]; · iexact Hg
    isplitl [Hw]; · iexact Hw
    isplitl [H23]; · iexact H23
    isplitl [H24]; · iexact H24
    iexact H25
  isplitl [H1]; · iexact H1
  isplitl [H6]; · iexact H6
  iexact H7

/-- A buffer held at given contents reads what it reads. -/
theorem reads_at (c : Dev nD) {sp : Space} {S : Shape} {e : EltTy} (M : Memref sig .tc sp S e) (f : BufTy.Contents (Elt F) M.view.ty)
    (v : S.Idx → Elt F e) (h : M.view.read (Elt F) f = v) : (At c M f : sProp 𝕄) ⊢ Reads c M v := by
  unfold Reads
  iintro H
  iexists f
  isplitl [H]; · iexact H
  ipureintro; exact h

set_option maxHeartbeats 2000000 in
/-- The first point. -/
theorem point_first (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (lw : Fin 1764 → BitVec 32) (hl : ∀ p, LabOk (lw p)) (fw : BufTy.Contents (Elt F) arg9.view.ty)
    (v1 : Vec F S1764 .i32) (v2 : Vec F S128x384 .bf16) (v3 : Vec F S16384x384 .i8) (v4 v5 : Vec F S128x128 .f32) (v6 v7 : Vec F S7936x128 .f32)
    (v8 : Vec F S2x128 .i32) (hlw : ∀ p, lw p = v1 (ix1 p)) (n : ℕ) (hn : min (29 * (i 0).val + 29) 1764 = n)
    (h1 : k0_cond1 i = 1#1) (h3 : ¬ k0_cond3 i = 1#1) :
    iprop((semVal ((c : Thread nD τ), SemLoc.dma arg26.sem) 0 ∗ Some' (F := F) c arg22 ∗ bigSep (Ring.rangeSet 1764 0 1764) (wTok c arg9 lw hl fw)
          ∗ Some' (F := F) c arg23 ∗ Some' (F := F) c arg24 ∗ Some' (F := F) c arg25 ∗ Some' (F := F) c arg15 ∗ planesAny (F := F) c arg16 arg17 arg18 arg19 arg20 arg21)
        ∗ ins c arg1 arg2 arg3 arg4 arg5 arg6 arg7 arg8 v1 v2 v3 v4 v5 v6 v7 v8
        ∗ Some' (F := F) c arg10 ∗ Some' (F := F) c arg13 ∗ Some' (F := F) c arg14)
      ⊢ wp frame (wpE (defs₀ (F := F)) Variants.none (c : Thread nD τ) none) Set.univ
          (cc0_xmc_bce (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
          (fun _ => iprop((carry c arg9 arg22 arg23 arg24 arg25 arg26 lw hl fw n ∗ pads (F := F) c arg22 ∗ Reads c arg15 (xqV v2)
              ∗ planesAny (F := F) c arg16 arg17 arg18 arg19 arg20 arg21)
            ∗ ins c arg1 arg2 arg3 arg4 arg5 arg6 arg7 arg8 v1 v2 v3 v4 v5 v6 v7 v8
            ∗ Reads c arg10 (denseStep (BitVec.ofNat 32 (i 0).val) (xqV v2) v3 v4 v5 k0_pay14)
            ∗ Reads c arg13 (codesV v2) ∗ Reads c arg14 (scalesV v2))) := by
  unfold ins planesAny Some'
  conv => lhs; unfold Reads
  iintro ⟨⟨Hs, H22, Hw, H23, H24, H25, H15, H16, H17, H18, H19, H20, H21⟩, ⟨⟨%f1, H1, %e1⟩, ⟨%f2, H2, %e2⟩, ⟨%f3, H3, %e3⟩, ⟨%f4, H4, %e4⟩, ⟨%f5, H5, %e5⟩, ⟨%f6, H6, %e6⟩, ⟨%f7, H7, %e7⟩, ⟨%f8, H8, %e8⟩⟩, H10, H13, H14⟩
  iapply (wp_wand_r Idealize.ShloMosaic.frame (wpE (defs₀ (F := F)) Variants.none (c : Thread nD τ) none) Set.univ)
  isplitl [Hs H22 Hw H23 H24 H25 H15 H16 H17 H18 H19 H20 H21 H1 H2 H3 H4 H5 H6 H7 H10 H13 H14]
  · iapply (body_core c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 f3 f4 f5 (xqV (arg2.view.read (Elt F) f2)) (k0_pay14 (F := F)) _
      iprop(issueAt c i arg1 arg6 arg7 arg9 arg22 arg23 arg24 arg25 arg26 lw hl fw f1 f6 f7 29 () ∗ pads (F := F) c arg22 ∗ At c arg2 f2
        ∗ Reads c arg13 (codesV (arg2.view.read (Elt F) f2)) ∗ Reads c arg14 (scalesV (arg2.view.read (Elt F) f2)))
      ((head_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 lw hl fw f1 f6 f7 f4 f5 (fun p => by rw [e1]; exact hlw p) f2 h1).trans
        (wp_mono Idealize.ShloMosaic.frame _ _ fun r => by
          iintro ⟨HI, HP, H2, H10, H13, H14, H15, HH⟩
          isplitl [HI HP H2 H13 H14]
          · isplitl [HI]; · iexact HI
            isplitl [HP]; · iexact HP
            isplitl [H2]; · iexact H2
            isplitl [H13]; · iexact H13
            iexact H14
          isplitl [H10]; · iexact H10
          isplitl [H15]; · iexact H15
          iexact HH)) h3)
    isplitr [H3 H16]
    · isplitl [Hs]; · iexact Hs
      isplitl [H22]; · iexact H22
      isplitl [Hw]; · iexact Hw
      isplitl [H1]; · iexact H1
      isplitl [H6]; · iexact H6
      isplitl [H7]; · iexact H7
      isplitl [H23]; · iexact H23
      isplitl [H24]; · iexact H24
      isplitl [H25]; · iexact H25
      isplitl [H2]; · iexact H2
      isplitl [H10]; · iexact H10
      isplitl [H13]; · iexact H13
      isplitl [H14]; · iexact H14
      isplitl [H15]; · iexact H15
      isplitl [H4]; · iexact H4
      isplitl [H5]; · iexact H5
      isplitl [H17]; · iexact H17
      isplitl [H18]; · iexact H18
      isplitl [H19]; · iexact H19
      isplitl [H20]; · iexact H20
      iexact H21
    isplitl [H3]; · iexact H3
    iexact H16
  iintro %r ⟨⟨HI, HP, H2, H13, H14⟩, H3, H4, H5, H10, H15, HPl⟩
  ihave HI := (issueAt_to c i arg1 arg6 arg7 arg9 arg22 arg23 arg24 arg25 arg26 lw hl fw f1 f6 f7 29 n hn) $$ HI
  icases HI with ⟨HC, H1, H6, H7⟩
  rw [e2, e3, e4, e5]
  isplitl [HC HP H15 HPl]
  · isplitl [HC]; · iexact HC
    isplitl [HP]; · iexact HP
    isplitl [H15]; · iexact H15
    unfold planesAny; iexact HPl
  isplitl [H1 H2 H3 H4 H5 H6 H7 H8]
  · isplitl [H1]; · iapply (reads_at c arg1 f1 v1 e1); iexact H1
    isplitl [H2]; · iapply (reads_at c arg2 f2 v2 e2); iexact H2
    isplitl [H3]; · iapply (reads_at c arg3 f3 v3 e3); iexact H3
    isplitl [H4]; · iapply (reads_at c arg4 f4 v4 e4); iexact H4
    isplitl [H5]; · iapply (reads_at c arg5 f5 v5 e5); iexact H5
    isplitl [H6]; · iapply (reads_at c arg6 f6 v6 e6); iexact H6
    isplitl [H7]; · iapply (reads_at c arg7 f7 v7 e7); iexact H7
    iapply (reads_at c arg8 f8 v8 e8); iexact H8
  isplitl [H10]; · iexact H10
  isplitl [H13]; · iexact H13
  iexact H14

set_option maxHeartbeats 2000000 in
/-- A point between. -/
theorem point_mid (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (lw : Fin 1764 → BitVec 32) (hl : ∀ p, LabOk (lw p)) (fw : BufTy.Contents (Elt F) arg9.view.ty)
    (v1 : Vec F S1764 .i32) (v2 : Vec F S128x384 .bf16) (v3 : Vec F S16384x384 .i8) (v4 v5 : Vec F S128x128 .f32) (v6 v7 : Vec F S7936x128 .f32)
    (v8 : Vec F S2x128 .i32) (hlw : ∀ p, lw p = v1 (ix1 p)) (x : Vec F S128x384 .bf16) (d : Vec F S128x62 .f32)
    (k n : ℕ) (hk : min (29 * (i 0).val + 0) 1764 = k) (hn : min (29 * (i 0).val + 29) 1764 = n)
    (h1 : ¬ k0_cond1 i = 1#1) (h3 : ¬ k0_cond3 i = 1#1) :
    iprop((carry c arg9 arg22 arg23 arg24 arg25 arg26 lw hl fw k ∗ Reads c arg15 x ∗ planesAny (F := F) c arg16 arg17 arg18 arg19 arg20 arg21)
        ∗ ins c arg1 arg2 arg3 arg4 arg5 arg6 arg7 arg8 v1 v2 v3 v4 v5 v6 v7 v8
        ∗ Reads c arg10 d)
      ⊢ wp frame (wpE (defs₀ (F := F)) Variants.none (c : Thread nD τ) none) Set.univ
          (cc0_xmc_bce (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
          (fun _ => iprop((carry c arg9 arg22 arg23 arg24 arg25 arg26 lw hl fw n ∗ Reads c arg15 x
              ∗ planesAny (F := F) c arg16 arg17 arg18 arg19 arg20 arg21)
            ∗ ins c arg1 arg2 arg3 arg4 arg5 arg6 arg7 arg8 v1 v2 v3 v4 v5 v6 v7 v8
            ∗ Reads c arg10 (denseStep (BitVec.ofNat 32 (i 0).val) x v3 v4 v5 d))) := by
  unfold ins planesAny
  conv => lhs; congr; rfl; congr; unfold Reads; rfl; rfl
  iintro ⟨⟨HC, H15, H16, H17, H18, H19, H20, H21⟩, ⟨⟨%f1, H1, %e1⟩, ⟨%f2, H2, %e2⟩, ⟨%f3, H3, %e3⟩, ⟨%f4, H4, %e4⟩, ⟨%f5, H5, %e5⟩, ⟨%f6, H6, %e6⟩, ⟨%f7, H7, %e7⟩, ⟨%f8, H8, %e8⟩⟩, H10⟩
  ihave HI := (issueAt_of c i arg1 arg6 arg7 arg9 arg22 arg23 arg24 arg25 arg26 lw hl fw f1 f6 f7 0 k hk) $$ [HC H1 H6 H7]
  · isplitl [HC]; · iexact HC
    isplitl [H1]; · iexact H1
    isplitl [H6]; · iexact H6
    iexact H7
  iapply (wp_wand_r Idealize.ShloMosaic.frame (wpE (defs₀ (F := F)) Variants.none (c : Thread nD τ) none) Set.univ)
  isplitl [HI H15 H16 H17 H18 H19 H20 H21 H3 H4 H5 H10]
  · iapply (body_core c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 f3 f4 f5 x d
      iprop((issueAt c i arg1 arg6 arg7 arg9 arg22 arg23 arg24 arg25 arg26 lw hl fw f1 f6 f7 0 ()
        ∗ At c arg4 f4 ∗ At c arg5 f5 ∗ (∃ f, At (F := F) c arg17 f) ∗ (∃ f, At (F := F) c arg18 f) ∗ (∃ f, At (F := F) c arg19 f)
        ∗ (∃ f, At (F := F) c arg20 f) ∗ (∃ f, At (F := F) c arg21 f)) ∗ Reads c arg10 d ∗ Reads c arg15 x)
      iprop(issueAt c i arg1 arg6 arg7 arg9 arg22 arg23 arg24 arg25 arg26 lw hl fw f1 f6 f7 29 ())
      (by
        iintro ⟨HI, H10, H15⟩
        iapply (wp_wand_r Idealize.ShloMosaic.frame (wpE (defs₀ (F := F)) Variants.none (c : Thread nD τ) none) Set.univ)
        isplitl [HI]
        · iapply (head_later c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 lw hl fw f1 f6 f7 f4 f5 (fun p => by rw [e1]; exact hlw p) h1); iexact HI
        iintro %r ⟨HI, HH⟩
        isplitl [HI]; · iexact HI
        isplitl [H10]; · iexact H10
        isplitl [H15]; · iexact H15
        iexact HH) h3)
    isplitr [H3 H16]
    · isplitr [H10 H15]
      · isplitl [HI]; · iexact HI
        isplitl [H4]; · iexact H4
        isplitl [H5]; · iexact H5
        isplitl [H17]; · iexact H17
        isplitl [H18]; · iexact H18
        isplitl [H19]; · iexact H19
        isplitl [H20]; · iexact H20
        iexact H21
      isplitl [H10]; · iexact H10
      iexact H15
    isplitl [H3]; · iexact H3
    iexact H16
  iintro %r ⟨HI, H3, H4, H5, H10, H15, HPl⟩
  ihave HI := (issueAt_to c i arg1 arg6 arg7 arg9 arg22 arg23 arg24 arg25 arg26 lw hl fw f1 f6 f7 29 n hn) $$ HI
  icases HI with ⟨HC, H1, H6, H7⟩
  rw [e3, e4, e5]
  isplitl [HC H15 HPl]
  · isplitl [HC]; · iexact HC
    isplitl [H15]; · iexact H15
    unfold planesAny; iexact HPl
  isplitl [H1 H2 H3 H4 H5 H6 H7 H8]
  · isplitl [H1]; · iapply (reads_at c arg1 f1 v1 e1); iexact H1
    isplitl [H2]; · iapply (reads_at c arg2 f2 v2 e2); iexact H2
    isplitl [H3]; · iapply (reads_at c arg3 f3 v3 e3); iexact H3
    isplitl [H4]; · iapply (reads_at c arg4 f4 v4 e4); iexact H4
    isplitl [H5]; · iapply (reads_at c arg5 f5 v5 e5); iexact H5
    isplitl [H6]; · iapply (reads_at c arg6 f6 v6 e6); iexact H6
    isplitl [H7]; · iapply (reads_at c arg7 f7 v7 e7); iexact H7
    iapply (reads_at c arg8 f8 v8 e8); iexact H8
  iexact H10

set_option maxHeartbeats 2000000 in
/-- The last point. -/
theorem point_last (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (lw : Fin 1764 → BitVec 32) (hl : ∀ p, LabOk (lw p)) (fw : BufTy.Contents (Elt F) arg9.view.ty)
    (hN : 0 < NN arg22 arg26) (g₀ : BufTy.Contents (Elt F) arg22.view.ty)
    (v1 : Vec F S1764 .i32) (v2 : Vec F S128x384 .bf16) (v3 : Vec F S16384x384 .i8) (v4 v5 : Vec F S128x128 .f32) (v6 v7 : Vec F S7936x128 .f32)
    (v8 : Vec F S2x128 .i32) (hlw : ∀ p, lw p = v1 (ix1 p)) (x : Vec F S128x384 .bf16) (d : Vec F S128x62 .f32)
    (k : ℕ) (hk : min (29 * (i 0).val + 0) 1764 = k) (hn : min (29 * (i 0).val + 29) 1764 = 1764)
    (h1 : ¬ k0_cond1 i = 1#1) (h3 : k0_cond3 i = 1#1) :
    iprop((carry c arg9 arg22 arg23 arg24 arg25 arg26 lw hl fw k ∗ pads (F := F) c arg22 ∗ Reads c arg15 x ∗ planesAny (F := F) c arg16 arg17 arg18 arg19 arg20 arg21)
        ∗ ins c arg1 arg2 arg3 arg4 arg5 arg6 arg7 arg8 v1 v2 v3 v4 v5 v6 v7 v8
        ∗ Reads c arg10 d ∗ Some' (F := F) c arg11 ∗ Some' (F := F) c arg12 ∗ (∃ W, owes (c : Thread nD τ) 0 W))
      ⊢ wp frame (wpE (defs₀ (F := F)) Variants.none (c : Thread nD τ) none) Set.univ
          (cc0_xmc_bce (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
          (fun _ => iprop((semVal ((c : Thread nD τ), SemLoc.dma arg26.sem) 0 ∗ Some' (F := F) c arg22 ∗ bigSep (Ring.rangeSet 1764 0 1764) (wTok c arg9 lw hl fw)
              ∗ Some' (F := F) c arg23 ∗ Some' (F := F) c arg24 ∗ Some' (F := F) c arg25 ∗ Reads c arg15 x ∗ planesAny (F := F) c arg16 arg17 arg18 arg19 arg20 arg21)
            ∗ ins c arg1 arg2 arg3 arg4 arg5 arg6 arg7 arg8 v1 v2 v3 v4 v5 v6 v7 v8
            ∗ Reads c arg10 (denseStep (BitVec.ofNat 32 (i 0).val) x v3 v4 v5 d)
            ∗ Some' (F := F) c arg11 ∗ Some' (F := F) c arg12 ∗ (∃ W, owes (c : Thread nD τ) 0 W))) := by
  unfold ins planesAny Some'
  conv => lhs; congr; rfl; congr; unfold Reads; rfl; rfl
  iintro ⟨⟨HC, HPd, H15, H16, H17, H18, H19, H20, H21⟩, ⟨⟨%f1, H1, %e1⟩, ⟨%f2, H2, %e2⟩, ⟨%f3, H3, %e3⟩, ⟨%f4, H4, %e4⟩, ⟨%f5, H5, %e5⟩, ⟨%f6, H6, %e6⟩, ⟨%f7, H7, %e7⟩, ⟨%f8, H8, %e8⟩⟩, H10, H11, H12, HO⟩
  ihave HI := (issueAt_of c i arg1 arg6 arg7 arg9 arg22 arg23 arg24 arg25 arg26 lw hl fw f1 f6 f7 0 k hk) $$ [HC H1 H6 H7]
  · isplitl [HC]; · iexact HC
    isplitl [H1]; · iexact H1
    isplitl [H6]; · iexact H6
    iexact H7
  iapply (wp_wand_r Idealize.ShloMosaic.frame (wpE (defs₀ (F := F)) Variants.none (c : Thread nD τ) none) Set.univ)
  isplitl [HI HPd H15 H16 H17 H18 H19 H20 H21 H3 H4 H5 H8 H10 H11 H12 HO]
  · iapply (body_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 f3 f4 f5 x d lw hl fw hN f8 g₀
      iprop((issueAt c i arg1 arg6 arg7 arg9 arg22 arg23 arg24 arg25 arg26 lw hl fw f1 f6 f7 0 ()
        ∗ At c arg4 f4 ∗ At c arg5 f5 ∗ (∃ f, At (F := F) c arg17 f) ∗ (∃ f, At (F := F) c arg18 f) ∗ (∃ f, At (F := F) c arg19 f)
        ∗ (∃ f, At (F := F) c arg20 f) ∗ (∃ f, At (F := F) c arg21 f)) ∗ Reads c arg10 d ∗ Reads c arg15 x)
      iprop(At c arg1 f1 ∗ At c arg6 f6 ∗ At c arg7 f7)
      (by
        iintro ⟨HI, H10, H15⟩
        iapply (wp_wand_r Idealize.ShloMosaic.frame (wpE (defs₀ (F := F)) Variants.none (c : Thread nD τ) none) Set.univ)
        isplitl [HI]
        · iapply (head_later c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 lw hl fw f1 f6 f7 f4 f5 (fun p => by rw [e1]; exact hlw p) h1); iexact HI
        iintro %r ⟨HI, HH⟩
        ihave HI := (issueAt_to c i arg1 arg6 arg7 arg9 arg22 arg23 arg24 arg25 arg26 lw hl fw f1 f6 f7 29 1764 hn) $$ HI
        unfold carry
        icases HI with ⟨⟨HB, -, -, H23, H24, H25⟩, H1, H6, H7⟩
        isplitl [HB H23 H24 H25 H1 H6 H7]
        · isplitl [H1 H6 H7]
          · isplitl [H1]; · iexact H1
            isplitl [H6]; · iexact H6
            iexact H7
          isplitl [HB]; · iexact HB
          isplitl [H23]; · iexact H23
          isplitl [H24]; · iexact H24
          iexact H25
        isplitl [H10]; · iexact H10
        isplitl [H15]; · iexact H15
        iexact HH) h3)
    isplitl [HI H4 H5 H17 H18 H19 H20 H21 H10 H15]
    · isplitr [H10 H15]
      · isplitl [HI]; · iexact HI
        isplitl [H4]; · iexact H4
        isplitl [H5]; · iexact H5
        isplitl [H17]; · iexact H17
        isplitl [H18]; · iexact H18
        isplitl [H19]; · iexact H19
        isplitl [H20]; · iexact H20
        iexact H21
      isplitl [H10]; · iexact H10
      iexact H15
    isplitl [H3]; · iexact H3
    isplitl [H16]; · iexact H16
    isplitl [HPd]; · iexact HPd
    isplitl [H8]; · iexact H8
    isplitl [H11]; · iexact H11
    isplitl [H12]; · iexact H12
    iexact HO
  iintro %r ⟨⟨H1, H6, H7⟩, H3, H4, H5, H10, H15, HPl, H8, H11, H12, HO, Hs, Hw, H22, H23, H24, H25⟩
  rw [e3, e4, e5]
  isplitl [Hs H22 Hw H23 H24 H25 H15 HPl]
  · isplitl [Hs]; · iexact Hs
    isplitl [H22]; · iexact H22
    isplitl [Hw]; · iexact Hw
    isplitl [H23]; · iexact H23
    isplitl [H24]; · iexact H24
    isplitl [H25]; · iexact H25
    isplitl [H15]; · iexact H15
    unfold planesAny; iexact HPl
  isplitl [H1 H2 H3 H4 H5 H6 H7 H8]
  · isplitl [H1]; · iapply (reads_at c arg1 f1 v1 e1); iexact H1
    isplitl [H2]; · iapply (reads_at c arg2 f2 v2 e2); iexact H2
    isplitl [H3]; · iapply (reads_at c arg3 f3 v3 e3); iexact H3
    isplitl [H4]; · iapply (reads_at c arg4 f4 v4 e4); iexact H4
    isplitl [H5]; · iapply (reads_at c arg5 f5 v5 e5); iexact H5
    isplitl [H6]; · iapply (reads_at c arg6 f6 v6 e6); iexact H6
    isplitl [H7]; · iapply (reads_at c arg7 f7 v7 e7); iexact H7
    iapply (reads_at c arg8 f8 v8 e8); iexact H8
  isplitl [H10]; · iexact H10
  isplitl [H11]; · iexact H11
  isplitl [H12]; · iexact H12
  iexact HO

end Cert.Kernel.Hand

end
-- ==== Proof.Kernel.Frame.lean ====
module

public import proofs.«01_k».proof.Proof.Gen.Kernel.Frame
public import proofs.«01_k».proof.Proof.Kernel.Point

/-!
  The kernel's pipeline: what holds between grid points, the body at every point, and the run.
  Two results, the sums over the labels and the labels' own losses, are left unnamed here.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Owned buffers, read -/

theorem reads_of_before (c : Dev nD) {sp : Space} {S : Shape} {e : EltTy} (M : Memref sig .tc sp S e) {α : Type} (P : α → S.Idx → Elt F e)
    (v : S.Idx → Elt F e) (h : ∀ d, P d = v) : (iprop(∃ d, owns (c : Thread nD τ) M fullShare (P d)) : sProp 𝕄) ⊢ Reads c M v := by
  iintro ⟨%d, H⟩
  unfold owns Reads
  icases H with ⟨%f, %e, H⟩
  iexists f
  isplitl [H]; · iexact H
  ipureintro; exact e.trans (h d)

theorem owns_of_reads (c : Dev nD) {sp : Space} {S : Shape} {e : EltTy} (M : Memref sig .tc sp S e)
    (v : S.Idx → Elt F e) : (Reads c M v : sProp 𝕄) ⊢ owns (c : Thread nD τ) M fullShare v := by
  unfold owns Reads
  iintro ⟨%f, H, %e⟩
  iexists f
  isplitr; · ipureintro; exact e
  iexact H

theorem some_of_owns (c : Dev nD) {sp : Space} {S : Shape} {e : EltTy} (M : Memref sig .tc sp S e) {α : Type} (P : α → S.Idx → Elt F e) :
    (iprop(∃ d, owns (c : Thread nD τ) M fullShare (P d)) : sProp 𝕄) ⊢ Some' (F := F) c M := by
  iintro ⟨%d, H⟩
  unfold owns Some'
  icases H with ⟨%f, %e, H⟩
  iexists f; iexact H

theorem owns_of_some (c : Dev nD) {sp : Space} {S : Shape} {e : EltTy} (M : Memref sig .tc sp S e) :
    (Some' (F := F) c M : sProp 𝕄) ⊢ iprop(∃ d, owns (c : Thread nD τ) M fullShare d) := by
  unfold owns Some'
  iintro ⟨%f, H⟩
  iexists (M.view.read (Elt F) f), f
  isplitr; · ipureintro; rfl
  iexact H

theorem some_of_reads (c : Dev nD) {sp : Space} {S : Shape} {e : EltTy} (M : Memref sig .tc sp S e)
    (v : S.Idx → Elt F e) : (Reads c M v : sProp 𝕄) ⊢ Some' (F := F) c M := by
  unfold Some' Reads
  iintro ⟨%f, H, %e⟩
  iexists f; iexact H

/-! ## The buffers by name -/

abbrev ms0 (t : Fin cfg0.N) : Memref sig .tc .smem S1764 .i32 := win0_0.stage (cfg0.slots t 0)
abbrev ms1 (t : Fin cfg0.N) : Memref sig .tc .vmem S128x384 .bf16 := win0_1.stage (cfg0.slots t 1)
abbrev ms2 (t : Fin cfg0.N) : Memref sig .tc .vmem S16384x384 .i8 := win0_2.stage (cfg0.slots t 2)
abbrev ms3 (t : Fin cfg0.N) : Memref sig .tc .vmem S128x128 .f32 := win0_3.stage (cfg0.slots t 3)
abbrev ms4 (t : Fin cfg0.N) : Memref sig .tc .vmem S128x128 .f32 := win0_4.stage (cfg0.slots t 4)
abbrev ms5 (t : Fin cfg0.N) : Memref sig .tc .vmem S7936x128 .f32 := win0_5.stage (cfg0.slots t 5)
abbrev ms6 (t : Fin cfg0.N) : Memref sig .tc .vmem S7936x128 .f32 := win0_6.stage (cfg0.slots t 6)
abbrev ms7 (t : Fin cfg0.N) : Memref sig .tc .vmem S2x128 .i32 := win0_7.stage (cfg0.slots t 7)
abbrev ms8 (t : Fin cfg0.N) : Memref sig .tc .vmem S128x62 .f32 := win0_8.stage (cfg0.slots t 8)
abbrev ms9 (t : Fin cfg0.N) : Memref sig .tc .vmem S1x128 .f32 := win0_9.stage (cfg0.slots t 9)
abbrev ms10 (t : Fin cfg0.N) : Memref sig .tc .vmem S1764 .f32 := win0_10.stage (cfg0.slots t 10)
abbrev ms11 (t : Fin cfg0.N) : Memref sig .tc .vmem S128x384 .fp8e4m3 := win0_11.stage (cfg0.slots t 11)
abbrev ms12 (t : Fin cfg0.N) : Memref sig .tc .vmem S1x128 .f32 := win0_12.stage (cfg0.slots t 12)
abbrev wordsM : Memref sig .tc .hbm S253952x384 .i32 := Memref.whole main_v4
abbrev sc0 : Memref sig .tc .vmem S128x384 .bf16 := Memref.whole cc0_scratch0
abbrev sc1 : Memref sig .tc .vmem S128x512 .f32 := Memref.whole cc0_scratch1
abbrev sc2 : Memref sig .tc .vmem S128x128 .f32 := Memref.whole cc0_scratch2
abbrev sc3 : Memref sig .tc .vmem S128x128 .f32 := Memref.whole cc0_scratch3
abbrev sc4 : Memref sig .tc .vmem S128x128 .f32 := Memref.whole cc0_scratch4
abbrev sc5 : Memref sig .tc .vmem S128x128 .f32 := Memref.whole cc0_scratch5
abbrev sc6 : Memref sig .tc .vmem S128x128 .f32 := Memref.whole cc0_scratch6
abbrev sc7 : Memref sig .tc .vmem S1792x384 .i32 := Memref.whole cc0_scratch7
abbrev sc8 : Memref sig .tc .vmem S1792x128 .f32 := Memref.whole cc0_scratch8
abbrev sc9 : Memref sig .tc .vmem S1792x128 .f32 := Memref.whole cc0_scratch9
abbrev sc10 : Memref sig .tc .vmem S1792x128 .i32 := Memref.whole cc0_scratch10

/-! ## The invariant -/

/-- The body's one DMA semaphore. -/
abbrev osem0 : Fin 1 → SemLoc sig := fun j => (![SemLoc.dma 16] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch11.sem) 0 := by
  rw [Pipeline.ownSems0_eq_of_list c osem0 [0] (by decide) (by decide)]; rfl
/-- The operand left in HBM: the packed words. -/
def H0 : Finset (Ref sig .tc) := {main_v4}
theorem H0_sub : H0 ⊆ Pipeline.restRefs sig spec0 := by decide

theorem at_whole (c : Dev nD) (b : Ref sig .tc) (f : b.ty.Contents (Elt F)) :
    (At c (Memref.whole b) f : sProp 𝕄) = (((c : Thread nD τ).loc b) ↦{fullShare} f) := by
  unfold At; simp only [Memref.view_whole, View.set_whole]

theorem some_whole (c : Dev nD) (b : Ref sig .tc) :
    (Some' (F := F) c (Memref.whole b) : sProp 𝕄)
      = iprop(∃ f : Buf (Elt F) ((c : Thread nD τ).loc b), ((c : Thread nD τ).loc b) ↦{fullShare} f) :=
  congrArg BIBase.exists (funext fun f => at_whole c b f)

theorem hbmPts0_eq (c : Dev nD) :
    (bigSep H0 (fun b => ((c : Thread nD τ).loc b) ↦{fullShare} V m c b) : sProp 𝕄) = At c wordsM (V m c main_v4) := by
  rw [BI.bigSep_eq_bigSepL_of_eq [main_v4] (by decide) (by decide)]
  exact (at_whole c main_v4 (V m c main_v4)).symm

theorem PhiD0_eq (c : Dev nD) :
    (Pipeline.ΦD osem0 spec0 H0 (V m) c : sProp 𝕄)
      = iprop((Some' (F := F) c sc0 ∗ Some' (F := F) c sc1 ∗ Some' (F := F) c sc2 ∗ Some' (F := F) c sc3 ∗ Some' (F := F) c sc4 ∗ Some' (F := F) c sc5
          ∗ Some' (F := F) c sc6 ∗ Some' (F := F) c sc7 ∗ Some' (F := F) c sc8 ∗ Some' (F := F) c sc9 ∗ Some' (F := F) c sc10)
        ∗ (∃ r, prngReg c r) ∗ semVal ((c : Thread nD τ), SemLoc.dma cc0_scratch11.sem) 0 ∗ At c wordsM (V m c main_v4)) := by
  rw [Pipeline.ΦD_eq, scopedRest0_eq, ownSems00_eq, hbmPts0_eq, some_whole c cc0_scratch0, some_whole c cc0_scratch1, some_whole c cc0_scratch2,
    some_whole c cc0_scratch3, some_whole c cc0_scratch4, some_whole c cc0_scratch5, some_whole c cc0_scratch6, some_whole c cc0_scratch7,
    some_whole c cc0_scratch8, some_whole c cc0_scratch9, some_whole c cc0_scratch10]

theorem pt0 : 0 < cfg0.N := by show 0 < grid0.N; rw [N_0]; decide

/-- The labels, as every point finds them. -/
def lwOf (c : Dev nD) (p : Fin 1764) : BitVec 32 := (iblk m c 0 ⟨0, pt0⟩ : Vec F S1764 .i32) (ix1 p)
/-- The rows to quantise, as every point finds them. -/
def xOf (c : Dev nD) : Vec F S128x384 .bf16 := iblk m c 1 ⟨0, pt0⟩

theorem iblk0_const (c : Dev nD) (t : Fin cfg0.N) : (iblk m c 0 t : Vec F S1764 .i32) = iblk m c 0 ⟨0, pt0⟩ := rfl
theorem iblk1_const (c : Dev nD) (t : Fin cfg0.N) : (iblk m c 1 t : Vec F S128x384 .bf16) = xOf m c := rfl

/-- The dense losses after point `n`. -/
def denseAt (c : Dev nD) : (n : ℕ) → n < cfg0.N → Vec F S128x62 .f32
  | 0, h => denseStep (BitVec.ofNat 32 0) (xqV (xOf m c)) (iblk m c 2 ⟨0, h⟩) (iblk m c 3 ⟨0, h⟩) (iblk m c 4 ⟨0, h⟩) k0_pay14
  | n + 1, h => denseStep (BitVec.ofNat 32 (n + 1)) (xqV (xOf m c)) (iblk m c 2 ⟨n + 1, h⟩) (iblk m c 3 ⟨n + 1, h⟩) (iblk m c 4 ⟨n + 1, h⟩)
      (denseAt c n (Nat.lt_of_succ_lt h))

variable (hl : ∀ c p, LabOk (lwOf m c p))

/-- Between two points, `n` rows asked for. -/
def between (c : Dev nD) (n : ℕ) : sProp 𝕄 :=
  iprop((carry c wordsM sc7 sc8 sc9 sc10 cc0_scratch11 (lwOf m c) (hl c) (V m c main_v4) n ∗ pads (F := F) c sc7
      ∗ Reads c sc0 (xqV (xOf m c)) ∗ planesAny (F := F) c sc1 sc2 sc3 sc4 sc5 sc6)
    ∗ wRest c wordsM (lwOf m c) (hl c) (V m c main_v4) ∗ (∃ r, prngReg c r))

/-- What holds before point `n`. -/
def phi (c : Dev nD) (n : ℕ) : sProp 𝕄 :=
  if n = 0 ∨ n = 62 then Pipeline.ΦD osem0 spec0 H0 (V m) c else between m hl c (min (29 * n) 1764)

/-- The two results not named. -/
def fgt : Fin 13 → Bool
  | 9 => true
  | 10 => true
  | _ => false

/-- The proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => denseAt m c t.val t.isLt
    | ⟨9, _⟩ => Pipeline.Dat.unnamed (cfg := cfg0) 9 t
    | ⟨10, _⟩ => Pipeline.Dat.unnamed (cfg := cfg0) 10 t
    | ⟨11, _⟩ => codesV (xOf m c)
    | ⟨12, _⟩ => scalesV (xOf m c)
    | ⟨_ + 13, h⟩ => absurd h (Nat.not_lt.2 (Nat.le_add_left _ _))
  Φ t := phi m hl c t.val
  q w := Pipeline.shareOf spec0 w
  owed _ := 0

theorem A_eq (c : Dev nD) (w : Fin cfg0.W) : (dats m hl 0 c).A w = V m c (Pipeline.arrRef spec0 w) := by dsimp only [dats]

theorem after0 (c : Dev nD) (t : Fin cfg0.N) : (dats m hl 0 c).after 0 t = iblk m c 0 t := by dsimp only [dats]
theorem after1 (c : Dev nD) (t : Fin cfg0.N) : (dats m hl 0 c).after 1 t = iblk m c 1 t := by dsimp only [dats]
theorem after2 (c : Dev nD) (t : Fin cfg0.N) : (dats m hl 0 c).after 2 t = iblk m c 2 t := by dsimp only [dats]
theorem after3 (c : Dev nD) (t : Fin cfg0.N) : (dats m hl 0 c).after 3 t = iblk m c 3 t := by dsimp only [dats]
theorem after4 (c : Dev nD) (t : Fin cfg0.N) : (dats m hl 0 c).after 4 t = iblk m c 4 t := by dsimp only [dats]
theorem after5 (c : Dev nD) (t : Fin cfg0.N) : (dats m hl 0 c).after 5 t = iblk m c 5 t := by dsimp only [dats]
theorem after6 (c : Dev nD) (t : Fin cfg0.N) : (dats m hl 0 c).after 6 t = iblk m c 6 t := by dsimp only [dats]
theorem after7 (c : Dev nD) (t : Fin cfg0.N) : (dats m hl 0 c).after 7 t = iblk m c 7 t := by dsimp only [dats]
theorem after8 (c : Dev nD) (t : Fin cfg0.N) : (dats m hl 0 c).after 8 t = denseAt m c t.val t.isLt := by dsimp only [dats]
theorem after11 (c : Dev nD) (t : Fin cfg0.N) : (dats m hl 0 c).after 11 t = codesV (xOf m c) := by dsimp only [dats]
theorem after12 (c : Dev nD) (t : Fin cfg0.N) : (dats m hl 0 c).after 12 t = scalesV (xOf m c) := by dsimp only [dats]

/-- An input buffer holds its block at every point. -/
theorem before_block {c : Dev nD} (dat : Dat τ (Elt F) Unit ℕ (Pipeline.UD sig nD τ) ℕ cfg0 c) (w : Fin cfg0.W)
    (hA : dat.A w = V m c (Pipeline.arrRef spec0 w)) (hw : (cfg0.win w).isOut = false) (hlive : ∀ i, cfg0.idle w i = false)
    (hclip : ∀ (i : cfg0.grid.Coords) a, (cfg0.win w).clip i a = none)
    (hkeep : ∀ t, (cfg0.win w).cut (cfg0.grid.coords t) (dat.after w t) = iblk m c w t) (t : Fin cfg0.N) (d) :
    dat.before w t d = dat.fetched w t d :=
  dat.before_in_eq_fetched w hw hlive (fun t t' _ => by funext a; rw [hclip, hclip]) (fun t => by rw [hkeep]; unfold Dat.blockOf iblk; rw [hA]) t d

theorem before0 (c : Dev nD) (t : Fin cfg0.N) (d) : (dats m hl 0 c).before 0 t d = iblk m c 0 t :=
  (before_block m (dats m hl 0 c) 0 rfl rfl (fun _ => rfl) (fun _ _ => rfl) (fun t => by rw [after0]) t d).trans rfl
theorem before1 (c : Dev nD) (t : Fin cfg0.N) (d) : (dats m hl 0 c).before 1 t d = iblk m c 1 t :=
  (before_block m (dats m hl 0 c) 1 rfl rfl (fun _ => rfl) (fun _ _ => rfl) (fun t => by rw [after1]) t d).trans rfl
theorem before2 (c : Dev nD) (t : Fin cfg0.N) (d) : (dats m hl 0 c).before 2 t d = iblk m c 2 t :=
  (before_block m (dats m hl 0 c) 2 rfl rfl (fun _ => rfl) (fun _ _ => rfl) (fun t => by rw [after2]) t d).trans rfl
theorem before3 (c : Dev nD) (t : Fin cfg0.N) (d) : (dats m hl 0 c).before 3 t d = iblk m c 3 t :=
  (before_block m (dats m hl 0 c) 3 rfl rfl (fun _ => rfl) (fun _ _ => rfl) (fun t => by rw [after3]) t d).trans rfl
theorem before4 (c : Dev nD) (t : Fin cfg0.N) (d) : (dats m hl 0 c).before 4 t d = iblk m c 4 t :=
  (before_block m (dats m hl 0 c) 4 rfl rfl (fun _ => rfl) (fun _ _ => rfl) (fun t => by rw [after4]) t d).trans rfl
theorem before5 (c : Dev nD) (t : Fin cfg0.N) (d) : (dats m hl 0 c).before 5 t d = iblk m c 5 t :=
  (before_block m (dats m hl 0 c) 5 rfl rfl (fun _ => rfl) (fun _ _ => rfl) (fun t => by rw [after5]) t d).trans rfl
theorem before6 (c : Dev nD) (t : Fin cfg0.N) (d) : (dats m hl 0 c).before 6 t d = iblk m c 6 t :=
  (before_block m (dats m hl 0 c) 6 rfl rfl (fun _ => rfl) (fun _ _ => rfl) (fun t => by rw [after6]) t d).trans rfl
theorem before7 (c : Dev nD) (t : Fin cfg0.N) (d) : (dats m hl 0 c).before 7 t d = iblk m c 7 t :=
  (before_block m (dats m hl 0 c) 7 rfl rfl (fun _ => rfl) (fun _ _ => rfl) (fun t => by rw [after7]) t d).trans rfl

theorem lt62 (t : Fin cfg0.N) : t.val < 62 := lt_of_lt_of_eq t.isLt N_0

theorem coords0 (t : Fin cfg0.N) : (grid0.coords t 0).val = t.val := by
  have h := Pipeline.Grid.coords_val (G := grid0) t 0 (S := 1) (B := 62) (by decide) (by decide)
  rw [h]; have := lt62 t; omega

theorem first_iff (t : Fin cfg0.N) : k0_cond1 (grid0.coords t) = 1#1 ↔ t.val = 0 := by rw [cond1_iff, coords0]
theorem last_iff (t : Fin cfg0.N) : k0_cond3 (grid0.coords t) = 1#1 ↔ t.val = 61 := by rw [cond3_iff, coords0]

/-- The dense result's buffer after the first point: as the point before left it. -/
theorem before8 (c : Dev nD) (n : ℕ) (h : n + 1 < cfg0.N) (d) : (dats m hl 0 c).before 8 ⟨n + 1, h⟩ d = denseAt m c n (Nat.lt_of_succ_lt h) := by
  have hf : (cfg0.win 8).flush ⟨n, Nat.lt_of_succ_lt h⟩ = false := by
    rw [Bool.eq_false_iff]; intro e
    have := (flush0_8 _).mp e
    have h62 : n + 1 < 62 := lt62 ⟨n + 1, h⟩
    dsimp only at this; omega
  rw [(dats m hl 0 c).before_out_kept 8 rfl ⟨n + 1, h⟩ (Nat.succ_ne_zero n) hf (fun _ => rfl) (fun _ _ => rfl) d, after8]
  rfl

theorem idle11 (t : Fin cfg0.N) : cfg0.idle 11 (cfg0.grid.coords t) = !(k0_cond1 (grid0.coords t) == 1#1) := rfl
theorem idle12 (t : Fin cfg0.N) : cfg0.idle 12 (cfg0.grid.coords t) = !(k0_cond1 (grid0.coords t) == 1#1) := rfl

/-- A result written at the first point alone: at every later point its buffer holds what was written there. -/
theorem before_written (c : Dev nD) (w : Fin cfg0.W) (hw : (cfg0.win w).isOut = true)
    (hidle : ∀ t : Fin cfg0.N, cfg0.idle w (cfg0.grid.coords t) = !(k0_cond1 (grid0.coords t) == 1#1))
    (hflush : ∀ t : Fin cfg0.N, (cfg0.win w).flush t = true ↔ t.val % 62 = 61)
    (hclip : ∀ (i : cfg0.grid.Coords) a, (cfg0.win w).clip i a = none) (v : (cfg0.win w).block.Idx → Elt F (cfg0.win w).elt)
    (hv : ∀ t, (dats m hl 0 c).after w t = v) (d) :
    ∀ (n : ℕ) (h : n + 1 < cfg0.N), (dats m hl 0 c).before w ⟨n + 1, h⟩ d = v := by
  intro n
  induction n with
  | zero =>
    intro h
    have hf : (cfg0.win w).flush ⟨0, Nat.lt_of_succ_lt h⟩ = false := by
      rw [Bool.eq_false_iff]; intro e; have := (hflush _).mp e; dsimp only at this; omega
    rw [(dats m hl 0 c).before_of_pos w ⟨0 + 1, h⟩ (Nat.succ_ne_zero 0) ((cfg0.win w).fetch_out hw _)]
    show (if (cfg0.win w).flush ⟨0, Nat.lt_of_succ_lt h⟩ = true then d else (dats m hl 0 c).left w ⟨0, Nat.lt_of_succ_lt h⟩ d) = v
    rw [hf, if_neg Bool.false_ne_true]
    unfold Dat.left
    rw [hidle, (first_iff ⟨0, Nat.lt_of_succ_lt h⟩).mpr rfl]
    show (dats m hl 0 c).kept w _ d = v
    unfold Dat.kept
    rw [Pipeline.fill_of_clip_none w _ (hclip _) d ((dats m hl 0 c).after w _), Pipeline.Window.fill_cut, hv]
  | succ n ih =>
    intro h
    have h62 : n + 1 + 1 < 62 := lt62 ⟨n + 1 + 1, h⟩
    have hf : (cfg0.win w).flush ⟨n + 1, Nat.lt_of_succ_lt h⟩ = false := by
      rw [Bool.eq_false_iff]; intro e; have := (hflush _).mp e; dsimp only at this; omega
    rw [(dats m hl 0 c).before_of_pos w ⟨n + 1 + 1, h⟩ (Nat.succ_ne_zero _) ((cfg0.win w).fetch_out hw _)]
    show (if (cfg0.win w).flush ⟨n + 1, Nat.lt_of_succ_lt h⟩ = true then d else (dats m hl 0 c).left w ⟨n + 1, Nat.lt_of_succ_lt h⟩ d) = v
    rw [hf, if_neg Bool.false_ne_true]
    unfold Dat.left
    rw [hidle, beq_eq_false_iff_ne.mpr (fun e => absurd ((first_iff ⟨n + 1, Nat.lt_of_succ_lt h⟩).mp e) (Nat.succ_ne_zero n))]
    exact ih (Nat.lt_of_succ_lt h)

end Cert.Kernel.Hand

end
-- ==== Proof.Kernel.Run.lean ====
module

public import proofs.«01_k».proof.Proof.Kernel.Frame
public import proofs.«01_k».proof.Proof.Labels

/-!
  The body at every grid point against the pipeline's proof data, the run, and the frame.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
variable (hl : ∀ c p, LabOk (lwOf m c p))

/-! ## The pipeline's statement of a point, and the buffers' -/

def bodyPre (c : Dev nD) (t : Fin cfg0.N) : sProp 𝕄 :=
  iprop((dats m hl 0 c).Φ t.castSucc ∗ (dats m hl 0 c).owesAt () t.castSucc
    ∗ (∃ d, owns (c : Thread nD τ) (ms0 t) fullShare ((dats m hl 0 c).before 0 t d))
    ∗ (∃ d, owns (c : Thread nD τ) (ms1 t) fullShare ((dats m hl 0 c).before 1 t d))
    ∗ (∃ d, owns (c : Thread nD τ) (ms2 t) fullShare ((dats m hl 0 c).before 2 t d))
    ∗ (∃ d, owns (c : Thread nD τ) (ms3 t) fullShare ((dats m hl 0 c).before 3 t d))
    ∗ (∃ d, owns (c : Thread nD τ) (ms4 t) fullShare ((dats m hl 0 c).before 4 t d))
    ∗ (∃ d, owns (c : Thread nD τ) (ms5 t) fullShare ((dats m hl 0 c).before 5 t d))
    ∗ (∃ d, owns (c : Thread nD τ) (ms6 t) fullShare ((dats m hl 0 c).before 6 t d))
    ∗ (∃ d, owns (c : Thread nD τ) (ms7 t) fullShare ((dats m hl 0 c).before 7 t d))
    ∗ (∃ d, owns (c : Thread nD τ) (ms8 t) fullShare ((dats m hl 0 c).before 8 t d))
    ∗ (∃ d, owns (c : Thread nD τ) (ms9 t) fullShare d)
    ∗ (∃ d, owns (c : Thread nD τ) (ms10 t) fullShare d)
    ∗ (∃ d, owns (c : Thread nD τ) (ms11 t) fullShare ((dats m hl 0 c).before 11 t d))
    ∗ (∃ d, owns (c : Thread nD τ) (ms12 t) fullShare ((dats m hl 0 c).before 12 t d)))

def bodyPost (c : Dev nD) (t : Fin cfg0.N) : sProp 𝕄 :=
  iprop((dats m hl 0 c).Φ t.succ ∗ (dats m hl 0 c).owesAt () t.succ
    ∗ owns (c : Thread nD τ) (ms0 t) fullShare ((dats m hl 0 c).after 0 t)
    ∗ owns (c : Thread nD τ) (ms1 t) fullShare ((dats m hl 0 c).after 1 t)
    ∗ owns (c : Thread nD τ) (ms2 t) fullShare ((dats m hl 0 c).after 2 t)
    ∗ owns (c : Thread nD τ) (ms3 t) fullShare ((dats m hl 0 c).after 3 t)
    ∗ owns (c : Thread nD τ) (ms4 t) fullShare ((dats m hl 0 c).after 4 t)
    ∗ owns (c : Thread nD τ) (ms5 t) fullShare ((dats m hl 0 c).after 5 t)
    ∗ owns (c : Thread nD τ) (ms6 t) fullShare ((dats m hl 0 c).after 6 t)
    ∗ owns (c : Thread nD τ) (ms7 t) fullShare ((dats m hl 0 c).after 7 t)
    ∗ owns (c : Thread nD τ) (ms8 t) fullShare ((dats m hl 0 c).after 8 t)
    ∗ (∃ d, owns (c : Thread nD τ) (ms9 t) fullShare d)
    ∗ (∃ d, owns (c : Thread nD τ) (ms10 t) fullShare d)
    ∗ (dats m hl 0 c).leavesExact 11 t
    ∗ (dats m hl 0 c).leavesExact 12 t)

/-- The input blocks of point `t`. -/
def insAt (c : Dev nD) (t : Fin cfg0.N) : sProp 𝕄 :=
  ins c (ms0 t) (ms1 t) (ms2 t) (ms3 t) (ms4 t) (ms5 t) (ms6 t) (ms7 t) (iblk m c 0 t) (iblk m c 1 t) (iblk m c 2 t) (iblk m c 3 t)
    (iblk m c 4 t) (iblk m c 5 t) (iblk m c 6 t) (iblk m c 7 t)

/-- What point `t` finds in the buffer of a result. -/
abbrev foundAt (c : Dev nD) (w : Fin cfg0.W) (t : Fin cfg0.N) : sProp 𝕄 :=
  iprop(∃ d, owns (c : Thread nD τ) ((cfg0.win w).stage (cfg0.slots t w)) fullShare ((dats m hl 0 c).before w t d))

theorem open_pre (c : Dev nD) (t : Fin cfg0.N) :
    bodyPre m hl c t ⊢ iprop((dats m hl 0 c).Φ t.castSucc ∗ (dats m hl 0 c).owesAt () t.castSucc ∗ insAt m c t
      ∗ foundAt m hl c 8 t ∗ Some' (F := F) c (ms9 t) ∗ Some' (F := F) c (ms10 t) ∗ foundAt m hl c 11 t ∗ foundAt m hl c 12 t) := by
  unfold bodyPre insAt ins
  iintro ⟨HΦ, HO, H0, H1, H2, H3, H4, H5, H6, H7, H8, H9, H10, H11, H12⟩
  isplitl [HΦ]; · iexact HΦ
  isplitl [HO]; · iexact HO
  isplitl [H0 H1 H2 H3 H4 H5 H6 H7]
  · isplitl [H0]; · iapply (reads_of_before c (ms0 t) _ _ (before0 m hl c t)); iexact H0
    isplitl [H1]; · iapply (reads_of_before c (ms1 t) _ _ (before1 m hl c t)); iexact H1
    isplitl [H2]; · iapply (reads_of_before c (ms2 t) _ _ (before2 m hl c t)); iexact H2
    isplitl [H3]; · iapply (reads_of_before c (ms3 t) _ _ (before3 m hl c t)); iexact H3
    isplitl [H4]; · iapply (reads_of_before c (ms4 t) _ _ (before4 m hl c t)); iexact H4
    isplitl [H5]; · iapply (reads_of_before c (ms5 t) _ _ (before5 m hl c t)); iexact H5
    isplitl [H6]; · iapply (reads_of_before c (ms6 t) _ _ (before6 m hl c t)); iexact H6
    iapply (reads_of_before c (ms7 t) _ _ (before7 m hl c t)); iexact H7
  isplitl [H8]; · iexact H8
  isplitl [H9]; · iapply (some_of_owns c (ms9 t) (fun d => d)); iexact H9
  isplitl [H10]; · iapply (some_of_owns c (ms10 t) (fun d => d)); iexact H10
  isplitl [H11]; · iexact H11
  iexact H12

theorem close_post (c : Dev nD) (t : Fin cfg0.N) :
    iprop((dats m hl 0 c).Φ t.succ ∗ (dats m hl 0 c).owesAt () t.succ ∗ insAt m c t
      ∗ Reads c (ms8 t) (denseAt m c t.val t.isLt) ∗ Some' (F := F) c (ms9 t) ∗ Some' (F := F) c (ms10 t)
      ∗ (dats m hl 0 c).leavesExact 11 t ∗ (dats m hl 0 c).leavesExact 12 t) ⊢ bodyPost m hl c t := by
  unfold bodyPost insAt ins
  rw [after0, after1, after2, after3, after4, after5, after6, after7, after8]
  iintro ⟨HΦ, HO, ⟨H0, H1, H2, H3, H4, H5, H6, H7⟩, H8, H9, H10, H11, H12⟩
  isplitl [HΦ]; · iexact HΦ
  isplitl [HO]; · iexact HO
  isplitl [H0]; · iapply (owns_of_reads c (ms0 t) (iblk m c 0 t)); iexact H0
  isplitl [H1]; · iapply (owns_of_reads c (ms1 t) (iblk m c 1 t)); iexact H1
  isplitl [H2]; · iapply (owns_of_reads c (ms2 t) (iblk m c 2 t)); iexact H2
  isplitl [H3]; · iapply (owns_of_reads c (ms3 t) (iblk m c 3 t)); iexact H3
  isplitl [H4]; · iapply (owns_of_reads c (ms4 t) (iblk m c 4 t)); iexact H4
  isplitl [H5]; · iapply (owns_of_reads c (ms5 t) (iblk m c 5 t)); iexact H5
  isplitl [H6]; · iapply (owns_of_reads c (ms6 t) (iblk m c 6 t)); iexact H6
  isplitl [H7]; · iapply (owns_of_reads c (ms7 t) (iblk m c 7 t)); iexact H7
  isplitl [H8]; · iapply (owns_of_reads c (ms8 t) (denseAt m c t.val t.isLt)); iexact H8
  isplitl [H9]; · iapply (owns_of_some c (ms9 t)); iexact H9
  isplitl [H10]; · iapply (owns_of_some c (ms10 t)); iexact H10
  isplitl [H11]; · iexact H11
  iexact H12

theorem phi_ends (c : Dev nD) (n : ℕ) (h : n = 0 ∨ n = 62) : phi m hl c n = Pipeline.ΦD osem0 spec0 H0 (V m) c := if_pos h
theorem phi_between (c : Dev nD) (n : ℕ) (h : ¬ (n = 0 ∨ n = 62)) : phi m hl c n = between m hl c (min (29 * n) 1764) := if_neg h

theorem leaves_live (c : Dev nD) (w : Fin cfg0.W) (t : Fin cfg0.N) (hi : cfg0.idle w (cfg0.grid.coords t) = false) :
    (dats m hl 0 c).leavesExact w t = owns (c : Thread nD τ) ((cfg0.win w).stage (cfg0.slots t w)) fullShare ((dats m hl 0 c).after w t) := by
  unfold Dat.leavesExact; rw [hi]
theorem leaves_last (c : Dev nD) (w : Fin cfg0.W) (t : Fin cfg0.N) (hi : cfg0.idle w (cfg0.grid.coords t) = true) (hf : (cfg0.win w).flush t = true) :
    (dats m hl 0 c).leavesExact w t = owns (c : Thread nD τ) ((cfg0.win w).stage (cfg0.slots t w)) fullShare ((dats m hl 0 c).after w t) := by
  unfold Dat.leavesExact; rw [hi, hf]

theorem hlw0 (c : Dev nD) (t : Fin cfg0.N) (p : Fin 1764) : lwOf m c p = (iblk m c 0 t : Vec F S1764 .i32) (ix1 p) := by
  rw [iblk0_const m c t]; rfl

set_option maxHeartbeats 1000000 in
theorem sound_first (c : Dev nD) (t : Fin cfg0.N) (ht : t.val = 0) :
    bodyPre m hl c t ⊢ wp frame (wpE (defs₀ (F := F)) Variants.none c none) Set.univ (bodyAt0 t) (fun _ => bodyPost m hl c t) := by
  have h1 : k0_cond1 (grid0.coords t) = 1#1 := (first_iff t).mpr ht
  have h3 : ¬ k0_cond3 (grid0.coords t) = 1#1 := fun e => by have := (last_iff t).mp e; omega
  have hn : min (29 * (grid0.coords t 0).val + 29) 1764 = min (29 * t.succ.val) 1764 := by
    rw [coords0, Fin.val_succ]; omega
  refine (open_pre m hl c t).trans ?_
  refine BIBase.Entails.trans ?_ (wp_mono Idealize.ShloMosaic.frame _ _ fun _ => close_post m hl c t)
  rw [show (dats m hl 0 c).owesAt () t.succ = (dats m hl 0 c).owesAt () t.castSucc from rfl,
    show (dats m hl 0 c).Φ t.castSucc = phi m hl c t.val from rfl, show (dats m hl 0 c).Φ t.succ = phi m hl c t.succ.val from rfl,
    phi_ends m hl c t.val (.inl ht), phi_between m hl c t.succ.val (by rw [Fin.val_succ]; omega), PhiD0_eq,
    leaves_live m hl c 11 t (by rw [idle11, h1]; rfl), leaves_live m hl c 12 t (by rw [idle12, h1]; rfl), after11, after12]
  iintro ⟨⟨⟨S0, S1, S2, S3, S4, S5, S6, S7, S8, S9, S10⟩, Hg, Hs, Hw⟩, HO, HI, H8, H9, H10, H11, H12⟩
  ihave Hw := (w_split c wordsM (lwOf m c) (hl c) (V m c main_v4)) $$ Hw
  icases Hw with ⟨Hw, Hr⟩
  iapply (wp_wand_r Idealize.ShloMosaic.frame (wpE (defs₀ (F := F)) Variants.none (c : Thread nD τ) none) Set.univ)
  isplitl [S0 S1 S2 S3 S4 S5 S6 S7 S8 S9 S10 Hs Hw HI H8 H11 H12]
  · iapply (point_first c (grid0.coords t) (ms0 t) (hstage0_0 ((cfg0.slots t 0).cast nbuf0_0)) (ms1 t) (hstage0_1 ((cfg0.slots t 1).cast nbuf0_1))
      (ms2 t) (hstage0_2 ((cfg0.slots t 2).cast nbuf0_2)) (ms3 t) (hstage0_3 ((cfg0.slots t 3).cast nbuf0_3)) (ms4 t) (hstage0_4 ((cfg0.slots t 4).cast nbuf0_4))
      (ms5 t) (hstage0_5 ((cfg0.slots t 5).cast nbuf0_5)) (ms6 t) (hstage0_6 ((cfg0.slots t 6).cast nbuf0_6)) (ms7 t) (hstage0_7 ((cfg0.slots t 7).cast nbuf0_7))
      wordsM (Memref.isWhole_whole _) (ms8 t) (hstage0_8 ((cfg0.slots t 8).cast nbuf0_8)) (ms9 t) (hstage0_9 ((cfg0.slots t 9).cast nbuf0_9))
      (ms10 t) (hstage0_10 ((cfg0.slots t 10).cast nbuf0_10)) (ms11 t) (hstage0_11 ((cfg0.slots t 11).cast nbuf0_11)) (ms12 t) (hstage0_12 ((cfg0.slots t 12).cast nbuf0_12))
      sc0 (Memref.isWhole_whole _) sc1 (Memref.isWhole_whole _) sc2 (Memref.isWhole_whole _) sc3 (Memref.isWhole_whole _) sc4 (Memref.isWhole_whole _)
      sc5 (Memref.isWhole_whole _) sc6 (Memref.isWhole_whole _) sc7 (Memref.isWhole_whole _) sc8 (Memref.isWhole_whole _) sc9 (Memref.isWhole_whole _)
      sc10 (Memref.isWhole_whole _) cc0_scratch11 (lwOf m c) (hl c) (V m c main_v4)
      (iblk m c 0 t) (iblk m c 1 t) (iblk m c 2 t) (iblk m c 3 t) (iblk m c 4 t) (iblk m c 5 t) (iblk m c 6 t) (iblk m c 7 t)
      (hlw0 m c t) _ hn h1 h3)
    isplitl [S0 S1 S2 S3 S4 S5 S6 S7 S8 S9 S10 Hs Hw]
    · isplitl [Hs]; · iexact Hs
      isplitl [S7]; · iexact S7
      isplitl [Hw]; · iexact Hw
      isplitl [S8]; · iexact S8
      isplitl [S9]; · iexact S9
      isplitl [S10]; · iexact S10
      isplitl [S0]; · iexact S0
      unfold planesAny Some'
      isplitl [S1]; · iexact S1
      isplitl [S2]; · iexact S2
      isplitl [S3]; · iexact S3
      isplitl [S4]; · iexact S4
      isplitl [S5]; · iexact S5
      iexact S6
    isplitl [HI]; · unfold insAt; iexact HI
    isplitl [H8]; · iapply (some_of_owns c (ms8 t) ((dats m hl 0 c).before 8 t)); iexact H8
    isplitl [H11]; · iapply (some_of_owns c (ms11 t) ((dats m hl 0 c).before 11 t)); iexact H11
    iapply (some_of_owns c (ms12 t) ((dats m hl 0 c).before 12 t)); iexact H12
  iintro %r ⟨⟨HC, HP, H15, HPl⟩, HI, H8, H11, H12⟩
  isplitl [HC HP H15 HPl Hr Hg]
  · unfold between
    isplitr [Hr Hg]
    · isplitl [HC]; · iexact HC
      isplitl [HP]; · iexact HP
      isplitl [H15]; · iexact H15
      iexact HPl
    isplitl [Hr]; · iexact Hr
    iexact Hg
  isplitl [HO]; · iexact HO
  isplitl [HI]; · unfold insAt; iexact HI
  isplitl [H8]
  · obtain ⟨n, hn'⟩ := t
    obtain rfl : n = 0 := ht
    rw [coords0]
    iexact H8
  isplitl [H9]; · iexact H9
  isplitl [H10]; · iexact H10
  isplitl [H11]; · iapply (owns_of_reads c (ms11 t) (codesV (xOf m c))); iexact H11
  iapply (owns_of_reads c (ms12 t) (scalesV (xOf m c))); iexact H12

set_option maxHeartbeats 1000000 in
theorem sound_mid (c : Dev nD) (n : ℕ) (hn' : n + 1 < cfg0.N) (ht : n + 1 < 61) :
    bodyPre m hl c ⟨n + 1, hn'⟩ ⊢ wp frame (wpE (defs₀ (F := F)) Variants.none c none) Set.univ (bodyAt0 ⟨n + 1, hn'⟩) (fun _ => bodyPost m hl c ⟨n + 1, hn'⟩) := by
  obtain ⟨t, rfl⟩ : ∃ t : Fin cfg0.N, t = ⟨n + 1, hn'⟩ := ⟨_, rfl⟩
  have htv : (⟨n + 1, hn'⟩ : Fin cfg0.N).val = n + 1 := rfl
  generalize htd : (⟨n + 1, hn'⟩ : Fin cfg0.N) = t at htv
  have h1 : ¬ k0_cond1 (grid0.coords t) = 1#1 := fun e => by have := (first_iff t).mp e; omega
  have h3 : ¬ k0_cond3 (grid0.coords t) = 1#1 := fun e => by have := (last_iff t).mp e; omega
  have hk : min (29 * (grid0.coords t 0).val + 0) 1764 = min (29 * t.val) 1764 := by rw [coords0]; rfl
  have hn : min (29 * (grid0.coords t 0).val + 29) 1764 = min (29 * t.succ.val) 1764 := by
    rw [coords0, Fin.val_succ]; omega
  have hi : (!(k0_cond1 (grid0.coords t) == 1#1)) = true := by rw [beq_eq_false_iff_ne.mpr h1]; rfl
  refine (open_pre m hl c t).trans ?_
  refine BIBase.Entails.trans ?_ (wp_mono Idealize.ShloMosaic.frame _ _ fun _ => close_post m hl c t)
  rw [show (dats m hl 0 c).owesAt () t.succ = (dats m hl 0 c).owesAt () t.castSucc from rfl,
    show (dats m hl 0 c).Φ t.castSucc = phi m hl c t.val from rfl, show (dats m hl 0 c).Φ t.succ = phi m hl c t.succ.val from rfl,
    phi_between m hl c t.val (by omega), phi_between m hl c t.succ.val (by rw [Fin.val_succ]; omega),
    (dats m hl 0 c).leavesExact_idle 11 t ((idle11 t).trans hi) (by rw [Bool.eq_false_iff]; intro e; have := (flush0_11 t).mp e; omega),
    (dats m hl 0 c).leavesExact_idle 12 t ((idle12 t).trans hi) (by rw [Bool.eq_false_iff]; intro e; have := (flush0_12 t).mp e; omega)]
  unfold between
  iintro ⟨⟨⟨HC, HP, H15, HPl⟩, Hr, Hg⟩, HO, HI, H8, H9, H10, H11, H12⟩
  iapply (wp_wand_r Idealize.ShloMosaic.frame (wpE (defs₀ (F := F)) Variants.none (c : Thread nD τ) none) Set.univ)
  isplitl [HC H15 HPl HI H8]
  · iapply (point_mid c (grid0.coords t) (ms0 t) (hstage0_0 ((cfg0.slots t 0).cast nbuf0_0)) (ms1 t) (hstage0_1 ((cfg0.slots t 1).cast nbuf0_1))
      (ms2 t) (hstage0_2 ((cfg0.slots t 2).cast nbuf0_2)) (ms3 t) (hstage0_3 ((cfg0.slots t 3).cast nbuf0_3)) (ms4 t) (hstage0_4 ((cfg0.slots t 4).cast nbuf0_4))
      (ms5 t) (hstage0_5 ((cfg0.slots t 5).cast nbuf0_5)) (ms6 t) (hstage0_6 ((cfg0.slots t 6).cast nbuf0_6)) (ms7 t) (hstage0_7 ((cfg0.slots t 7).cast nbuf0_7))
      wordsM (Memref.isWhole_whole _) (ms8 t) (hstage0_8 ((cfg0.slots t 8).cast nbuf0_8)) (ms9 t) (hstage0_9 ((cfg0.slots t 9).cast nbuf0_9))
      (ms10 t) (hstage0_10 ((cfg0.slots t 10).cast nbuf0_10)) (ms11 t) (hstage0_11 ((cfg0.slots t 11).cast nbuf0_11)) (ms12 t) (hstage0_12 ((cfg0.slots t 12).cast nbuf0_12))
      sc0 (Memref.isWhole_whole _) sc1 (Memref.isWhole_whole _) sc2 (Memref.isWhole_whole _) sc3 (Memref.isWhole_whole _) sc4 (Memref.isWhole_whole _)
      sc5 (Memref.isWhole_whole _) sc6 (Memref.isWhole_whole _) sc7 (Memref.isWhole_whole _) sc8 (Memref.isWhole_whole _) sc9 (Memref.isWhole_whole _)
      sc10 (Memref.isWhole_whole _) cc0_scratch11 (lwOf m c) (hl c) (V m c main_v4)
      (iblk m c 0 t) (iblk m c 1 t) (iblk m c 2 t) (iblk m c 3 t) (iblk m c 4 t) (iblk m c 5 t) (iblk m c 6 t) (iblk m c 7 t)
      (hlw0 m c t) (xqV (xOf m c)) (denseAt m c n (Nat.lt_of_succ_lt hn')) _ _ hk hn h1 h3)
    isplitl [HC H15 HPl]
    · isplitl [HC]; · iexact HC
      isplitl [H15]; · iexact H15
      iexact HPl
    isplitl [HI]; · unfold insAt; iexact HI
    subst htd
    iapply (reads_of_before c (ms8 ⟨n + 1, hn'⟩) _ _ (before8 m hl c n hn')); iexact H8
  iintro %r ⟨⟨HC, H15, HPl⟩, HI, H8⟩
  isplitl [HC HP H15 HPl Hr Hg]
  · isplitr [Hr Hg]
    · isplitl [HC]; · iexact HC
      isplitl [HP]; · iexact HP
      isplitl [H15]; · iexact H15
      iexact HPl
    isplitl [Hr]; · iexact Hr
    iexact Hg
  isplitl [HO]; · iexact HO
  isplitl [HI]; · unfold insAt; iexact HI
  isplitl [H8]
  · rw [coords0]
    subst htd
    iexact H8
  isplitl [H9]; · iexact H9
  isplitl [H10]; · iexact H10
  isplitl [H11]; · iexact H11
  iexact H12

theorem amount_pos : 0 < NN sc7 cc0_scratch11 := by decide

set_option maxHeartbeats 1000000 in
theorem sound_last (c : Dev nD) (hn' : 60 + 1 < cfg0.N) :
    bodyPre m hl c ⟨60 + 1, hn'⟩ ⊢ wp frame (wpE (defs₀ (F := F)) Variants.none c none) Set.univ (bodyAt0 ⟨60 + 1, hn'⟩) (fun _ => bodyPost m hl c ⟨60 + 1, hn'⟩) := by
  have htv : (⟨60 + 1, hn'⟩ : Fin cfg0.N).val = 61 := rfl
  generalize htd : (⟨60 + 1, hn'⟩ : Fin cfg0.N) = t at htv
  have h1 : ¬ k0_cond1 (grid0.coords t) = 1#1 := fun e => by have := (first_iff t).mp e; omega
  have h3 : k0_cond3 (grid0.coords t) = 1#1 := (last_iff t).mpr htv
  have hk : min (29 * (grid0.coords t 0).val + 0) 1764 = min (29 * t.val) 1764 := by rw [coords0]; rfl
  have hn : min (29 * (grid0.coords t 0).val + 29) 1764 = 1764 := by
    rw [coords0, htv]; decide
  have hi : (!(k0_cond1 (grid0.coords t) == 1#1)) = true := by rw [beq_eq_false_iff_ne.mpr h1]; rfl
  refine (open_pre m hl c t).trans ?_
  refine BIBase.Entails.trans ?_ (wp_mono Idealize.ShloMosaic.frame _ _ fun _ => close_post m hl c t)
  rw [show (dats m hl 0 c).owesAt () t.succ = (dats m hl 0 c).owesAt () t.castSucc from rfl,
    show (dats m hl 0 c).Φ t.castSucc = phi m hl c t.val from rfl, show (dats m hl 0 c).Φ t.succ = phi m hl c t.succ.val from rfl,
    phi_between m hl c t.val (by omega), phi_ends m hl c t.succ.val (by rw [Fin.val_succ]; omega), PhiD0_eq,
    leaves_last m hl c 11 t ((idle11 t).trans hi) ((flush0_11 t).mpr (by omega)),
    leaves_last m hl c 12 t ((idle12 t).trans hi) ((flush0_12 t).mpr (by omega)), after11, after12]
  unfold between Dat.owesAt Pipeline.owesWithin
  rw [show (dats m hl 0 c).owed t.castSucc = 0 from rfl]
  iintro ⟨⟨⟨HC, HP, H15, HPl⟩, Hr, Hg⟩, ⟨%W, -, HO⟩, HI, H8, H9, H10, H11, H12⟩
  iapply (wp_wand_r Idealize.ShloMosaic.frame (wpE (defs₀ (F := F)) Variants.none (c : Thread nD τ) none) Set.univ)
  isplitl [HC HP H15 HPl HI H8 H9 H10 HO]
  · iapply (point_last c (grid0.coords t) (ms0 t) (hstage0_0 ((cfg0.slots t 0).cast nbuf0_0)) (ms1 t) (hstage0_1 ((cfg0.slots t 1).cast nbuf0_1))
      (ms2 t) (hstage0_2 ((cfg0.slots t 2).cast nbuf0_2)) (ms3 t) (hstage0_3 ((cfg0.slots t 3).cast nbuf0_3)) (ms4 t) (hstage0_4 ((cfg0.slots t 4).cast nbuf0_4))
      (ms5 t) (hstage0_5 ((cfg0.slots t 5).cast nbuf0_5)) (ms6 t) (hstage0_6 ((cfg0.slots t 6).cast nbuf0_6)) (ms7 t) (hstage0_7 ((cfg0.slots t 7).cast nbuf0_7))
      wordsM (Memref.isWhole_whole _) (ms8 t) (hstage0_8 ((cfg0.slots t 8).cast nbuf0_8)) (ms9 t) (hstage0_9 ((cfg0.slots t 9).cast nbuf0_9))
      (ms10 t) (hstage0_10 ((cfg0.slots t 10).cast nbuf0_10)) (ms11 t) (hstage0_11 ((cfg0.slots t 11).cast nbuf0_11)) (ms12 t) (hstage0_12 ((cfg0.slots t 12).cast nbuf0_12))
      sc0 (Memref.isWhole_whole _) sc1 (Memref.isWhole_whole _) sc2 (Memref.isWhole_whole _) sc3 (Memref.isWhole_whole _) sc4 (Memref.isWhole_whole _)
      sc5 (Memref.isWhole_whole _) sc6 (Memref.isWhole_whole _) sc7 (Memref.isWhole_whole _) sc8 (Memref.isWhole_whole _) sc9 (Memref.isWhole_whole _)
      sc10 (Memref.isWhole_whole _) cc0_scratch11 (lwOf m c) (hl c) (V m c main_v4) amount_pos (fun _ => Classical.arbitrary _)
      (iblk m c 0 t) (iblk m c 1 t) (iblk m c 2 t) (iblk m c 3 t) (iblk m c 4 t) (iblk m c 5 t) (iblk m c 6 t) (iblk m c 7 t)
      (hlw0 m c t) (xqV (xOf m c)) (denseAt m c 60 (Nat.lt_of_succ_lt hn')) _ hk hn h1 h3)
    isplitl [HC HP H15 HPl]
    · isplitl [HC]; · iexact HC
      isplitl [HP]; · iexact HP
      isplitl [H15]; · iexact H15
      iexact HPl
    isplitl [HI]; · unfold insAt; iexact HI
    isplitl [H8]
    · subst htd
      iapply (reads_of_before c (ms8 ⟨60 + 1, hn'⟩) _ _ (before8 m hl c 60 hn')); iexact H8
    isplitl [H9]; · iexact H9
    isplitl [H10]; · iexact H10
    iexists W; iexact HO
  iintro %r ⟨⟨Hs, S7, Hw, S8, S9, S10, H15, HPl⟩, HI, H8, H9, H10, ⟨%W', HO⟩⟩
  unfold planesAny Some'
  icases HPl with ⟨S1, S2, S3, S4, S5, S6⟩
  isplitl [S1 S2 S3 S4 S5 S6 S7 S8 S9 S10 H15 Hs Hw Hr Hg]
  · isplitl [S1 S2 S3 S4 S5 S6 S7 S8 S9 S10 H15]
    · isplitl [H15]
      · ihave H15 := (some_of_reads c sc0 (xqV (xOf m c))) $$ H15
        unfold Some'
        iexact H15
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    isplitl [Hg]; · iexact Hg
    isplitl [Hs]; · iexact Hs
    iapply (w_join c wordsM (lwOf m c) (hl c) (V m c main_v4))
    isplitl [Hw]; · iexact Hw
    iexact Hr
  isplitl [HO]
  · iexists W'; isplitr; · ipureintro; exact fun _ _ => Or.inl trivial
    iexact HO
  isplitl [HI]; · unfold insAt; iexact HI
  isplitl [H8]
  · rw [coords0]
    subst htd
    iexact H8
  isplitl [H9]; · iexact H9
  isplitl [H10]; · iexact H10
  subst htd
  isplitl [H11]
  · iapply (owns_of_reads c (ms11 ⟨60 + 1, hn'⟩) (codesV (xOf m c)))
    iapply (reads_of_before c (ms11 ⟨60 + 1, hn'⟩) _ _ (fun d => before_written m hl c 11 rfl idle11 flush0_11 (fun _ _ => rfl) _ (after11 m hl c) d 60 hn')); iexact H11
  iapply (owns_of_reads c (ms12 ⟨60 + 1, hn'⟩) (scalesV (xOf m c)))
  iapply (reads_of_before c (ms12 ⟨60 + 1, hn'⟩) _ _ (fun d => before_written m hl c 12 rfl idle12 flush0_12 (fun _ _ => rfl) _ (after12 m hl c) d 60 hn')); iexact H12

/-- The body at every point. -/
theorem sound_body (c : Dev nD) (t : Fin cfg0.N) :
    bodyPre m hl c t ⊢ wp frame (wpE (defs₀ (F := F)) Variants.none c none) Set.univ (bodyAt0 t) (fun _ => bodyPost m hl c t) := by
  have h62 := lt62 t
  obtain ⟨n, hn⟩ := t
  cases n with
  | zero => exact sound_first m hl c _ rfl
  | succ n =>
    by_cases h : n + 1 < 61
    · exact sound_mid m hl c n hn h
    · obtain rfl : n = 60 := by dsimp only at h62; omega
      exact sound_last m hl c hn

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m hl 0 c) (defs₀ (F := F)) Variants.none () Set.univ fgt := fun t => by
  rw [bigSep_W0, bigSep_W0, defs₀_row]
  exact triple_restated (sound_body m hl c t) rfl .rfl fun _ => .rfl

/-! ## The run and the frame -/

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main :
    θ_run defs (onTc (τ := τ) (main (F := F))) (s₀ m ρ)
      (fun r => Pipeline.RDat.FramePost (cfgs 0) (fun c => (dats m hl 0 c).toRForget fgt) (V m) r ∧ r.2.sem = fun _ => 0) :=
  Pipeline.θ_run_frame_dma_forget_shared (Q' := _) cfgs (dats m hl) (0 : Fin 1) launch₀0 osem0 defs₀ Variants.none fgt ownSemFacts0 H0 H0_sub m ρ main
    (hbody := fun c => (body_obligation m hl c).loose) (hq := fun _ _ _ => rfl)
    (howed := fun _ _ => rfl) (V := V m) (hmain := hmainD m Variants.none) (hA := A_eq m hl)
    (hin := fun c => (Entails.of_eq (phi_ends m hl c 0 (.inl rfl)).symm))
    (hout := fun c => (Entails.of_eq (phi_ends m hl c 62 (.inr rfl))))

/-- The program runs, its arguments end as they were, and every semaphore ends at zero. -/
theorem frame (hl : ∀ c p, LabOk (lwOf m c p)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 2 rfl).trans ((A_eq m hl c 2).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (h.1.arr_in c 0 rfl).trans ((A_eq m hl c 0).trans (V_main_arg5 m c))⟩, h.2⟩) (run_main m ρ hl)

/-- Where every label is in range, each names a row of packed words and a row of scales. -/
theorem labOk_of_lt (w : BitVec 32) (h : w.toNat < 1015808) : LabOk w := by
  have e2 : (Scalar.shrui w 2#32).toNat = w.toNat / 4 := by
    show (w >>> 2).toNat = _
    rw [BitVec.toNat_ushiftRight, Nat.shiftRight_eq_div_pow]
  have e7 : (Scalar.indexCast (Scalar.shrui w 7#32)).toNat = w.toNat / 128 := by
    show (w >>> 7).toNat = _
    rw [BitVec.toNat_ushiftRight, Nat.shiftRight_eq_div_pow]
  constructor
  · intro a
    unfold k0_off3
    dsimp only
    rw [e2]
    fin_cases a
    · show w.toNat / 4 + 1 ≤ 253952; omega
    · show 0 + 384 ≤ 384; omega
  · intro a
    unfold k0_off4
    dsimp only
    rw [e7]
    fin_cases a
    · show w.toNat / 128 + 1 ≤ 7936; omega
    · show 0 + 128 ≤ 128; omega

/-- The labels a point reads are the argument's. -/
theorem lwOf_mem (c : Dev nD) (p : Fin 1764) : ∃ q, lwOf m c p = (m ((c.tc : Thread nD τ).loc main_arg5) : Vec F S1764 .i32) q := by
  have e := V_main_arg5 m c
  refine ⟨_, (show lwOf m c p = (V m c main_arg5 : Vec F S1764 .i32) _ from rfl).trans (congrFun e _)⟩

attribute [local instance] Cert.Labels.facts

/-- Where the precondition holds, every label the body reads is in range. -/
theorem labOk_of_pre
    (h : ∀ c : Dev nD, Cert.Pre_labels_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) (c : Dev nD) (p : Fin 1764) : LabOk (lwOf m c p) := by
  obtain ⟨q, e⟩ := lwOf_mem m c p
  rw [e]
  exact labOk_of_lt _ (Cert.Labels.label_lt _ _ _ _ _ _ (h c) q)

end Cert.Kernel.Hand

end
-- ==== Proof.KernelIdeal.Steps.lean ====
module

public import proofs.«01_k».proof.Proof.Gen.KernelIdeal.Skeleton
public import Idealize.ShloMosaic.Lib.ValueIdx
public import Idealize.ShloMosaic.Lib.VecWindow
public import Idealize.ShloMosaic.Lib.Pipeline.Value

/-!
  What one slab of 512 labels does to the two running planes of a grid point: the sum `r` of the
  positive parts and the product `q`, kept as `Π (1 + e) − 1`. Label `512 k + 128 s + j` of the
  chunk sits at column `128 s + j` of the slab's products and its scale and bias at `(4 k + s, j)`.
-/

@[expose] public section

set_option maxRecDepth 16384

noncomputable section

namespace Cert.KernelIdeal.Hand

open Cert.KernelIdeal Cert.KernelIdeal.Gen
open Idealize.ShloMosaic Idealize.ShloMosaic.TcCoe
open Idealize.ShloMosaic.ValueIdx

variable {F : FTy → Type} [FloatOps F] [Named F]

/-- The float zero, as the kernel's text writes it. -/
def zero32 : F .f32 := Scalar.ofBits .f32 0x00000000#32

/-- Slab `k` of a chunk's codes: its labels `512 k …`. -/
def slab (w : Vec F S16384x384 .i8) (k : Fin 32) : Vec F S512x384 .i8 :=
  fun x => w (ix2 ⟨512 * k.val + (x 0).val, by have : (x 0).val < 512 := (x 0).isLt; have := k.isLt; omega⟩ (x 1))

/-- One label's logit, in the scale the two planes use. -/
def zAt (acc : Vec F S128x512 .f32) (W B : Vec F S128x128 .f32) (k : Fin 32) (s : Fin 4) (y : S128x128.Idx) : F .f32 :=
  FloatOps.addf
    (FloatOps.mulf (acc (ix2 (y 0) ⟨128 * s.val + (y 1).val, by have : (y 1).val < 128 := (y 1).isLt; have := s.isLt; omega⟩))
      (W (ix2 ⟨4 * k.val + s.val, by have := k.isLt; have := s.isLt; omega⟩ (y 1))))
    (B (ix2 ⟨4 * k.val + s.val, by have := k.isLt; have := s.isLt; omega⟩ (y 1)))

/-- `exp2 (0 − |z|)`. -/
def eOf (z : F .f32) : F .f32 := FloatOps.exp2 (FloatOps.subf zero32 (FloatOps.absf z))

/-- One label added to the positive parts. -/
def rOne (r z : F .f32) : F .f32 := FloatOps.addf r (FloatOps.maximumf z zero32)

/-- One label taken into the product. -/
def qOne (q z : F .f32) : F .f32 := FloatOps.addf (FloatOps.mulf q (eOf z)) (FloatOps.addf q (eOf z))

/-- A slab's four labels of lane `y`, added to the positive parts. -/
def rStep (acc : Vec F S128x512 .f32) (W B : Vec F S128x128 .f32) (k : Fin 32) (r : Vec F S128x128 .f32) : Vec F S128x128 .f32 :=
  fun y => rOne (rOne (rOne (rOne (r y) (zAt acc W B k 0 y)) (zAt acc W B k 1 y)) (zAt acc W B k 2 y)) (zAt acc W B k 3 y)

/-- A slab's four labels of lane `y`, taken into the product. -/
def qStep (acc : Vec F S128x512 .f32) (W B : Vec F S128x128 .f32) (k : Fin 32) (q : Vec F S128x128 .f32) : Vec F S128x128 .f32 :=
  fun y => qOne (qOne (qOne (qOne (q y) (zAt acc W B k 0 y)) (zAt acc W B k 1 y)) (zAt acc W B k 2 y)) (zAt acc W B k 3 y)

theorem off6_eq : ∀ k : Fin k0_t2_loop.trips, k0_off6 k = ![512 * k.val, 0] := by decide +kernel
theorem off7_eq : ∀ (k : Fin k0_t2_loop.trips) (s : Fin 4), k0_off7 k (BitVec.ofNat 32 s.val) = ![4 * k.val + s.val, 0] := by decide +kernel
theorem off8_eq : ∀ k : Fin k0_t3_loop.trips, k0_off8 k = ![512 * (16 + k.val), 0] := by decide +kernel
theorem off9_eq : ∀ (k : Fin k0_t3_loop.trips) (s : Fin 4), k0_off9 k (BitVec.ofNat 32 s.val) = ![4 * (16 + k.val) + s.val, 0] := by decide +kernel

/-- The slab a trip loads, at the place the kernel computes. -/
theorem slab_at (M3 : Memref sig .tc .vmem S16384x384 .i8) (f3 : BufTy.Contents (Elt F) M3.view.ty) (kk : Fin 32)
    (off : Fin 2 → ℕ) (hoff : off = ![512 * kk.val, 0]) (h : ∀ a, off a + S512x384.size a ≤ S16384x384.size a) :
    M3.view.readAt (Elt F) (Rect.unit (s := S16384x384) off S512x384.size h).toLoadRect f3 = slab (M3.view.read (Elt F) f3) kk := by
  subst hoff
  funext x
  refine congrArg (M3.view.read (Elt F) f3) (funext fun a => Fin.ext ?_)
  fin_cases a
  · show 512 * kk.val + 1 * (x 0).val = 512 * kk.val + (x 0).val
    omega
  · show 0 + 1 * (x 1).val = (x 1).val
    omega

/-- The two planes after the first `n` of a chunk's slabs taken from slab `a` on, from `(r, q)`. -/
def planes (x : Vec F S128x384 .bf16) (w : Vec F S16384x384 .i8) (W B : Vec F S128x128 .f32) (a : ℕ) :
    ℕ → Vec F S128x128 .f32 × Vec F S128x128 .f32 → Vec F S128x128 .f32 × Vec F S128x128 .f32
  | 0, p => p
  | n + 1, p =>
    if h : a + n < 32 then
      (rStep (k0_pay19 x (slab w ⟨a + n, h⟩)) W B ⟨a + n, h⟩ (planes x w W B a n p).1,
        qStep (k0_pay19 x (slab w ⟨a + n, h⟩)) W B ⟨a + n, h⟩ (planes x w W B a n p).2)
    else planes x w W B a n p

theorem planes_succ (x : Vec F S128x384 .bf16) (w : Vec F S16384x384 .i8) (W B : Vec F S128x128 .f32) (a n : ℕ) (h : a + n < 32)
    (p : Vec F S128x128 .f32 × Vec F S128x128 .f32) :
    planes x w W B a (n + 1) p =
      (rStep (k0_pay19 x (slab w ⟨a + n, h⟩)) W B ⟨a + n, h⟩ (planes x w W B a n p).1,
        qStep (k0_pay19 x (slab w ⟨a + n, h⟩)) W B ⟨a + n, h⟩ (planes x w W B a n p).2) := by
  rw [planes, dif_pos h]

/-- Eight rows of one label column: product, scale, bias. -/
def z8 (w b : Vec F S1x128 .f32) (z : Vec F S8x128 .f32) : Vec F S8x128 .f32 :=
  addf (mulf z (broadcastTo S8x128 w broadcasts_S1x128_S8x128)) (broadcastTo S8x128 b broadcasts_S1x128_S8x128)

/-- Eight rows of `rOne`, as vector operations. -/
def r8 (r : Vec F S8x128 .f32) (zz : Vec F S8x128 .f32) : Vec F S8x128 .f32 :=
  addf r (maximumf zz (broadcast S8x128 (Scalar.ofBits .f32 0x00000000#32)))

/-- Eight rows of `qOne`, as vector operations. -/
def q8 (q : Vec F S8x128 .f32) (zz : Vec F S8x128 .f32) : Vec F S8x128 .f32 :=
  addf (mulf q (exp2 (subf (broadcast S8x128 (Scalar.ofBits .f32 0x00000000#32)) (absf zz))))
    (addf q (exp2 (subf (broadcast S8x128 (Scalar.ofBits .f32 0x00000000#32)) (absf zz))))

/-- A row spread over eight, read at an index. -/
theorem row8 (w : Vec F S1x128 .f32) (x : S8x128.Idx) :
    broadcastTo S8x128 w broadcasts_S1x128_S8x128 x = w (ix2 0 (x 1)) :=
  broadcastTo_apply w _ x _ (fun a => by
    fin_cases a
    · rfl
    · rfl)

section
variable (M16 : Memref sig .tc .vmem S128x512 .f32) (M17 M20 M21 : Memref sig .tc .vmem S128x128 .f32)
  (f17 : BufTy.Contents (Elt F) M17.view.ty) (f20 : BufTy.Contents (Elt F) M20.view.ty) (f21 : BufTy.Contents (Elt F) M21.view.ty)
  (acc : Vec F S128x512 .f32) (kk : Fin 32) (h16 : ∀ a, (![0, 0] : Fin 2 → ℕ) a + S128x512.size a ≤ S128x512.size a)
  (o : ℕ) (ho : ∀ a, (![o, 0] : Fin 2 → ℕ) a + (![8, 128] : Fin 2 → ℕ) a ≤ S128x128.size a)

/-- The eight rows of one label column that the kernel loads, read at an index. -/
theorem z8_at (s : Fin 4) (off : Fin 2 → ℕ) (hoff : off = ![4 * kk.val + s.val, 0])
    (ho20 : ∀ a, off a + (![1, 128] : Fin 2 → ℕ) a ≤ S128x128.size a)
    (c : ℕ) (hc : c = 128 * s.val) (hz : ∀ a, (![o, c] : Fin 2 → ℕ) a + S8x128.size a ≤ S128x512.size a)
    (x : S8x128.Idx) :
    z8 (M20.view.readAt (Elt F) (Rect.unit (s := S128x128) off ![1, 128] ho20).toLoadRect f20)
        (M21.view.readAt (Elt F) (Rect.unit (s := S128x128) off ![1, 128] ho20).toLoadRect f21)
        (M16.view.readCov [⟨Rect.unit (s := S128x512) ![0, 0] S128x512.size h16, acc⟩]
          (Rect.unit (s := S128x512) ![o, c] S8x128.size hz).toLoadRect) x
      = zAt acc (M20.view.read (Elt F) f20) (M21.view.read (Elt F) f21) kk s ((Rect.unit (s := S128x128) ![o, 0] ![8, 128] ho).emb x) := by
  subst hoff; subst hc
  unfold z8 zAt
  show FloatOps.addf (FloatOps.mulf _ (broadcastTo S8x128 _ broadcasts_S1x128_S8x128 x)) (broadcastTo S8x128 _ broadcasts_S1x128_S8x128 x) = _
  rw [row8, row8]
  have e1 : ∀ v : Vec F S128x128 .f32, v ((Rect.unit (s := S128x128) ![4 * kk.val + s.val, 0] ![1, 128] ho20).toLoadRect.idx (ix2 0 (x 1)))
      = v (ix2 ⟨4 * kk.val + s.val, by have := kk.isLt; have := s.isLt; omega⟩ (((Rect.unit (s := S128x128) ![o, 0] ![8, 128] ho).emb x) 1)) := fun v => by
    refine congrArg v (funext fun a => Fin.ext ?_)
    fin_cases a
    · show 4 * kk.val + s.val + 1 * 0 = 4 * kk.val + s.val
      omega
    · rfl
  have e2 : M16.view.readCov [⟨Rect.unit (s := S128x512) ![0, 0] S128x512.size h16, acc⟩]
        (Rect.unit (s := S128x512) ![o, 128 * s.val] S8x128.size hz).toLoadRect x
      = acc (ix2 (((Rect.unit (s := S128x128) ![o, 0] ![8, 128] ho).emb x) 0)
          ⟨128 * s.val + (((Rect.unit (s := S128x128) ![o, 0] ![8, 128] ho).emb x) 1).val, by
            have : (((Rect.unit (s := S128x128) ![o, 0] ![8, 128] ho).emb x) 1).val < 128 := Fin.isLt _
            have := s.isLt; omega⟩) := by
    show M16.view.read (Elt F) (M16.view.writes (Elt F) M16.view.junk [⟨Rect.unit (s := S128x512) ![0, 0] S128x512.size h16, acc⟩]) _ = _
    rw [View.read_writes_full]
    refine congrArg acc (funext fun a => Fin.ext ?_)
    fin_cases a
    · rfl
    · show 128 * s.val + 1 * (x 1).val = 128 * s.val + (0 + 1 * (x 1).val)
      omega
  rw [e2]
  exact congrArg₂ _ (congrArg₂ _ rfl (e1 (M20.view.read (Elt F) f20))) (e1 (M21.view.read (Elt F) f21))

/-- The same, at the four literal places of a group: rows `o …` of the four label columns. -/
abbrev z8s (off : Fin 4 → Fin 2 → ℕ) (ho20 : ∀ s, ∀ a, off s a + (![1, 128] : Fin 2 → ℕ) a ≤ S128x128.size a)
    (c : ℕ) (s : Fin 4) (hz : ∀ a, (![o, c] : Fin 2 → ℕ) a + S8x128.size a ≤ S128x512.size a) : Vec F S8x128 .f32 :=
  z8 (M20.view.readAt (Elt F) (Rect.unit (s := S128x128) (off s) ![1, 128] (ho20 s)).toLoadRect f20)
    (M21.view.readAt (Elt F) (Rect.unit (s := S128x128) (off s) ![1, 128] (ho20 s)).toLoadRect f21)
    (M16.view.readCov [⟨Rect.unit (s := S128x512) ![0, 0] S128x512.size h16, acc⟩]
      (Rect.unit (s := S128x512) ![o, c] S8x128.size hz).toLoadRect)

variable (off : Fin 4 → Fin 2 → ℕ) (hoff : ∀ s, off s = ![4 * kk.val + s.val, 0])
  (ho20 : ∀ s, ∀ a, off s a + (![1, 128] : Fin 2 → ℕ) a ≤ S128x128.size a)
  (hz0 : ∀ a, (![o, 0] : Fin 2 → ℕ) a + S8x128.size a ≤ S128x512.size a)
  (hz1 : ∀ a, (![o, 128] : Fin 2 → ℕ) a + S8x128.size a ≤ S128x512.size a)
  (hz2 : ∀ a, (![o, 256] : Fin 2 → ℕ) a + S8x128.size a ≤ S128x512.size a)
  (hz3 : ∀ a, (![o, 384] : Fin 2 → ℕ) a + S8x128.size a ≤ S128x512.size a)

include hoff in
/-- A group's positive parts are `rStep`'s rows. -/
theorem r8_at (x : S8x128.Idx) :
    shapeCast S8x128 (r8 (r8 (r8 (r8 (M17.view.readAt (Elt F) (Rect.unit (s := S128x128) ![o, 0] S8x128.size ho).toLoadRect f17)
        (z8s M16 M20 M21 f20 f21 acc h16 o off ho20 0 0 hz0)) (z8s M16 M20 M21 f20 f21 acc h16 o off ho20 128 1 hz1))
        (z8s M16 M20 M21 f20 f21 acc h16 o off ho20 256 2 hz2)) (z8s M16 M20 M21 f20 f21 acc h16 o off ho20 384 3 hz3)) shapeCasts_S8x128_S8x128 x
      = rStep acc (M20.view.read (Elt F) f20) (M21.view.read (Elt F) f21) kk (M17.view.read (Elt F) f17)
          ((Rect.unit (s := S128x128) ![o, 0] ![8, 128] ho).emb x) := by
  rw [shapeCast_self]
  show rOne (rOne (rOne (rOne _ (z8s _ _ _ _ _ _ _ _ _ _ _ _ _ x)) (z8s _ _ _ _ _ _ _ _ _ _ _ _ _ x)) (z8s _ _ _ _ _ _ _ _ _ _ _ _ _ x))
    (z8s _ _ _ _ _ _ _ _ _ _ _ _ _ x) = _
  unfold z8s rStep
  rw [z8_at M16 M20 M21 f20 f21 acc kk h16 o ho 0 _ (hoff 0) _ 0 rfl, z8_at M16 M20 M21 f20 f21 acc kk h16 o ho 1 _ (hoff 1) _ 128 rfl,
    z8_at M16 M20 M21 f20 f21 acc kk h16 o ho 2 _ (hoff 2) _ 256 rfl, z8_at M16 M20 M21 f20 f21 acc kk h16 o ho 3 _ (hoff 3) _ 384 rfl]
  rfl

include hoff in
/-- A group's products are `qStep`'s rows. -/
theorem q8_at (x : S8x128.Idx) :
    shapeCast S8x128 (q8 (q8 (q8 (q8 (M17.view.readAt (Elt F) (Rect.unit (s := S128x128) ![o, 0] S8x128.size ho).toLoadRect f17)
        (z8s M16 M20 M21 f20 f21 acc h16 o off ho20 0 0 hz0)) (z8s M16 M20 M21 f20 f21 acc h16 o off ho20 128 1 hz1))
        (z8s M16 M20 M21 f20 f21 acc h16 o off ho20 256 2 hz2)) (z8s M16 M20 M21 f20 f21 acc h16 o off ho20 384 3 hz3)) shapeCasts_S8x128_S8x128 x
      = qStep acc (M20.view.read (Elt F) f20) (M21.view.read (Elt F) f21) kk (M17.view.read (Elt F) f17)
          ((Rect.unit (s := S128x128) ![o, 0] ![8, 128] ho).emb x) := by
  rw [shapeCast_self]
  show qOne (qOne (qOne (qOne _ (z8s _ _ _ _ _ _ _ _ _ _ _ _ _ x)) (z8s _ _ _ _ _ _ _ _ _ _ _ _ _ x)) (z8s _ _ _ _ _ _ _ _ _ _ _ _ _ x))
    (z8s _ _ _ _ _ _ _ _ _ _ _ _ _ x) = _
  unfold z8s qStep
  rw [z8_at M16 M20 M21 f20 f21 acc kk h16 o ho 0 _ (hoff 0) _ 0 rfl, z8_at M16 M20 M21 f20 f21 acc kk h16 o ho 1 _ (hoff 1) _ 128 rfl,
    z8_at M16 M20 M21 f20 f21 acc kk h16 o ho 2 _ (hoff 2) _ 256 rfl, z8_at M16 M20 M21 f20 f21 acc kk h16 o ho 3 _ (hoff 3) _ 384 rfl]
  rfl

end

end Cert.KernelIdeal.Hand

end
-- ==== Proof.KernelIdeal.Trips.lean ====
module

public import proofs.«01_k».proof.Proof.KernelIdeal.Steps
public import proofs.«01_k».proof.Proof.Gen.KernelIdeal.Loops
public import Idealize.ShloMosaic.Lib.Exec
public import Idealize.ShloMosaic.Lib.Tactic
public import Idealize.ShloMosaic.Lib.Pipeline.FrameBody
public import Idealize.ShloMosaic.Lib.Ring
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- What a memref's elements hold, all of them, at the full share. -/
abbrev At (c : Dev nD) {sp : Space} {S : Shape} {e : EltTy} (M : Memref sig .tc sp S e) (f : BufTy.Contents (Elt F) M.view.ty) : sProp 𝕄 :=
  M.view.loc (c : Thread nD τ) ↦[M.view.set]{fullShare} f

set_option maxHeartbeats 4000000 in
/-- One trip of the first pass over a chunk's slabs: the two planes take the slab's labels. -/
theorem trip2 (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_) (v26 : FVec F S128x128 .f32) (v27 : Vec F S128x128 .f32) (v30 : Vec F S128x384 .bf16)
    (f3 : BufTy.Contents (Elt F) arg3.view.ty) (f20 : BufTy.Contents (Elt F) arg20.view.ty) (f21 : BufTy.Contents (Elt F) arg21.view.ty)
    (f16 : BufTy.Contents (Elt F) arg16.view.ty) (f17 : BufTy.Contents (Elt F) arg17.view.ty) (f18 : BufTy.Contents (Elt F) arg18.view.ty)
    (k : Fin k0_t2_loop.trips) (kk : Fin 32) (hkk : kk.val = k.val) :
    iprop(At c arg3 f3 ∗ At c arg20 f20 ∗ At c arg21 f21 ∗ At c arg16 f16 ∗ At c arg17 f17 ∗ At c arg18 f18)
      ⊢ wp frame (wpE (defs₀ (F := F)) Variants.none (c : Thread nD τ) none) Set.univ
          (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v26 v27 v30 k PUnit.unit)
          (fun _ => iprop(At c arg3 f3 ∗ At c arg20 f20 ∗ At c arg21 f21 ∗ (∃ f, At c arg16 f)
            ∗ (∃ f, At c arg17 f ∗ ⌜arg17.view.read (Elt F) f = rStep (k0_pay19 v30 (slab (arg3.view.read (Elt F) f3) kk))
                (arg20.view.read (Elt F) f20) (arg21.view.read (Elt F) f21) kk (arg17.view.read (Elt F) f17)⌝)
            ∗ (∃ f, At c arg18 f ∗ ⌜arg18.view.read (Elt F) f = qStep (k0_pay19 v30 (slab (arg3.view.read (Elt F) f3) kk))
                (arg20.view.read (Elt F) f20) (arg21.view.read (Elt F) f21) kk (arg18.view.read (Elt F) f18)⌝))) := by
  have hk : k.val < 16 := Nat.lt_of_lt_of_le k.isLt k0_t2_abs.2.1
  have hoff : ∀ s : Fin 4, k0_off7 k (BitVec.ofNat 32 s.val) = ![4 * kk.val + s.val, 0] := fun s => by rw [hkk]; exact off7_eq k s
  have hsl := slab_at arg3 f3 kk (k0_off6 k) (by rw [hkk]; exact off6_eq k) (k0_off6_inb k)
  unfold k0_t2_body
  iintro ⟨H3, H20, H21, H16, H17, H18⟩
  sl_exec
  sl_step
  isplitl [H3]; · iexact H3
  isplitl [H20]; · iexact H20
  isplitl [H21]; · iexact H21
  isplitl [H16]; · iexists _; iexact H16
  isplitl [H17]
  · iexists _; isplitl [H17]; · iexact H17
    ipureintro
    funext y
    refine View.read_writes_apply_of_pieces _ _ (rStep (F := F) _ _ _ kk _) _ ?_ y ?_
    · have R := r8_at arg16 arg17 arg20 arg21 f17 f20 f21 (k0_pay19 v30 (slab (arg3.view.read (Elt F) f3) kk)) kk
        inb_S128x512_S128x512_0_0
      have R := fun o ho => R o ho (fun s => k0_off7 k (BitVec.ofNat 32 s.val)) hoff (fun s => k0_off7_inb k s)
      simp only [List.forall_mem_cons]
      exact ⟨fun x => R 120 _ _ _ _ _ x, fun x => R 112 _ _ _ _ _ x, fun x => R 104 _ _ _ _ _ x, fun x => R 96 _ _ _ _ _ x, fun x => R 88 _ _ _ _ _ x, fun x => R 80 _ _ _ _ _ x, fun x => R 72 _ _ _ _ _ x, fun x => R 64 _ _ _ _ _ x, fun x => R 56 _ _ _ _ _ x, fun x => R 48 _ _ _ _ _ x, fun x => R 40 _ _ _ _ _ x, fun x => R 32 _ _ _ _ _ x, fun x => R 24 _ _ _ _ _ x, fun x => R 16 _ _ _ _ _ x, fun x => R 8 _ _ _ _ _ x, fun x => R 0 _ _ _ _ _ x, fun _ h => absurd h List.not_mem_nil⟩
    · exact View.cover_of_tiledL _ ![8, 128] (by sl_kernel_rfl) y
  · iexists _; isplitl [H18]; · iexact H18
    ipureintro
    funext y
    refine View.read_writes_apply_of_pieces _ _ (qStep (F := F) _ _ _ kk _) _ ?_ y ?_
    · have R := q8_at arg16 arg18 arg20 arg21 f18 f20 f21 (k0_pay19 v30 (slab (arg3.view.read (Elt F) f3) kk)) kk
        inb_S128x512_S128x512_0_0
      have R := fun o ho => R o ho (fun s => k0_off7 k (BitVec.ofNat 32 s.val)) hoff (fun s => k0_off7_inb k s)
      simp only [List.forall_mem_cons]
      exact ⟨fun x => R 120 _ _ _ _ _ x, fun x => R 112 _ _ _ _ _ x, fun x => R 104 _ _ _ _ _ x, fun x => R 96 _ _ _ _ _ x, fun x => R 88 _ _ _ _ _ x, fun x => R 80 _ _ _ _ _ x, fun x => R 72 _ _ _ _ _ x, fun x => R 64 _ _ _ _ _ x, fun x => R 56 _ _ _ _ _ x, fun x => R 48 _ _ _ _ _ x, fun x => R 40 _ _ _ _ _ x, fun x => R 32 _ _ _ _ _ x, fun x => R 24 _ _ _ _ _ x, fun x => R 16 _ _ _ _ _ x, fun x => R 8 _ _ _ _ _ x, fun x => R 0 _ _ _ _ _ x, fun _ h => absurd h List.not_mem_nil⟩
    · exact View.cover_of_tiledL _ ![8, 128] (by sl_kernel_rfl) y

set_option maxHeartbeats 4000000 in
/-- One trip of the second pass over a chunk's slabs: the two planes take the slab's labels. -/
theorem trip3 (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_) (v26 : FVec F S128x128 .f32) (v27 : Vec F S128x128 .f32) (v30 : Vec F S128x384 .bf16)
    (f3 : BufTy.Contents (Elt F) arg3.view.ty) (f20 : BufTy.Contents (Elt F) arg20.view.ty) (f21 : BufTy.Contents (Elt F) arg21.view.ty)
    (f16 : BufTy.Contents (Elt F) arg16.view.ty) (f17 : BufTy.Contents (Elt F) arg17.view.ty) (f18 : BufTy.Contents (Elt F) arg18.view.ty)
    (k : Fin k0_t3_loop.trips) (kk : Fin 32) (hkk : kk.val = 16 + k.val) :
    iprop(At c arg3 f3 ∗ At c arg20 f20 ∗ At c arg21 f21 ∗ At c arg16 f16 ∗ At c arg17 f17 ∗ At c arg18 f18)
      ⊢ wp frame (wpE (defs₀ (F := F)) Variants.none (c : Thread nD τ) none) Set.univ
          (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v26 v27 v30 k PUnit.unit)
          (fun _ => iprop(At c arg3 f3 ∗ At c arg20 f20 ∗ At c arg21 f21 ∗ (∃ f, At c arg16 f)
            ∗ (∃ f, At c arg17 f ∗ ⌜arg17.view.read (Elt F) f = rStep (k0_pay19 v30 (slab (arg3.view.read (Elt F) f3) kk))
                (arg20.view.read (Elt F) f20) (arg21.view.read (Elt F) f21) kk (arg17.view.read (Elt F) f17)⌝)
            ∗ (∃ f, At c arg18 f ∗ ⌜arg18.view.read (Elt F) f = qStep (k0_pay19 v30 (slab (arg3.view.read (Elt F) f3) kk))
                (arg20.view.read (Elt F) f20) (arg21.view.read (Elt F) f21) kk (arg18.view.read (Elt F) f18)⌝))) := by
  have hk : k.val < 16 := Nat.lt_of_lt_of_le k.isLt k0_t3_abs.2.1
  have hoff : ∀ s : Fin 4, k0_off9 k (BitVec.ofNat 32 s.val) = ![4 * kk.val + s.val, 0] := fun s => by rw [hkk]; exact off9_eq k s
  have hsl := slab_at arg3 f3 kk (k0_off8 k) (by rw [hkk]; exact off8_eq k) (k0_off8_inb k)
  unfold k0_t3_body
  iintro ⟨H3, H20, H21, H16, H17, H18⟩
  sl_exec
  sl_step
  isplitl [H3]; · iexact H3
  isplitl [H20]; · iexact H20
  isplitl [H21]; · iexact H21
  isplitl [H16]; · iexists _; iexact H16
  isplitl [H17]
  · iexists _; isplitl [H17]; · iexact H17
    ipureintro
    funext y
    refine View.read_writes_apply_of_pieces _ _ (rStep (F := F) _ _ _ kk _) _ ?_ y ?_
    · have R := r8_at arg16 arg17 arg20 arg21 f17 f20 f21 (k0_pay19 v30 (slab (arg3.view.read (Elt F) f3) kk)) kk
        inb_S128x512_S128x512_0_0
      have R := fun o ho => R o ho (fun s => k0_off9 k (BitVec.ofNat 32 s.val)) hoff (fun s => k0_off9_inb k s)
      simp only [List.forall_mem_cons]
      exact ⟨fun x => R 120 _ _ _ _ _ x, fun x => R 112 _ _ _ _ _ x, fun x => R 104 _ _ _ _ _ x, fun x => R 96 _ _ _ _ _ x, fun x => R 88 _ _ _ _ _ x, fun x => R 80 _ _ _ _ _ x, fun x => R 72 _ _ _ _ _ x, fun x => R 64 _ _ _ _ _ x, fun x => R 56 _ _ _ _ _ x, fun x => R 48 _ _ _ _ _ x, fun x => R 40 _ _ _ _ _ x, fun x => R 32 _ _ _ _ _ x, fun x => R 24 _ _ _ _ _ x, fun x => R 16 _ _ _ _ _ x, fun x => R 8 _ _ _ _ _ x, fun x => R 0 _ _ _ _ _ x, fun _ h => absurd h List.not_mem_nil⟩
    · exact View.cover_of_tiledL _ ![8, 128] (by sl_kernel_rfl) y
  · iexists _; isplitl [H18]; · iexact H18
    ipureintro
    funext y
    refine View.read_writes_apply_of_pieces _ _ (qStep (F := F) _ _ _ kk _) _ ?_ y ?_
    · have R := q8_at arg16 arg18 arg20 arg21 f18 f20 f21 (k0_pay19 v30 (slab (arg3.view.read (Elt F) f3) kk)) kk
        inb_S128x512_S128x512_0_0
      have R := fun o ho => R o ho (fun s => k0_off9 k (BitVec.ofNat 32 s.val)) hoff (fun s => k0_off9_inb k s)
      simp only [List.forall_mem_cons]
      exact ⟨fun x => R 120 _ _ _ _ _ x, fun x => R 112 _ _ _ _ _ x, fun x => R 104 _ _ _ _ _ x, fun x => R 96 _ _ _ _ _ x, fun x => R 88 _ _ _ _ _ x, fun x => R 80 _ _ _ _ _ x, fun x => R 72 _ _ _ _ _ x, fun x => R 64 _ _ _ _ _ x, fun x => R 56 _ _ _ _ _ x, fun x => R 48 _ _ _ _ _ x, fun x => R 40 _ _ _ _ _ x, fun x => R 32 _ _ _ _ _ x, fun x => R 24 _ _ _ _ _ x, fun x => R 16 _ _ _ _ _ x, fun x => R 8 _ _ _ _ _ x, fun x => R 0 _ _ _ _ _ x, fun _ h => absurd h List.not_mem_nil⟩
    · exact View.cover_of_tiledL _ ![8, 128] (by sl_kernel_rfl) y

/-- Before trip `n` of the first pass: the chunk, scales and biases as they were, the two planes `n` slabs on. -/
def inv2 (c : Dev nD) (arg3 : Memref sig .tc .vmem S16384x384 .i8) (arg16 : Memref sig .tc .vmem S128x512 .f32) (arg17 arg18 arg20 arg21 : Memref sig .tc .vmem S128x128 .f32)
    (v30 : Vec F S128x384 .bf16)
    (f3 : BufTy.Contents (Elt F) arg3.view.ty) (f20 : BufTy.Contents (Elt F) arg20.view.ty) (f21 : BufTy.Contents (Elt F) arg21.view.ty)
    (p : Vec F S128x128 .f32 × Vec F S128x128 .f32) (n : ℕ) (_ : Unit) : sProp 𝕄 :=
  iprop(At c arg3 f3 ∗ At c arg20 f20 ∗ At c arg21 f21 ∗ (∃ f, At c arg16 f)
    ∗ (∃ f, At c arg17 f ∗ ⌜arg17.view.read (Elt F) f
        = (planes v30 (arg3.view.read (Elt F) f3) (arg20.view.read (Elt F) f20) (arg21.view.read (Elt F) f21) 0 n p).1⌝)
    ∗ (∃ f, At c arg18 f ∗ ⌜arg18.view.read (Elt F) f
        = (planes v30 (arg3.view.read (Elt F) f3) (arg20.view.read (Elt F) f20) (arg21.view.read (Elt F) f21) 0 n p).2⌝))

theorem step2 (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_) (v26 : FVec F S128x128 .f32) (v27 : Vec F S128x128 .f32) (v30 : Vec F S128x384 .bf16)
    (f3 : BufTy.Contents (Elt F) arg3.view.ty) (f20 : BufTy.Contents (Elt F) arg20.view.ty) (f21 : BufTy.Contents (Elt F) arg21.view.ty)
    (p : Vec F S128x128 .f32 × Vec F S128x128 .f32) (k : Fin k0_t2_loop.trips) (u : Unit) :
    inv2 c arg3 arg16 arg17 arg18 arg20 arg21 v30 f3 f20 f21 p k.val u
      ⊢ wp frame (wpE (defs₀ (F := F)) Variants.none (c : Thread nD τ) none) Set.univ
          (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v26 v27 v30 k u)
          (fun u => inv2 c arg3 arg16 arg17 arg18 arg20 arg21 v30 f3 f20 f21 p (k.val + 1) u) := by
  have hk : k.val < 16 := Nat.lt_of_lt_of_le k.isLt k0_t2_abs.2.1
  unfold inv2
  iintro ⟨H3, H20, H21, ⟨%f16, H16⟩, ⟨%f17, H17, %h17⟩, ⟨%f18, H18, %h18⟩⟩
  iapply (wp_wand_r Idealize.ShloMosaic.frame (wpE (defs₀ (F := F)) Variants.none (c : Thread nD τ) none) Set.univ)
  isplitl [H3 H20 H21 H16 H17 H18]
  · iapply (trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v26 v27 v30 f3 f20 f21 f16 f17 f18 k ⟨0 + k.val, by omega⟩ (by simp))
    isplitl [H3]; · iexact H3
    isplitl [H20]; · iexact H20
    isplitl [H21]; · iexact H21
    isplitl [H16]; · iexact H16
    isplitl [H17]; · iexact H17
    iexact H18
  · iintro %_ ⟨H3, H20, H21, ⟨%g16, H16⟩, ⟨%g17, H17, %e17⟩, ⟨%g18, H18, %e18⟩⟩
    isplitl [H3]; · iexact H3
    isplitl [H20]; · iexact H20
    isplitl [H21]; · iexact H21
    isplitl [H16]; · iexists g16; iexact H16
    isplitl [H17]
    · iexists g17; isplitl [H17]; · iexact H17
      ipureintro; rw [e17, h17, planes_succ _ _ _ _ 0 k.val (by omega)]
    · iexists g18; isplitl [H18]; · iexact H18
      ipureintro; rw [e18, h18, planes_succ _ _ _ _ 0 k.val (by omega)]

/-- Before trip `n` of the second pass: the chunk, scales and biases as they were, the two planes `n` slabs on. -/
def inv3 (c : Dev nD) (arg3 : Memref sig .tc .vmem S16384x384 .i8) (arg16 : Memref sig .tc .vmem S128x512 .f32) (arg17 arg18 arg20 arg21 : Memref sig .tc .vmem S128x128 .f32)
    (v30 : Vec F S128x384 .bf16)
    (f3 : BufTy.Contents (Elt F) arg3.view.ty) (f20 : BufTy.Contents (Elt F) arg20.view.ty) (f21 : BufTy.Contents (Elt F) arg21.view.ty)
    (p : Vec F S128x128 .f32 × Vec F S128x128 .f32) (n : ℕ) (_ : Unit) : sProp 𝕄 :=
  iprop(At c arg3 f3 ∗ At c arg20 f20 ∗ At c arg21 f21 ∗ (∃ f, At c arg16 f)
    ∗ (∃ f, At c arg17 f ∗ ⌜arg17.view.read (Elt F) f
        = (planes v30 (arg3.view.read (Elt F) f3) (arg20.view.read (Elt F) f20) (arg21.view.read (Elt F) f21) 16 n p).1⌝)
    ∗ (∃ f, At c arg18 f ∗ ⌜arg18.view.read (Elt F) f
        = (planes v30 (arg3.view.read (Elt F) f3) (arg20.view.read (Elt F) f20) (arg21.view.read (Elt F) f21) 16 n p).2⌝))

theorem step3 (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_) (v26 : FVec F S128x128 .f32) (v27 : Vec F S128x128 .f32) (v30 : Vec F S128x384 .bf16)
    (f3 : BufTy.Contents (Elt F) arg3.view.ty) (f20 : BufTy.Contents (Elt F) arg20.view.ty) (f21 : BufTy.Contents (Elt F) arg21.view.ty)
    (p : Vec F S128x128 .f32 × Vec F S128x128 .f32) (k : Fin k0_t3_loop.trips) (u : Unit) :
    inv3 c arg3 arg16 arg17 arg18 arg20 arg21 v30 f3 f20 f21 p k.val u
      ⊢ wp frame (wpE (defs₀ (F := F)) Variants.none (c : Thread nD τ) none) Set.univ
          (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v26 v27 v30 k u)
          (fun u => inv3 c arg3 arg16 arg17 arg18 arg20 arg21 v30 f3 f20 f21 p (k.val + 1) u) := by
  have hk : k.val < 16 := Nat.lt_of_lt_of_le k.isLt k0_t3_abs.2.1
  unfold inv3
  iintro ⟨H3, H20, H21, ⟨%f16, H16⟩, ⟨%f17, H17, %h17⟩, ⟨%f18, H18, %h18⟩⟩
  iapply (wp_wand_r Idealize.ShloMosaic.frame (wpE (defs₀ (F := F)) Variants.none (c : Thread nD τ) none) Set.univ)
  isplitl [H3 H20 H21 H16 H17 H18]
  · iapply (trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v26 v27 v30 f3 f20 f21 f16 f17 f18 k ⟨16 + k.val, by omega⟩ rfl)
    isplitl [H3]; · iexact H3
    isplitl [H20]; · iexact H20
    isplitl [H21]; · iexact H21
    isplitl [H16]; · iexact H16
    isplitl [H17]; · iexact H17
    iexact H18
  · iintro %_ ⟨H3, H20, H21, ⟨%g16, H16⟩, ⟨%g17, H17, %e17⟩, ⟨%g18, H18, %e18⟩⟩
    isplitl [H3]; · iexact H3
    isplitl [H20]; · iexact H20
    isplitl [H21]; · iexact H21
    isplitl [H16]; · iexists g16; iexact H16
    isplitl [H17]
    · iexists g17; isplitl [H17]; · iexact H17
      ipureintro; rw [e17, h17, planes_succ _ _ _ _ 16 k.val (by omega)]
    · iexists g18; isplitl [H18]; · iexact H18
      ipureintro; rw [e18, h18, planes_succ _ _ _ _ 16 k.val (by omega)]

end Cert.KernelIdeal.Hand

end
-- ==== Proof.KernelIdeal.Issue.lean ====
module

public import proofs.«01_k».proof.Proof.KernelIdeal.Trips

/-!
  The gather of the 1764 label rows: each grid point issues up to 29 row copies on one semaphore, all
  drained at the last point. One batch of 1764 transfers, transfer `p` the words of label `p`.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx Idealize.ShloMosaic.WordCmp
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

theorem coord_lt (i : grid0.Coords) : (i 0).val < 62 := (i 0).isLt

theorem off2_eq (i : grid0.Coords) (k : Fin k0_t1_loop.trips) : k0_off2 i k = ![29 * (i 0).val + k.val, 0] := by
  have h := coord_lt i
  have hk : k.val < 29 := Nat.lt_of_lt_of_le k.isLt k0_t1_abs.2.1
  simp only [k0_off2, Scalar.muli, Scalar.addi, Scf.iv, IntOp.addi, IntOp.muli]
  simp
  omega

theorem off5_eq (i : grid0.Coords) (k : Fin k0_t1_loop.trips) : k0_off5 i k = ![29 * (i 0).val + k.val, 0] := by
  have h := coord_lt i
  have hk : k.val < 29 := Nat.lt_of_lt_of_le k.isLt k0_t1_abs.2.1
  simp only [k0_off5, Scalar.muli, Scalar.addi, Scf.iv, Scalar.indexCast, IntOp.addi, IntOp.muli]
  simp
  omega

theorem off1_eq (i : grid0.Coords) (k : Fin k0_t1_loop.trips) : k0_off1 i k = ![29 * (i 0).val + k.val] := by
  have h := coord_lt i
  have hk : k.val < 29 := Nat.lt_of_lt_of_le k.isLt k0_t1_abs.2.1
  simp only [k0_off1, Scalar.muli, Scalar.addi, Scf.iv, Scalar.indexCast, IntOp.addi, IntOp.muli]
  simp
  omega

theorem ext_iff : ∀ b : BitVec 1, (Scalar.cmpi .ne (Scalar.extui b : BitVec 32) 0#32 = 1#1 ↔ b = 1#1) := by decide

theorem cond1_iff (i : grid0.Coords) : k0_cond1 i = 1#1 ↔ (i 0).val = 0 := by
  have h := coord_lt i
  exact (ext_iff _).trans (cmpi_eq_ofNat_eq_one_iff (a := (i 0).val) (b := 0) (by omega) (by decide))

theorem cond3_iff (i : grid0.Coords) : k0_cond3 i = 1#1 ↔ (i 0).val = 61 := by
  have h := coord_lt i
  exact (ext_iff _).trans (cmpi_eq_ofNat_eq_one_iff (a := (i 0).val) (b := 61) (by omega) (by decide))

theorem cond2_iff (i : grid0.Coords) (k : Fin k0_t1_loop.trips) : k0_cond2 i k = 1#1 ↔ 29 * (i 0).val + k.val < 1764 := by
  have h := coord_lt i
  have hk : k.val < 29 := Nat.lt_of_lt_of_le k.isLt k0_t1_abs.2.1
  have e : (Scalar.addi (Scalar.muli (BitVec.ofNat 32 (i 0).val) 29#32) (Scf.iv 0#32 1#32 k) : BitVec 32) = BitVec.ofNat 32 (29 * (i 0).val + k.val) := by
    apply BitVec.eq_of_toNat_eq
    simp only [Scalar.muli, Scalar.addi, Scf.iv, IntOp.addi, IntOp.muli]
    simp
    omega
  show Scalar.cmpi .ne (Scalar.extui (Scalar.cmpi .slt (Scalar.addi (Scalar.muli (BitVec.ofNat 32 (i 0).val) 29#32) (Scf.iv 0#32 1#32 k)) 1764#32)) 0#32 = 1#1 ↔ _
  rw [e, ext_iff]
  exact cmpi_slt_ofNat_eq_one_iff (by simp; omega) (by decide)

/-! ### The rows -/

theorem gInb (p : Fin 1792) : ∀ a, (![p.val, 0] : Fin 2 → ℕ) a + S1x384.size a ≤ S1792x384.size a := by
  have := p.isLt; intro a; fin_cases a
  · show p.val + 1 ≤ 1792; omega
  · show 0 + 384 ≤ 384; omega

/-- A label's place among the rows of the gather buffer, which has 28 more. -/
def wide (p : Fin 1764) : Fin 1792 := ⟨p.val, Nat.lt_of_lt_of_le p.isLt (by decide)⟩

/-- Row `p` of the gathered words. -/
def gRow (M22 : Memref sig .tc .vmem S1792x384 .i32) (p : Fin 1792) : Memref sig .tc .vmem S1x384 .i32 :=
  M22.slice (Rect.unit (s := S1792x384) ![p.val, 0] S1x384.size (gInb p)) (fun _ => rfl)

/-- A label whose row of packed words, and row of scales, are rows of their arrays. -/
def LabOk (w : BitVec 32) : Prop :=
  (∀ a, k0_off3 w a + S1x384.size a ≤ S253952x384.size a) ∧ (∀ a, k0_off4 w a + S1x128.size a ≤ S7936x128.size a)

/-- The row of packed words that holds label `w`'s. -/
def wRow (M9 : Memref sig .tc .hbm S253952x384 .i32) (w : BitVec 32) (h : LabOk w) : Memref sig .tc .hbm S1x384 .i32 :=
  M9.slice (Rect.unit (s := S253952x384) (k0_off3 w) S1x384.size h.1) (fun _ => rfl)

/-- A view held by its own elements, at a share. -/
def heldOf (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦[M.view.set]{q} f

instance heldOf_storable (c : Dev nD) {sp : Space} {S : Shape} {e : EltTy} (M : Memref sig .tc sp S e) (q : PosShare TreeShare)
    (f : Buf (Elt F) (M.view.loc (c : Thread nD τ))) : BI.Storable (upEmb : UEmb _ 𝕄) (heldOf c M q f) := by
  unfold heldOf; infer_instance

section Family

variable (c : Dev nD) (M9 : Memref sig .tc .hbm S253952x384 .i32) (M22 : Memref sig .tc .vmem S1792x384 .i32)
  (lw : Fin 1764 → BitVec 32) (hl : ∀ p, LabOk (lw p)) (fw : BufTy.Contents (Elt F) M9.view.ty)

/-- A row of the gather buffer owned, at some contents. -/
def rowG (p : Fin 1792) : sProp 𝕄 :=
  iprop(∃ g, heldOf c (gRow M22 p) fullShare g)

/-- The row that transfer `p` fills. -/
def blkG (p : Fin 1764) : sProp 𝕄 := rowG (F := F) c M22 (wide p)

theorem blkG_eq (p : Fin 1764) :
    blkG (F := F) c M22 p = iprop(∃ g, heldOf c (gRow M22 (wide p)) fullShare g) := rfl

/-- The share of label `p`'s words that transfer `p` reads under. -/
def wTok (p : Fin 1764) : sProp 𝕄 :=
  heldOf c (wRow M9 (lw p) (hl p)) (Transfers.shareTokN fullShare p.val) fw

/-- What transfer `p` leaves: its row, and its share back. -/
def deliv (p : Fin 1764) : sProp 𝕄 := iprop(blkG (F := F) c M22 p ∗ wTok c M9 lw hl fw p)

instance deliv_storable (p : Fin 1764) : BI.Storable (upEmb : UEmb _ 𝕄) (deliv c M9 M22 lw hl fw p) := by
  have h1 : BI.Storable (upEmb : UEmb _ 𝕄) (wTok c M9 lw hl fw p) := heldOf_storable c _ _ _
  have h2 : BI.Storable (upEmb : UEmb _ 𝕄) (rowG (F := F) c M22 (wide p)) := by unfold rowG; infer_instance
  unfold deliv blkG; infer_instance

/-- A row of the gather buffer under another name. -/
theorem blkG_as (p : Fin 1764) (M' : Memref sig .tc .vmem S1x384 .i32) (h : gRow M22 (wide p) = M') :
    blkG (F := F) c M22 p = iprop(∃ g, heldOf c M' fullShare g) := by subst h; rfl

/-- A row landed, named either way, is its transfer's delivery. -/
theorem deliv_of (p : Fin 1764) (M' : Memref sig .tc .vmem S1x384 .i32) (h : gRow M22 (wide p) = M')
    (g : Buf (Elt F) (M'.view.loc (c : Thread nD τ))) :
    iprop(heldOf c M' fullShare g ∗ wTok c M9 lw hl fw p) ⊢ deliv c M9 M22 lw hl fw p := by
  unfold deliv
  rw [blkG_as c M22 p M' h]
  iintro ⟨H, HW⟩
  isplitl [H]
  · iexists g; iexact H
  · iexact HW

/-- One row's credit. -/
abbrev NN (M26 : DmaSems sig S_) : ℕ := (gRow M22 0).view.amount (.dma M26.sem)

/-- The gather's batch: `j` rows issued, `u` units consumed. -/
abbrev batch (M26 : DmaSems sig S_) (j u : ℕ) : sProp 𝕄 :=
  Transfers.Batch (countersEmb (U := Pipeline.UD sig nD τ)) (c : Thread nD τ) (.dma M26.sem) () (NN M22 M26) (deliv c M9 M22 lw hl fw) j u

end Family

/-- A row named by another spelling of its offsets. -/
theorem row_as (M22 : Memref sig .tc .vmem S1792x384 .i32) (p : Fin 1792) (off : Fin 2 → ℕ) (ho : off = ![p.val, 0])
    (h : ∀ a, off a + S1x384.size a ≤ S1792x384.size a) :
    gRow M22 p = M22.slice (Rect.unit (s := S1792x384) off S1x384.size h) (fun _ => rfl) := by
  subst ho; rfl

/-- Before trip `k` of a point's issues: the rows issued so far, and the rows and shares not yet used. -/
def issueAt (c : Dev nD) (i : grid0.Coords) (arg1 : Memref sig .tc .smem S1764 .i32) (arg6 arg7 : Memref sig .tc .vmem S7936x128 .f32)
    (arg9 : Memref sig .tc .hbm S253952x384 .i32) (arg22 : Memref sig .tc .vmem S1792x384 .i32) (arg23 arg24 : Memref sig .tc .vmem S1792x128 .f32)
    (arg25 : Memref sig .tc .vmem S1792x128 .i32) (arg26 : DmaSems sig S_)
    (lw : Fin 1764 → BitVec 32) (hl : ∀ p, LabOk (lw p)) (fw : BufTy.Contents (Elt F) arg9.view.ty)
    (f1 : BufTy.Contents (Elt F) arg1.view.ty) (f6 : BufTy.Contents (Elt F) arg6.view.ty) (f7 : BufTy.Contents (Elt F) arg7.view.ty)
    (k : ℕ) (_ : Unit) : sProp 𝕄 :=
  iprop(batch c arg9 arg22 lw hl fw arg26 (min (29 * (i 0).val + k) 1764) 0
    ∗ bigSep (Ring.rangeSet 1764 (min (29 * (i 0).val + k) 1764) 1764) (blkG (F := F) c arg22)
    ∗ bigSep (Ring.rangeSet 1764 (min (29 * (i 0).val + k) 1764) 1764) (wTok c arg9 lw hl fw)
    ∗ At c arg1 f1 ∗ At c arg6 f6 ∗ At c arg7 f7
    ∗ (∃ f, At (F := F) c arg23 f) ∗ (∃ f, At (F := F) c arg24 f) ∗ (∃ f, At (F := F) c arg25 f))

/-- A hand rule leaves its continuation applied: the next statement is `k a`. -/
theorem ret_bind' {E : Type → Type} {α β : Type} (a : α) (k : α → Prog E β) : (Prog.ret a).bind k = k a := rfl

set_option maxHeartbeats 400000 in
theorem issue_step (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (lw : Fin 1764 → BitVec 32) (hl : ∀ p, LabOk (lw p)) (fw : BufTy.Contents (Elt F) arg9.view.ty)
    (f1 : BufTy.Contents (Elt F) arg1.view.ty) (f6 : BufTy.Contents (Elt F) arg6.view.ty) (f7 : BufTy.Contents (Elt F) arg7.view.ty)
    (hlw : ∀ p, lw p = arg1.view.read (Elt F) f1 (ix1 p))
    (k : Fin k0_t1_loop.trips) (u : Unit) :
    issueAt c i arg1 arg6 arg7 arg9 arg22 arg23 arg24 arg25 arg26 lw hl fw f1 f6 f7 k.val u
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 k u)
          (fun u => issueAt c i arg1 arg6 arg7 arg9 arg22 arg23 arg24 arg25 arg26 lw hl fw f1 f6 f7 (k.val + 1) u) := by
  have hk : k.val < 29 := Nat.lt_of_lt_of_le k.isLt k0_t1_abs.2.1
  by_cases hlt : 29 * (i 0).val + k.val < 1764
  · have hc : k0_cond2 i k = 1#1 := (cond2_iff i k).mpr hlt
    obtain ⟨p, hp⟩ : ∃ p : Fin 1764, p.val = 29 * (i 0).val + k.val := ⟨⟨_, hlt⟩, rfl⟩
    have hp' := p.isLt
    have hrd : ∀ x, arg1.view.read (Elt F) f1 ((Rect.unit (s := S1764) (k0_off1 i k) S1.size (k0_off1_inb i k hc)).toLoadRect.idx x) = lw p := fun x => by
      rw [hlw p]
      refine congrArg (arg1.view.read (Elt F) f1) (funext fun a => Fin.ext ?_)
      obtain rfl : a = 0 := Subsingleton.elim _ _
      have h0 : (x 0).val < 1 := (x 0).isLt
      have h1 : (k0_off1 i k) 0 = 29 * (i 0).val + k.val := congrFun (off1_eq i k) 0
      show (k0_off1 i k) 0 + 1 * (x 0).val = p.val
      omega
    have hchk : k0_chk1 i k (lw p) := ⟨fun _ => (hl p).1, fun _ => (hl p).2⟩
    have e1 : min (29 * (i 0).val + k.val) 1764 = p.val := by omega
    have e2 : min (29 * (i 0).val + (k.val + 1)) 1764 = p.val + 1 := by omega
    have hrow := row_as arg22 (wide p) (k0_off2 i k) (by rw [off2_eq]; exact congrArg (fun n => ![n, 0]) hp.symm) (k0_off2_inb i k hc)
    unfold issueAt
    rw [e1, e2, Ring.bigSep_rangeSet_head (Φ := blkG (F := F) c arg22) (by omega) (by omega),
      Ring.bigSep_rangeSet_head (Φ := wTok c arg9 lw hl fw) (by omega) (by omega)]
    unfold k0_t1_body
    iintro ⟨HB, ⟨HG, HGs⟩, ⟨HW, HWs⟩, H1, H6, H7, H23, H24, H25⟩
    ihave HG := (Entails.of_eq (blkG_as c arg22 p _ hrow)) $$ HG
    icases HG with ⟨%gk, HG⟩
    icases H23 with ⟨%f23, H23⟩
    icases H24 with ⟨%f24, H24⟩
    icases H25 with ⟨%f25, H25⟩
    sl_exec
    generalize hw : issue_step.sl.r i arg1 f1 k hc = w
    obtain rfl : lw p = w := (hrd _).symm.trans hw
    iapply (wp_assume _ _ _ _ hchk)
    unfold heldOf
    iapply (Transfers.wp_dmaBatch (countersEmb (U := Pipeline.UD sig nD τ)) Variants.none (c : Thread nD τ) none
      (src := wRow arg9 (lw p) (hl p)) (dst := arg22.slice (Rect.unit (s := S1792x384) (k0_off2 i k) S1x384.size (k0_off2_inb i k hc)) (fun _ => rfl))
      () (NN arg22 arg26) rfl subset_rfl (D := deliv c arg9 arg22 lw hl fw) (j := p.val) (u := 0) hp' (Nat.zero_le _) (deliv_of c arg9 arg22 lw hl fw p _ hrow _)) $$ [HW HG HB]
    · isplitl [HW]; · unfold wTok heldOf; iexact HW
      isplitl [HG]; · iexact HG
      iexact HB
    iintro HB
    simp only [ret_bind']
    sl_exec
    rw [wp_ret]
    imodintro
    isplitl [HB]; · iexact HB
    isplitl [HGs]; · iexact HGs
    isplitl [HWs]; · iexact HWs
    isplitl [H1]; · iexact H1
    isplitl [H6]; · iexact H6
    isplitl [H7]; · iexact H7
    isplitl [H23]; · iexists _; iexact H23
    isplitl [H24]; · iexists _; iexact H24
    iexists _; iexact H25
  · have hc : ¬ k0_cond2 i k = 1#1 := fun h => hlt ((cond2_iff i k).mp h)
    have e1 : min (29 * (i 0).val + (k.val + 1)) 1764 = min (29 * (i 0).val + k.val) 1764 := by omega
    unfold issueAt
    rw [e1]
    unfold k0_t1_body
    iintro H
    sl_exec
    rw [wp_ret]
    imodintro
    iexact H

/-- Before trip `k` of the waits: `k` rows' credit consumed, or, after the last, every row and share back and the semaphore at zero. -/
def drainAt (c : Dev nD) (arg9 : Memref sig .tc .hbm S253952x384 .i32) (arg22 : Memref sig .tc .vmem S1792x384 .i32) (arg26 : DmaSems sig S_)
    (lw : Fin 1764 → BitVec 32) (hl : ∀ p, LabOk (lw p)) (fw : BufTy.Contents (Elt F) arg9.view.ty) (k : ℕ) (_ : Unit) : sProp 𝕄 :=
  iprop((∃ W, owes (c : Thread nD τ) 0 W)
    ∗ (if k < 1764 then batch c arg9 arg22 lw hl fw arg26 1764 (k * NN arg22 arg26)
       else iprop(semVal ((c : Thread nD τ), SemLoc.dma arg26.sem) 0 ∗ bigSep Finset.univ (deliv c arg9 arg22 lw hl fw))))

theorem t4_trips : k0_t4_loop.trips = 1764 := by decide +kernel

set_option maxHeartbeats 1000000 in
theorem drain_step (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (lw : Fin 1764 → BitVec 32) (hl : ∀ p, LabOk (lw p)) (fw : BufTy.Contents (Elt F) arg9.view.ty)
    (hN : 0 < NN arg22 arg26) (v30 : Vec F S128x384 .bf16) (h3 : k0_cond3 i = 1#1)
    (k : Fin k0_t4_loop.trips) (u : Unit) :
    drainAt c arg9 arg22 arg26 lw hl fw k.val u
      ⊢ wp frame (wpE (defs₀ (F := F)) Variants.none (c : Thread nD τ) none) Set.univ
          (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v30 h3 k u)
          (fun u => drainAt c arg9 arg22 arg26 lw hl fw (k.val + 1) u) := by
  have hk : k.val < 1764 := Nat.lt_of_lt_of_eq k.isLt t4_trips
  unfold drainAt k0_t4_body
  rw [if_pos hk]
  iintro ⟨⟨%W, HO⟩, HB⟩
  by_cases h1 : k.val + 1 < 1764
  · rw [if_pos h1]
    iapply (Transfers.wp_waitBatch (countersEmb (U := Pipeline.UD sig nD τ)) Variants.none (c : Thread nD τ) none (srcw := arg9.slice (Rect.unit (s := S253952x384) ![0, 0] S1x384.size inb_S253952x384_S1x384_0_0) (fun _ => rfl))
      (dstw := arg22.slice (Rect.unit (s := S1792x384) (k0_off10 k) S1x384.size (k0_off10_inb i k h3)) (fun _ => rfl))
      (hsrc := View.wordExact_bits rfl) (hdst := View.wordExact_bits rfl) ()
      (N := NN arg22 arg26) rfl (D := deliv c arg9 arg22 lw hl fw) (u := k.val * NN arg22 arg26)
      (by rw [← Nat.succ_mul, Nat.mul_comm]; exact Nat.mul_lt_mul_of_pos_left h1 hN)) $$ [HB HO]
    · isplitl [HB] <;> iassumption
    iintro ⟨HB, HO⟩
    simp only [ret_bind']
    sl_exec
    rw [wp_ret]
    imodintro
    isplitl [HO]; · iexists _; iexact HO
    rw [Nat.succ_mul]
    iexact HB
  · rw [if_neg h1]
    iapply (Transfers.wp_waitBatchLast (countersEmb (U := Pipeline.UD sig nD τ)) Variants.none (c : Thread nD τ) none (srcw := arg9.slice (Rect.unit (s := S253952x384) ![0, 0] S1x384.size inb_S253952x384_S1x384_0_0) (fun _ => rfl))
      (dstw := arg22.slice (Rect.unit (s := S1792x384) (k0_off10 k) S1x384.size (k0_off10_inb i k h3)) (fun _ => rfl))
      (hsrc := View.wordExact_bits rfl) (hdst := View.wordExact_bits rfl) ()
      (N := NN arg22 arg26) rfl hN (D := deliv c arg9 arg22 lw hl fw) (u := k.val * NN arg22 arg26)
      (by rw [← Nat.succ_mul, Nat.mul_comm, show k.val.succ = 1764 by omega])) $$ [HB HO]
    · isplitl [HB] <;> iassumption
    iintro ⟨Hall, Hsem, HO⟩
    simp only [ret_bind']
    sl_exec
    rw [wp_ret]
    imodintro
    isplitl [HO]; · iexists _; iexact HO
    isplitl [Hsem]; · iexact Hsem
    iexact Hall

end Cert.KernelIdeal.Hand

end
-- ==== Proof.KernelIdeal.Split.lean ====
module

public import proofs.«01_k».proof.Proof.KernelIdeal.Issue

/-!
  The gather's two buffers in pieces: the rows of the gathered words one by one, and the packed words as one
  share per label, each cut into the row its transfer reads and the rest.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

theorem mem_gset (M22 : Memref sig .tc .vmem S1792x384 .i32) (p : Fin 1792) (y : S1792x384.Idx) :
    y ∈ (Rect.unit (s := S1792x384) ![p.val, 0] S1x384.size (gInb p)).set ↔ (y 0).val = p.val := by
  rw [Rect.mem_set_unit]
  have h1 : (y 1).val < 384 := (y 1).isLt
  constructor
  · intro H; have a0 : p.val ≤ (y 0).val ∧ (y 0).val < p.val + 1 := H 0; omega
  · intro H a; fin_cases a
    · show p.val ≤ (y 0).val ∧ (y 0).val < p.val + 1; omega
    · show 0 ≤ (y 1).val ∧ (y 1).val < 0 + 384; omega

/-- Row `p`'s elements in the buffer. -/
def gSet (M22 : Memref sig .tc .vmem S1792x384 .i32) (p : Fin 1792) : Finset M22.view.ty.Idx :=
  (Rect.unit (s := S1792x384) ![p.val, 0] S1x384.size (gInb p)).set.map M22.view.emb

theorem gRow_set (M22 : Memref sig .tc .vmem S1792x384 .i32) (p : Fin 1792) : (gRow M22 p).view.set = gSet M22 p :=
  View.set_slice M22.view _

theorem gSet_disjoint (M22 : Memref sig .tc .vmem S1792x384 .i32) :
    ∀ p p' : Fin 1792, p ≠ p' → Disjoint (gSet M22 p) (gSet M22 p') := fun p p' hne => by
  unfold gSet
  rw [Finset.disjoint_map, Finset.disjoint_left]
  intro y hy hy'
  rw [mem_gset M22] at hy hy'
  exact hne (Fin.ext (by omega))

theorem gSet_cover (M22 : Memref sig .tc .vmem S1792x384 .i32) : Finset.univ.biUnion (gSet M22) = M22.view.set := by
  ext z
  rw [Finset.mem_biUnion]
  constructor
  · rintro ⟨p, -, hp⟩
    obtain ⟨y, -, rfl⟩ := Finset.mem_map.mp hp
    exact Finset.mem_map_of_mem _ (Finset.mem_univ y)
  · intro hz
    obtain ⟨y, -, rfl⟩ := Finset.mem_map.mp hz
    exact ⟨y 0, Finset.mem_univ _, Finset.mem_map_of_mem _ ((mem_gset M22 _ y).mpr rfl)⟩

theorem rowG_eq (c : Dev nD) (M22 : Memref sig .tc .vmem S1792x384 .i32) (p : Fin 1792) :
    rowG (F := F) c M22 p = iprop(∃ f, M22.view.loc (c : Thread nD τ) ↦[gSet M22 p]{fullShare} f) := by
  unfold rowG heldOf
  rw [gRow_set]
  rfl

/-- The rows no transfer fills. -/
def pads (c : Dev nD) (M22 : Memref sig .tc .vmem S1792x384 .i32) : sProp 𝕄 :=
  bigSep (Ring.rangeSet 1792 1764 1792) (rowG (F := F) c M22)

theorem rows_eq (c : Dev nD) (M22 : Memref sig .tc .vmem S1792x384 .i32) :
    bigSep Finset.univ (rowG (F := F) c M22)
      = iprop(bigSep (Ring.rangeSet 1764 0 1764) (blkG (F := F) c M22) ∗ pads (F := F) c M22) := by
  have e : bigSep (Ring.rangeSet 1792 0 1764) (rowG (F := F) c M22) = bigSep (Ring.rangeSet 1764 0 1764) (blkG (F := F) c M22) := by
    rw [Ring.bigSep_rangeSet_eq_range (NB := 1792) (lo := 0) (hi := 1764) (by omega)
        (fun k => if h : 0 + k < 1764 then blkG (F := F) c M22 ⟨0 + k, h⟩ else if h : 0 + k < 1792 then rowG (F := F) c M22 ⟨0 + k, h⟩ else BI.emp) ?_,
      Ring.bigSep_rangeSet_eq_range (NB := 1764) (lo := 0) (hi := 1764) (by omega)
        (fun k => if h : 0 + k < 1764 then blkG (F := F) c M22 ⟨0 + k, h⟩ else if h : 0 + k < 1792 then rowG (F := F) c M22 ⟨0 + k, h⟩ else BI.emp) ?_]
    · intro k h; exact dif_pos h
    · intro k h
      by_cases h' : 0 + k < 1764
      · rw [dif_pos h']; rfl
      · rw [dif_neg h', dif_pos h]
  rw [← Ring.rangeSet_univ, Ring.bigSep_rangeSet_split (a := 0) (b := 1764) (d := 1792) (by omega) (by omega), e]
  rfl

/-- The gather buffer held is its rows held; -/
theorem g_split (c : Dev nD) (M22 : Memref sig .tc .vmem S1792x384 .i32) :
    (iprop(∃ f, At (F := F) c M22 f) : sProp 𝕄) ⊢ iprop(bigSep (Ring.rangeSet 1764 0 1764) (blkG (F := F) c M22) ∗ pads (F := F) c M22) := by
  rw [← rows_eq]
  refine sProp.exists_elim fun f => ?_
  refine (Entails.of_eq (Ring.pointsTo_sub_blocks (ℓ := M22.view.loc (c : Thread nD τ)) (q := fullShare) (gSet M22)
      (gSet_disjoint M22) M22.view.set (gSet_cover M22) f)).trans (BI.bigSep_mono fun p _ => ?_)
  rw [rowG_eq]
  show (M22.view.loc (c : Thread nD τ) ↦[gSet M22 p]{fullShare} f : sProp 𝕄) ⊢ iprop(∃ f, M22.view.loc (c : Thread nD τ) ↦[gSet M22 p]{fullShare} f)
  iintro H; iexists f; iexact H

/-- and back. -/
theorem g_join (c : Dev nD) (M22 : Memref sig .tc .vmem S1792x384 .i32) (f₀ : BufTy.Contents (Elt F) M22.view.ty) :
    iprop(bigSep (Ring.rangeSet 1764 0 1764) (blkG (F := F) c M22) ∗ pads (F := F) c M22) ⊢ (iprop(∃ f, At (F := F) c M22 f) : sProp 𝕄) := by
  rw [← rows_eq]
  rw [BI.bigSep_congr fun p _ => rowG_eq c M22 p]
  exact Ring.pointsTo_sub_blocks_join_exists (ℓ := M22.view.loc (c : Thread nD τ)) (q := fullShare) (gSet M22)
    (gSet_disjoint M22) M22.view.set (gSet_cover M22) f₀

section Words

variable (c : Dev nD) (M9 : Memref sig .tc .hbm S253952x384 .i32)
  (lw : Fin 1764 → BitVec 32) (hl : ∀ p, LabOk (lw p)) (fw : BufTy.Contents (Elt F) M9.view.ty)

/-- What of its share transfer `p` does not read. -/
def wOff (p : Fin 1764) : sProp 𝕄 :=
  M9.view.loc (c : Thread nD τ) ↦[M9.view.set \ (wRow M9 (lw p) (hl p)).view.set]{Transfers.shareTokN fullShare p.val} fw

/-- What the transfers do not read of the packed words. -/
def wRest : sProp 𝕄 :=
  iprop((M9.view.loc (c : Thread nD τ) ↦[M9.view.set]{Transfers.shareDrop fullShare 1764} fw)
    ∗ bigSep Finset.univ (wOff c M9 lw hl fw))

theorem wTok_split (p : Fin 1764) :
    (M9.view.loc (c : Thread nD τ) ↦[M9.view.set]{Transfers.shareTokN fullShare p.val} fw : sProp 𝕄)
      ⊣⊢ iprop(wTok c M9 lw hl fw p ∗ wOff c M9 lw hl fw p) :=
  pointsTo_split_subset (View.set_slice_subset M9.view _)

theorem toks_eq :
    (bigSep (Finset.range 1764) fun k => (M9.view.loc (c : Thread nD τ) ↦[M9.view.set]{Transfers.shareTokN fullShare k} fw : sProp 𝕄))
      = bigSep Finset.univ fun p : Fin 1764 => (M9.view.loc (c : Thread nD τ) ↦[M9.view.set]{Transfers.shareTokN fullShare p.val} fw : sProp 𝕄) := by
  rw [← Ring.rangeSet_univ (NB := 1764)]
  exact (Ring.bigSep_rangeSet_eq_range (NB := 1764) (lo := 0) (hi := 1764)
    (Φ := fun p : Fin 1764 => (M9.view.loc (c : Thread nD τ) ↦[M9.view.set]{Transfers.shareTokN fullShare p.val} fw : sProp 𝕄)) (by omega)
    (fun k => M9.view.loc (c : Thread nD τ) ↦[M9.view.set]{Transfers.shareTokN fullShare k} fw) (fun k h => by simp only [Nat.zero_add])).symm

theorem wToks_split :
    (bigSep Finset.univ fun p : Fin 1764 => (M9.view.loc (c : Thread nD τ) ↦[M9.view.set]{Transfers.shareTokN fullShare p.val} fw : sProp 𝕄))
      ⊢ iprop(bigSep Finset.univ (wTok c M9 lw hl fw) ∗ bigSep Finset.univ (wOff c M9 lw hl fw)) :=
  (BI.bigSep_mono fun p _ => (wTok_split c M9 lw hl fw p).1).trans (Entails.of_eq (BI.bigSep_sep _ _ _))

theorem wToks_join :
    iprop(bigSep Finset.univ (wTok c M9 lw hl fw) ∗ bigSep Finset.univ (wOff c M9 lw hl fw))
      ⊢ (bigSep Finset.univ fun p : Fin 1764 => (M9.view.loc (c : Thread nD τ) ↦[M9.view.set]{Transfers.shareTokN fullShare p.val} fw : sProp 𝕄)) :=
  (Entails.of_eq (BI.bigSep_sep _ _ _).symm).trans (BI.bigSep_mono fun p _ => (wTok_split c M9 lw hl fw p).2)

/-- The packed words held are every transfer's share of its row, and the rest; -/
theorem w_split :
    (M9.view.loc (c : Thread nD τ) ↦[M9.view.set]{fullShare} fw : sProp 𝕄)
      ⊢ iprop(bigSep (Ring.rangeSet 1764 0 1764) (wTok c M9 lw hl fw) ∗ wRest c M9 lw hl fw) := by
  refine (Transfers.pointsTo_toks_range fullShare 1764).1.trans ?_
  rw [toks_eq, Ring.rangeSet_univ]
  unfold wRest
  iintro ⟨H, HT⟩
  ihave HT := (wToks_split c M9 lw hl fw) $$ HT
  icases HT with ⟨HA, HB⟩
  isplitl [HA]; · iexact HA
  isplitl [H]; · iexact H
  iexact HB

/-- and back. -/
theorem w_join :
    iprop(bigSep (Ring.rangeSet 1764 0 1764) (wTok c M9 lw hl fw) ∗ wRest c M9 lw hl fw)
      ⊢ (M9.view.loc (c : Thread nD τ) ↦[M9.view.set]{fullShare} fw : sProp 𝕄) := by
  refine BIBase.Entails.trans ?_ (Transfers.pointsTo_toks_range fullShare 1764).2
  rw [toks_eq, Ring.rangeSet_univ]
  unfold wRest
  iintro ⟨HA, H, HB⟩
  isplitl [H]; · iexact H
  iapply (wToks_join c M9 lw hl fw)
  isplitl [HA] <;> iassumption

end Words

/-- The deliveries are the rows and the shares. -/
theorem deliv_eq (c : Dev nD) (M9 : Memref sig .tc .hbm S253952x384 .i32) (M22 : Memref sig .tc .vmem S1792x384 .i32)
    (lw : Fin 1764 → BitVec 32) (hl : ∀ p, LabOk (lw p)) (fw : BufTy.Contents (Elt F) M9.view.ty) :
    bigSep Finset.univ (deliv c M9 M22 lw hl fw)
      = iprop(bigSep (Ring.rangeSet 1764 0 1764) (blkG (F := F) c M22) ∗ bigSep (Ring.rangeSet 1764 0 1764) (wTok c M9 lw hl fw)) := by
  rw [Ring.rangeSet_univ]
  exact BI.bigSep_sep _ _ _

end Cert.KernelIdeal.Hand

end
-- ==== Proof.KernelIdeal.Later.lean ====
module

public import proofs.«01_k».proof.Proof.KernelIdeal.Split

/-!
  The head of a grid point's body: the first point quantises `x` and allocates the gather's batch; every
  point issues its rows, broadcasts the chunk's scales and biases and clears the running planes.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

theorem t1_trips : k0_t1_loop.trips = 29 := by decide +kernel

/-- A memref's elements held at contents that read as `v`. -/
def Reads (c : Dev nD) {sp : Space} {S : Shape} {e : EltTy} (M : Memref sig .tc sp S e) (v : S.Idx → Elt F e) : sProp 𝕄 :=
  iprop(∃ f, At c M f ∗ ⌜M.view.read (Elt F) f = v⌝)

/-- What the head leaves in the buffers it prepares. -/
def headPost (c : Dev nD) (i : grid0.Coords) (arg4 arg5 arg17 arg18 arg19 arg20 arg21 : Memref sig .tc .vmem S128x128 .f32)
    (f4 : BufTy.Contents (Elt F) arg4.view.ty) (f5 : BufTy.Contents (Elt F) arg5.view.ty)
    (r : Σ' (arg0 : BitVec 32) (v26 : FVec F S128x128 .f32), Vec F S128x128 .f32) : sProp 𝕄 :=
  iprop(⌜r.1 = BitVec.ofNat 32 (i 0).val ∧ r.2.1 = k0_pay497 (F := F)⌝
    ∗ At c arg4 f4 ∗ At c arg5 f5
    ∗ Reads c arg17 (k0_pay495 (F := F)) ∗ Reads c arg18 (k0_pay496 (F := F)) ∗ (∃ f, At (F := F) c arg19 f)
    ∗ Reads c arg20 (k0_pay493 (arg4.view.read (Elt F) f4)) ∗ Reads c arg21 (k0_pay494 (arg5.view.read (Elt F) f5)))

theorem headPost_intro (c : Dev nD) (i : grid0.Coords) (arg4 arg5 arg17 arg18 arg19 arg20 arg21 : Memref sig .tc .vmem S128x128 .f32)
    (f4 : BufTy.Contents (Elt F) arg4.view.ty) (f5 : BufTy.Contents (Elt F) arg5.view.ty)
    (r : Σ' (arg0 : BitVec 32) (v26 : FVec F S128x128 .f32), Vec F S128x128 .f32)
    (f17 : BufTy.Contents (Elt F) arg17.view.ty) (f18 : BufTy.Contents (Elt F) arg18.view.ty) (f19 : BufTy.Contents (Elt F) arg19.view.ty)
    (f20 : BufTy.Contents (Elt F) arg20.view.ty) (f21 : BufTy.Contents (Elt F) arg21.view.ty)
    (hr : r.1 = BitVec.ofNat 32 (i 0).val) (hr' : r.2.1 = k0_pay497 (F := F))
    (h17 : arg17.view.read (Elt F) f17 = k0_pay495 (F := F)) (h18 : arg18.view.read (Elt F) f18 = k0_pay496 (F := F))
    (h20 : arg20.view.read (Elt F) f20 = k0_pay493 (arg4.view.read (Elt F) f4)) (h21 : arg21.view.read (Elt F) f21 = k0_pay494 (arg5.view.read (Elt F) f5)) :
    iprop(At c arg4 f4 ∗ At c arg5 f5 ∗ At c arg17 f17 ∗ At c arg18 f18 ∗ At c arg19 f19 ∗ At c arg20 f20 ∗ At c arg21 f21)
      ⊢ headPost c i arg4 arg5 arg17 arg18 arg19 arg20 arg21 f4 f5 r := by
  unfold headPost Reads
  iintro ⟨H4, H5, H17, H18, H19, H20, H21⟩
  isplitr; · ipureintro; exact ⟨hr, hr'⟩
  isplitl [H4]; · iexact H4
  isplitl [H5]; · iexact H5
  isplitl [H17]
  · iexists f17; isplitl [H17]; · iexact H17
    ipureintro; exact h17
  isplitl [H18]
  · iexists f18; isplitl [H18]; · iexact H18
    ipureintro; exact h18
  isplitl [H19]; · iexists f19; iexact H19
  isplitl [H20]
  · iexists f20; isplitl [H20]; · iexact H20
    ipureintro; exact h20
  · iexists f21; isplitl [H21]; · iexact H21
    ipureintro; exact h21

set_option maxHeartbeats 2000000 in
theorem head_later (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (lw : Fin 1764 → BitVec 32) (hl : ∀ p, LabOk (lw p)) (fw : BufTy.Contents (Elt F) arg9.view.ty)
    (f1 : BufTy.Contents (Elt F) arg1.view.ty) (f6 : BufTy.Contents (Elt F) arg6.view.ty) (f7 : BufTy.Contents (Elt F) arg7.view.ty)
    (f4 : BufTy.Contents (Elt F) arg4.view.ty) (f5 : BufTy.Contents (Elt F) arg5.view.ty)
    (hlw : ∀ p, lw p = arg1.view.read (Elt F) f1 (ix1 p)) (h1 : ¬ k0_cond1 i = 1#1) :
    iprop(issueAt c i arg1 arg6 arg7 arg9 arg22 arg23 arg24 arg25 arg26 lw hl fw f1 f6 f7 0 ()
        ∗ At c arg4 f4 ∗ At c arg5 f5 ∗ (∃ f, At (F := F) c arg17 f) ∗ (∃ f, At (F := F) c arg18 f) ∗ (∃ f, At (F := F) c arg19 f)
        ∗ (∃ f, At (F := F) c arg20 f) ∗ (∃ f, At (F := F) c arg21 f))
      ⊢ wp frame (wpE (defs₀ (F := F)) Variants.none (c : Thread nD τ) none) Set.univ
          (k0_part100 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
          (fun r => iprop(issueAt c i arg1 arg6 arg7 arg9 arg22 arg23 arg24 arg25 arg26 lw hl fw f1 f6 f7 29 ()
            ∗ headPost c i arg4 arg5 arg17 arg18 arg19 arg20 arg21 f4 f5 r)) := by
  rw [k0_part100_eq_skeleton]
  unfold k0_part100_skel
  rw [dif_neg h1]
  iintro ⟨HI, H4, H5, ⟨%f17, H17⟩, ⟨%f18, H18⟩, ⟨%f19, H19⟩, ⟨%f20, H20⟩, ⟨%f21, H21⟩⟩
  sl_for (issueAt c i arg1 arg6 arg7 arg9 arg22 arg23 arg24 arg25 arg26 lw hl fw f1 f6 f7) $$ [HI]
  · intro k u
    exact issue_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 lw hl fw f1 f6 f7 hlw k u
  · iexact HI
  iintro %u HI
  rw [show Scf.trips k0_t1_loop.lb k0_t1_loop.ub k0_t1_loop.st = 29 from t1_trips]
  sl_exec
  rw [wp_ret]
  imodintro
  isplitl [HI]; · iexact HI
  iapply (headPost_intro c i arg4 arg5 arg17 arg18 arg19 arg20 arg21 f4 f5 _ _ _ _ _ _ rfl rfl (View.read_writes_full _ _ _ _ _) (View.read_writes_full _ _ _ _ _)
    ((View.read_writes_full _ _ _ _ _).trans (congrArg (k0_pay493 (F := F)) (View.readAt_full (Val := Elt F) arg4.view f4 inb_S128x128_S128x128_0_0))) ((View.read_writes_full _ _ _ _ _).trans (congrArg (k0_pay494 (F := F)) (View.readAt_full (Val := Elt F) arg5.view f5 inb_S128x128_S128x128_0_0))))
  isplitl [H4]; · iexact H4
  isplitl [H5]; · iexact H5
  isplitl [H17]; · iexact H17
  isplitl [H18]; · iexact H18
  isplitl [H19]; · iexact H19
  isplitl [H20]; · iexact H20
  iexact H21

/-- The quantiser's three results and what the later points multiply by. -/
def codesV (x : Vec F S128x384 .bf16) := k0_pay11 (F := F) (k0_pay9 x) k0_pay10
def scalesV (x : Vec F S128x384 .bf16) := k0_pay13 (F := F) (k0_pay8 x)
def xqV (x : Vec F S128x384 .bf16) := k0_pay12 (F := F) (k0_pay8 x) (k0_pay9 x) k0_pay10

set_option maxHeartbeats 2000000 in
theorem head_first (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (lw : Fin 1764 → BitVec 32) (hl : ∀ p, LabOk (lw p)) (fw : BufTy.Contents (Elt F) arg9.view.ty)
    (f1 : BufTy.Contents (Elt F) arg1.view.ty) (f6 : BufTy.Contents (Elt F) arg6.view.ty) (f7 : BufTy.Contents (Elt F) arg7.view.ty)
    (f4 : BufTy.Contents (Elt F) arg4.view.ty) (f5 : BufTy.Contents (Elt F) arg5.view.ty)
    (hlw : ∀ p, lw p = arg1.view.read (Elt F) f1 (ix1 p))
    (f2 : BufTy.Contents (Elt F) arg2.view.ty) (h1 : k0_cond1 i = 1#1) :
    iprop(semVal ((c : Thread nD τ), SemLoc.dma arg26.sem) 0 ∗ (∃ f, At (F := F) c arg22 f)
        ∗ bigSep (Ring.rangeSet 1764 0 1764) (wTok c arg9 lw hl fw)
        ∗ At c arg1 f1 ∗ At c arg6 f6 ∗ At c arg7 f7
        ∗ (∃ f, At (F := F) c arg23 f) ∗ (∃ f, At (F := F) c arg24 f) ∗ (∃ f, At (F := F) c arg25 f)
        ∗ At c arg2 f2 ∗ (∃ f, At (F := F) c arg10 f) ∗ (∃ f, At (F := F) c arg13 f) ∗ (∃ f, At (F := F) c arg14 f) ∗ (∃ f, At (F := F) c arg15 f)
        ∗ At c arg4 f4 ∗ At c arg5 f5 ∗ (∃ f, At (F := F) c arg17 f) ∗ (∃ f, At (F := F) c arg18 f) ∗ (∃ f, At (F := F) c arg19 f)
        ∗ (∃ f, At (F := F) c arg20 f) ∗ (∃ f, At (F := F) c arg21 f))
      ⊢ wp frame (wpE (defs₀ (F := F)) Variants.none (c : Thread nD τ) none) Set.univ
          (k0_part100 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
          (fun r => iprop(issueAt c i arg1 arg6 arg7 arg9 arg22 arg23 arg24 arg25 arg26 lw hl fw f1 f6 f7 29 ()
            ∗ pads (F := F) c arg22 ∗ At c arg2 f2
            ∗ Reads c arg10 (k0_pay14 (F := F)) ∗ Reads c arg13 (codesV (arg2.view.read (Elt F) f2)) ∗ Reads c arg14 (scalesV (arg2.view.read (Elt F) f2))
            ∗ Reads c arg15 (xqV (arg2.view.read (Elt F) f2))
            ∗ headPost c i arg4 arg5 arg17 arg18 arg19 arg20 arg21 f4 f5 r)) := by
  rw [k0_part100_eq_skeleton]
  unfold k0_part100_skel
  rw [dif_pos h1]
  simp only [k0_part1_eq_skeleton, k0_part2_eq_skeleton]
  unfold k0_part1_skel k0_part2_skel
  iintro ⟨Hs, ⟨%f22, H22⟩, HW, H1, H6, H7, ⟨%f23, H23⟩, ⟨%f24, H24⟩, ⟨%f25, H25⟩, H2, ⟨%f10, H10⟩, ⟨%f13, H13⟩, ⟨%f14, H14⟩, ⟨%f15, H15⟩, H4, H5, ⟨%f17, H17⟩, ⟨%f18, H18⟩, ⟨%f19, H19⟩, ⟨%f20, H20⟩, ⟨%f21, H21⟩⟩
  sl_exec
  ihave HG := (g_split c arg22) $$ [H22]
  · iexists _; iexact H22
  icases HG with ⟨HG, HP⟩
  imod (Transfers.batch_alloc' (Lvl := ℕ) (countersEmb (U := Pipeline.UD sig nD τ)) (c : Thread nD τ) () (NN arg22 arg26)
    (deliv c arg9 arg22 lw hl fw) (sm := .dma arg26.sem) (E := Set.univ)) $$ Hs with HB
  sl_for (issueAt c i arg1 arg6 arg7 arg9 arg22 arg23 arg24 arg25 arg26 lw hl fw f1 f6 f7) $$ [HB HG HW H1 H6 H7 H23 H24 H25]
  · intro k u
    exact issue_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 lw hl fw f1 f6 f7 hlw k u
  · have hi : (i 0).val = 0 := (cond1_iff i).mp h1
    unfold issueAt
    rw [hi]
    isplitl [HB]; · iexact HB
    isplitl [HG]; · iexact HG
    isplitl [HW]; · iexact HW
    isplitl [H1]; · iexact H1
    isplitl [H6]; · iexact H6
    isplitl [H7]; · iexact H7
    isplitl [H23]; · iexists _; iexact H23
    isplitl [H24]; · iexists _; iexact H24
    iexists _; iexact H25
  iintro %u HI
  rw [show Scf.trips k0_t1_loop.lb k0_t1_loop.ub k0_t1_loop.st = 29 from t1_trips]
  sl_exec
  rw [wp_ret]
  imodintro
  isplitl [HI]; · iexact HI
  isplitl [HP]; · iexact HP
  isplitl [H2]; · iexact H2
  unfold Reads
  isplitl [H10]
  · iexists _; isplitl [H10]; · iexact H10
    ipureintro; exact View.read_writes_full _ _ _ _ _
  isplitl [H13]
  · iexists _; isplitl [H13]; · iexact H13
    ipureintro; refine (View.read_writes_full _ _ _ _ _).trans ?_
    exact congrArg (codesV (F := F)) (View.readAt_full (Val := Elt F) arg2.view f2 inb_S128x384_S128x384_0_0)
  isplitl [H14]
  · iexists _; isplitl [H14]; · iexact H14
    ipureintro; refine (View.read_writes_full _ _ _ _ _).trans ?_
    exact congrArg (scalesV (F := F)) (View.readAt_full (Val := Elt F) arg2.view f2 inb_S128x384_S128x384_0_0)
  isplitl [H15]
  · iexists _; isplitl [H15]; · iexact H15
    ipureintro; refine (View.read_writes_full _ _ _ _ _).trans ?_
    exact congrArg (xqV (F := F)) (View.readAt_full (Val := Elt F) arg2.view f2 inb_S128x384_S128x384_0_0)
  iapply (headPost_intro c i arg4 arg5 arg17 arg18 arg19 arg20 arg21 f4 f5 _ _ _ _ _ _ rfl rfl (View.read_writes_full _ _ _ _ _) (View.read_writes_full _ _ _ _ _)
    ((View.read_writes_full _ _ _ _ _).trans (congrArg (k0_pay493 (F := F)) (View.readAt_full (Val := Elt F) arg4.view f4 inb_S128x128_S128x128_0_0))) ((View.read_writes_full _ _ _ _ _).trans (congrArg (k0_pay494 (F := F)) (View.readAt_full (Val := Elt F) arg5.view f5 inb_S128x128_S128x128_0_0))))
  isplitl [H4]; · iexact H4
  isplitl [H5]; · iexact H5
  isplitl [H17]; · iexact H17
  isplitl [H18]; · iexact H18
  isplitl [H19]; · iexact H19
  isplitl [H20]; · iexact H20
  iexact H21

end Cert.KernelIdeal.Hand

end
-- ==== Proof.KernelIdeal.Mid.lean ====
module

public import proofs.«01_k».proof.Proof.KernelIdeal.Later

/-!
  The middle of a grid point's body: two passes of sixteen slabs, the product plane folded into the
  logarithm plane after each.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

theorem t2_trips : k0_t2_loop.trips = 16 := by decide +kernel
theorem t3_trips : k0_t3_loop.trips = 16 := by decide +kernel

/-- The planes after a chunk's first sixteen slabs, -/
def mid1 (x : Vec F S128x384 .bf16) (w : Vec F S16384x384 .i8) (ws b : Vec F S128x128 .f32) : Vec F S128x128 .f32 × Vec F S128x128 .f32 :=
  planes x w (k0_pay493 ws) (k0_pay494 b) 0 16 (k0_pay495, k0_pay496)

/-- and after all thirty-two, the product plane started afresh between. -/
def mid2 (x : Vec F S128x384 .bf16) (w : Vec F S16384x384 .i8) (ws b : Vec F S128x128 .f32) : Vec F S128x128 .f32 × Vec F S128x128 .f32 :=
  planes x w (k0_pay493 ws) (k0_pay494 b) 16 16 ((mid1 x w ws b).1, k0_pay502)

/-- The logarithm plane of a chunk. -/
def logs (x : Vec F S128x384 .bf16) (w : Vec F S16384x384 .i8) (ws b : Vec F S128x128 .f32) : Vec F S128x128 .f32 :=
  k0_pay505 (k0_pay501 (k0_pay498 k0_pay497) (mid1 x w ws b).2) (mid2 x w ws b).2

set_option maxHeartbeats 2000000 in
theorem passes (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_) (v27 : Vec F S128x128 .f32)
    (x : Vec F S128x384 .bf16) (ws b : Vec F S128x128 .f32)
    (f3 : BufTy.Contents (Elt F) arg3.view.ty) :
    iprop(At c arg3 f3 ∗ Reads c arg15 x ∗ (∃ f, At (F := F) c arg16 f) ∗ Reads c arg17 (k0_pay495 (F := F)) ∗ Reads c arg18 (k0_pay496 (F := F))
        ∗ (∃ f, At (F := F) c arg19 f) ∗ Reads c arg20 (k0_pay493 ws) ∗ Reads c arg21 (k0_pay494 b))
      ⊢ wp frame (wpE (defs₀ (F := F)) Variants.none (c : Thread nD τ) none) Set.univ
          (k0_part101 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 (k0_pay497 (F := F)) v27)
          (fun r => iprop(⌜r.1 = x ∧ r.2 = k0_pay506 (F := F)⌝ ∗ At c arg3 f3 ∗ Reads c arg15 x ∗ (∃ f, At (F := F) c arg16 f)
            ∗ Reads c arg17 (mid2 x (arg3.view.read (Elt F) f3) ws b).1 ∗ (∃ f, At (F := F) c arg18 f)
            ∗ Reads c arg19 (logs x (arg3.view.read (Elt F) f3) ws b) ∗ (∃ f, At (F := F) c arg20 f) ∗ (∃ f, At (F := F) c arg21 f))) := by
  rw [k0_part101_eq_skeleton]
  unfold k0_part101_skel Reads
  iintro ⟨H3, ⟨%f15, H15, %h15⟩, H16, ⟨%f17, H17, %h17⟩, ⟨%f18, H18, %h18⟩, ⟨%f19, H19⟩, ⟨%f20, H20, %h20⟩, ⟨%f21, H21, %h21⟩⟩
  have hx : arg15.view.readAt (Elt F) (Rect.unit ![0, 0] S128x384.size inb_S128x384_S128x384_0_0).toLoadRect f15 = x :=
    (View.readAt_full _ _ _).trans h15
  sl_exec
  sl_for (inv2 c arg3 arg16 arg17 arg18 arg20 arg21 x f3 f20 f21 (k0_pay495 (F := F), k0_pay496 (F := F))) $$ [H3 H16 H17 H18 H20 H21]
  · intro k u
    rw [← hx]
    exact step2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 _ _ _ f3 f20 f21 _ k u
  · unfold inv2
    isplitl [H3]; · iexact H3
    isplitl [H20]; · iexact H20
    isplitl [H21]; · iexact H21
    isplitl [H16]; · iexact H16
    isplitl [H17]
    · iexists _; isplitl [H17]; · iexact H17
      ipureintro; exact h17
    · iexists _; isplitl [H18]; · iexact H18
      ipureintro; exact h18
  iintro %u HI
  rw [show Scf.trips k0_t2_loop.lb k0_t2_loop.ub k0_t2_loop.st = 16 from t2_trips]
  unfold inv2
  icases HI with ⟨H3, H20, H21, H16, ⟨%g17, H17, %e17⟩, ⟨%g18, H18, %e18⟩⟩
  sl_exec
  have e18' : arg18.view.readAt (Elt F) (Rect.unit ![0, 0] S128x128.size inb_S128x128_S128x128_0_0).toLoadRect g18
      = (mid1 x (arg3.view.read (Elt F) f3) ws b).2 :=
    (View.readAt_full _ _ _).trans (e18.trans (by rw [h20, h21]; rfl))
  rw [e18', show passes.sl.v32 (F := F) arg19 = k0_pay498 k0_pay497 from View.readCov_full _ _ _ _ _]
  sl_for (inv3 c arg3 arg16 arg17 arg18 arg20 arg21 x f3 f20 f21 ((mid1 x (arg3.view.read (Elt F) f3) ws b).1, k0_pay502 (F := F))) $$ [H3 H16 H17 H18 H20 H21]
  · intro k u
    exact step3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 _ _ _ f3 f20 f21 _ k u
  · unfold inv3
    isplitl [H3]; · iexact H3
    isplitl [H20]; · iexact H20
    isplitl [H21]; · iexact H21
    isplitl [H16]; · iexact H16
    isplitl [H17]
    · iexists _; isplitl [H17]; · iexact H17
      ipureintro; exact e17.trans (by rw [h20, h21]; rfl)
    · iexists _; isplitl [H18]; · iexact H18
      ipureintro; exact View.read_writes_full _ _ _ _ _
  iintro %u' HI
  rw [show Scf.trips k0_t3_loop.lb k0_t3_loop.ub k0_t3_loop.st = 16 from t3_trips]
  unfold inv3
  icases HI with ⟨H3, H20, H21, H16, ⟨%p17, H17, %r17⟩, ⟨%p18, H18, %r18⟩⟩
  sl_exec
  rw [wp_ret]
  imodintro
  isplitr; · ipureintro; exact ⟨rfl, rfl⟩
  isplitl [H3]; · iexact H3
  isplitl [H15]
  · iexists _; isplitl [H15]; · iexact H15
    ipureintro; exact h15
  isplitl [H16]; · iexact H16
  isplitl [H17]
  · iexists _; isplitl [H17]; · iexact H17
    ipureintro; exact r17.trans (by rw [h20, h21]; rfl)
  isplitl [H18]; · iexists _; iexact H18
  isplitl [H19]
  · iexists _; isplitl [H19]; · iexact H19
    ipureintro
    refine (View.read_writes_full _ _ _ _ _).trans ?_
    rw [show passes.sl.v44 (F := F) arg3 arg19 x ws b f3 = k0_pay501 (k0_pay498 k0_pay497) (mid1 x (arg3.view.read (Elt F) f3) ws b).2 from View.readCov_full _ _ _ _ _,
      show arg18.view.readAt (Elt F) (Rect.unit ![0, 0] S128x128.size inb_S128x128_S128x128_0_0).toLoadRect p18
        = (mid2 x (arg3.view.read (Elt F) f3) ws b).2 from (View.readAt_full _ _ _).trans (r18.trans (by rw [h20, h21]; rfl))]
    rfl
  isplitl [H20]; · iexists _; iexact H20
  iexists _; iexact H21

end Cert.KernelIdeal.Hand

end
-- ==== Proof.KernelIdeal.Body.lean ====
module

public import proofs.«01_k».proof.Proof.KernelIdeal.Mid

/-!
  A grid point's body: at the first point, at a point between, and at the last.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The dense losses after a point: the point's column set to the chunk's sum, the others as they were. -/
def denseStep (n : BitVec 32) (x : Vec F S128x384 .bf16) (w : Vec F S16384x384 .i8) (ws b : Vec F S128x128 .f32) (d : Vec F S128x62 .f32) : Vec F S128x62 .f32 :=
  k0_pay2 n (mid2 x w ws b).1 (logs x w ws b) d

section Bundles

variable (c : Dev nD) (arg16 : Memref sig .tc .vmem S128x512 .f32) (arg17 arg18 arg19 arg20 arg21 : Memref sig .tc .vmem S128x128 .f32)

/-- The buffers a point fills before it reads them. -/
def planesAny : sProp 𝕄 :=
  iprop((∃ f, At (F := F) c arg16 f) ∗ (∃ f, At (F := F) c arg17 f) ∗ (∃ f, At (F := F) c arg18 f) ∗ (∃ f, At (F := F) c arg19 f)
    ∗ (∃ f, At (F := F) c arg20 f) ∗ (∃ f, At (F := F) c arg21 f))

end Bundles

set_option maxHeartbeats 2000000 in
/-- The body at a point that is not the last, from what its head leaves. -/
theorem body_core (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (f3 : BufTy.Contents (Elt F) arg3.view.ty) (f4 : BufTy.Contents (Elt F) arg4.view.ty) (f5 : BufTy.Contents (Elt F) arg5.view.ty)
    (x : Vec F S128x384 .bf16) (d : Vec F S128x62 .f32) (Pre X : sProp 𝕄)
    (hhead : Pre ⊢ wp frame (wpE (defs₀ (F := F)) Variants.none (c : Thread nD τ) none) Set.univ (k0_part100 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
      (fun r => iprop(X ∗ Reads c arg10 d ∗ Reads c arg15 x ∗ headPost c i arg4 arg5 arg17 arg18 arg19 arg20 arg21 f4 f5 r)))
    (h3 : ¬ k0_cond3 i = 1#1) :
    iprop(Pre ∗ At c arg3 f3 ∗ (∃ f, At (F := F) c arg16 f))
      ⊢ wp frame (wpE (defs₀ (F := F)) Variants.none (c : Thread nD τ) none) Set.univ
          (cc0_xmc_bce (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
          (fun _ => iprop(X ∗ At c arg3 f3 ∗ At c arg4 f4 ∗ At c arg5 f5
            ∗ Reads c arg10 (denseStep (BitVec.ofNat 32 (i 0).val) x (arg3.view.read (Elt F) f3) (arg4.view.read (Elt F) f4) (arg5.view.read (Elt F) f5) d)
            ∗ Reads c arg15 x ∗ planesAny (F := F) c arg16 arg17 arg18 arg19 arg20 arg21)) := by
  rw [cc0_xmc_bce_eq_skeleton]
  unfold cc0_xmc_bce_skel planesAny
  iintro ⟨HPre, H3, H16⟩
  rw [wp_bind]
  iapply (wp_wand_r Idealize.ShloMosaic.frame (wpE (defs₀ (F := F)) Variants.none (c : Thread nD τ) none) Set.univ)
  isplitl [HPre]
  · iapply hhead; iexact HPre
  iintro %r ⟨HX, H10, H15, HP⟩
  unfold headPost
  icases HP with ⟨%hr, H4, H5, H17, H18, H19, H20, H21⟩
  obtain ⟨a0, v26, v27⟩ := r
  obtain ⟨rfl, rfl⟩ := hr
  dsimp only
  rw [wp_bind]
  iapply (wp_wand_r Idealize.ShloMosaic.frame (wpE (defs₀ (F := F)) Variants.none (c : Thread nD τ) none) Set.univ)
  isplitl [H3 H15 H16 H17 H18 H19 H20 H21]
  · iapply (passes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v27 x (arg4.view.read (Elt F) f4) (arg5.view.read (Elt F) f5) f3)
    isplitl [H3]; · iexact H3
    isplitl [H15]; · iexact H15
    isplitl [H16]; · iexact H16
    isplitl [H17]; · iexact H17
    isplitl [H18]; · iexact H18
    isplitl [H19]; · iexact H19
    isplitl [H20]; · iexact H20
    iexact H21
  iintro %r ⟨%hr, H3, H15, H16, H17, H18, H19, H20, H21⟩
  obtain ⟨v30, v51⟩ := r
  obtain ⟨hv, rfl⟩ := hr
  dsimp only at hv
  subst hv
  dsimp only
  unfold Reads
  icases H10 with ⟨%f10, H10, %h10⟩
  icases H17 with ⟨%f17, H17, %h17⟩
  icases H18 with ⟨%f18, H18⟩
  icases H19 with ⟨%f19, H19, %h19⟩
  sl_exec
  rw [wp_ret]
  imodintro
  isplitl [HX]; · iexact HX
  isplitl [H3]; · iexact H3
  isplitl [H4]; · iexact H4
  isplitl [H5]; · iexact H5
  isplitl [H10]
  · iexists _; isplitl [H10]; · iexact H10
    ipureintro
    refine (View.read_writes_full _ _ _ _ _).trans ?_
    unfold denseStep
    rw [← h17, ← h19, ← h10]
    exact congr (congr (congrArg (k0_pay2 (F := F) (BitVec.ofNat 32 (i 0).val)) (View.readAt_full (Val := Elt F) arg17.view f17 inb_S128x128_S128x128_0_0))
      (View.readAt_full (Val := Elt F) arg19.view f19 inb_S128x128_S128x128_0_0)) (View.readAt_full (Val := Elt F) arg10.view f10 inb_S128x62_S128x62_0_0)
  isplitl [H15]; · iexact H15
  isplitl [H16]; · iexact H16
  isplitl [H17]; · iexists _; iexact H17
  isplitl [H18]; · iexists _; iexact H18
  isplitl [H19]; · iexists _; iexact H19
  isplitl [H20]; · iexact H20
  iexact H21

set_option maxHeartbeats 4000000 in
/-- The body at the last point, from what its head leaves: every row issued, it waits for them all and forms the
    two results of the sparse part, at contents not named here. -/
theorem body_last (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (f3 : BufTy.Contents (Elt F) arg3.view.ty) (f4 : BufTy.Contents (Elt F) arg4.view.ty) (f5 : BufTy.Contents (Elt F) arg5.view.ty)
    (x : Vec F S128x384 .bf16) (d : Vec F S128x62 .f32)
    (lw : Fin 1764 → BitVec 32) (hl : ∀ p, LabOk (lw p)) (fw : BufTy.Contents (Elt F) arg9.view.ty)
    (hN : 0 < NN arg22 arg26) (f8 : BufTy.Contents (Elt F) arg8.view.ty) (g₀ : BufTy.Contents (Elt F) arg22.view.ty)
    (Pre X : sProp 𝕄)
    (hhead : Pre ⊢ wp frame (wpE (defs₀ (F := F)) Variants.none (c : Thread nD τ) none) Set.univ (k0_part100 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
      (fun r => iprop((X ∗ batch c arg9 arg22 lw hl fw arg26 1764 0 ∗ (∃ f, At (F := F) c arg23 f) ∗ (∃ f, At (F := F) c arg24 f) ∗ (∃ f, At (F := F) c arg25 f)) ∗ Reads c arg10 d ∗ Reads c arg15 x ∗ headPost c i arg4 arg5 arg17 arg18 arg19 arg20 arg21 f4 f5 r)))
    (h3 : k0_cond3 i = 1#1) :
    iprop(Pre ∗ At c arg3 f3 ∗ (∃ f, At (F := F) c arg16 f) ∗ pads (F := F) c arg22 ∗ At c arg8 f8
        ∗ (∃ f, At (F := F) c arg11 f) ∗ (∃ f, At (F := F) c arg12 f) ∗ (∃ W, owes (c : Thread nD τ) 0 W))
      ⊢ wp frame (wpE (defs₀ (F := F)) Variants.none (c : Thread nD τ) none) Set.univ
          (cc0_xmc_bce (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
          (fun _ => iprop(X ∗ At c arg3 f3 ∗ At c arg4 f4 ∗ At c arg5 f5
            ∗ Reads c arg10 (denseStep (BitVec.ofNat 32 (i 0).val) x (arg3.view.read (Elt F) f3) (arg4.view.read (Elt F) f4) (arg5.view.read (Elt F) f5) d)
            ∗ Reads c arg15 x ∗ planesAny (F := F) c arg16 arg17 arg18 arg19 arg20 arg21
            ∗ At c arg8 f8 ∗ (∃ f, At (F := F) c arg11 f) ∗ (∃ f, At (F := F) c arg12 f) ∗ (∃ W, owes (c : Thread nD τ) 0 W)
            ∗ semVal ((c : Thread nD τ), SemLoc.dma arg26.sem) 0 ∗ bigSep (Ring.rangeSet 1764 0 1764) (wTok c arg9 lw hl fw)
            ∗ (∃ f, At (F := F) c arg22 f) ∗ (∃ f, At (F := F) c arg23 f) ∗ (∃ f, At (F := F) c arg24 f) ∗ (∃ f, At (F := F) c arg25 f))) := by
  rw [cc0_xmc_bce_eq_skeleton]
  unfold cc0_xmc_bce_skel planesAny
  iintro ⟨HPre, H3, H16, HPd, H8, ⟨%f11, H11⟩, ⟨%f12, H12⟩, HO⟩
  rw [wp_bind]
  iapply (wp_wand_r Idealize.ShloMosaic.frame (wpE (defs₀ (F := F)) Variants.none (c : Thread nD τ) none) Set.univ)
  isplitl [HPre]
  · iapply hhead; iexact HPre
  iintro %r ⟨HX, H10, H15, HP⟩
  unfold headPost
  icases HP with ⟨%hr, H4, H5, H17, H18, H19, H20, H21⟩
  obtain ⟨a0, v26, v27⟩ := r
  obtain ⟨rfl, rfl⟩ := hr
  dsimp only
  rw [wp_bind]
  iapply (wp_wand_r Idealize.ShloMosaic.frame (wpE (defs₀ (F := F)) Variants.none (c : Thread nD τ) none) Set.univ)
  isplitl [H3 H15 H16 H17 H18 H19 H20 H21]
  · iapply (passes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v27 x (arg4.view.read (Elt F) f4) (arg5.view.read (Elt F) f5) f3)
    isplitl [H3]; · iexact H3
    isplitl [H15]; · iexact H15
    isplitl [H16]; · iexact H16
    isplitl [H17]; · iexact H17
    isplitl [H18]; · iexact H18
    isplitl [H19]; · iexact H19
    isplitl [H20]; · iexact H20
    iexact H21
  iintro %r ⟨%hr, H3, H15, H16, H17, H18, H19, H20, H21⟩
  obtain ⟨v30, v51⟩ := r
  obtain ⟨hv, rfl⟩ := hr
  dsimp only at hv
  subst hv
  dsimp only
  unfold Reads
  icases H10 with ⟨%f10, H10, %h10⟩
  icases H17 with ⟨%f17, H17, %h17⟩
  icases H18 with ⟨%f18, H18⟩
  icases H19 with ⟨%f19, H19, %h19⟩
  icases HX with ⟨HX, HB, ⟨%f23, H23⟩, ⟨%f24, H24⟩, ⟨%f25, H25⟩⟩
  sl_exec
  sl_for (drainAt c arg9 arg22 arg26 lw hl fw) $$ [HB HO]
  · intro k u
    exact drain_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 lw hl fw hN v30 h3 k u
  · unfold drainAt
    rw [if_pos (by omega)]
    isplitl [HO]; · iexact HO
    rw [Nat.zero_mul]
    iexact HB
  iintro %u HI
  rw [show Scf.trips k0_t4_loop.lb k0_t4_loop.ub k0_t4_loop.st = 1764 from t4_trips]
  unfold drainAt
  rw [if_neg (Nat.lt_irrefl _), deliv_eq]
  icases HI with ⟨HO, Hs, HG, HW⟩
  ihave HG := (g_join c arg22 g₀) $$ [HG HPd]
  · isplitl [HG] <;> iassumption
  icases HG with ⟨%f22, H22⟩
  sl_exec
  rw [wp_ret]
  imodintro
  isplitl [HX]; · iexact HX
  isplitl [H3]; · iexact H3
  isplitl [H4]; · iexact H4
  isplitl [H5]; · iexact H5
  isplitl [H10]
  · iexists _; isplitl [H10]; · iexact H10
    ipureintro
    refine (View.read_writes_full _ _ _ _ _).trans ?_
    unfold denseStep
    rw [← h17, ← h19, ← h10]
    exact congr (congr (congrArg (k0_pay2 (F := F) (BitVec.ofNat 32 (i 0).val)) (View.readAt_full (Val := Elt F) arg17.view f17 inb_S128x128_S128x128_0_0))
      (View.readAt_full (Val := Elt F) arg19.view f19 inb_S128x128_S128x128_0_0)) (View.readAt_full (Val := Elt F) arg10.view f10 inb_S128x62_S128x62_0_0)
  isplitl [H15]; · iexact H15
  isplitl [H16 H17 H18 H19 H20 H21]
  · isplitl [H16]; · iexact H16
    isplitl [H17]; · iexists _; iexact H17
    isplitl [H18]; · iexists _; iexact H18
    isplitl [H19]; · iexists _; iexact H19
    isplitl [H20]; · iexact H20
    iexact H21
  isplitl [H8]; · iexact H8
  isplitl [H11]; · iexists _; iexact H11
  isplitl [H12]; · iexists _; iexact H12
  isplitl [HO]; · iexact HO
  isplitl [Hs]; · iexact Hs
  isplitl [HW]; · iexact HW
  isplitl [H22]; · iexists _; iexact H22
  isplitl [H23]; · iexists _; iexact H23
  isplitl [H24]; · iexists _; iexact H24
  iexists _; iexact H25

end Cert.KernelIdeal.Hand

end
-- ==== Proof.KernelIdeal.Point.lean ====
module

public import proofs.«01_k».proof.Proof.KernelIdeal.Body

/-!
  A grid point as the pipeline meets it: every buffer at what it reads, the transfers in flight between points.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- A buffer owned, at some contents. -/
def Some' (c : Dev nD) {sp : Space} {S : Shape} {e : EltTy} (M : Memref sig .tc sp S e) : sProp 𝕄 := iprop(∃ f, At (F := F) c M f)

/-- What is in flight, and what is not yet used, once `n` rows are asked for. -/
def carry (c : Dev nD) (arg9 : Memref sig .tc .hbm S253952x384 .i32) (arg22 : Memref sig .tc .vmem S1792x384 .i32)
    (arg23 arg24 : Memref sig .tc .vmem S1792x128 .f32) (arg25 : Memref sig .tc .vmem S1792x128 .i32) (arg26 : DmaSems sig S_)
    (lw : Fin 1764 → BitVec 32) (hl : ∀ p, LabOk (lw p)) (fw : BufTy.Contents (Elt F) arg9.view.ty) (n : ℕ) : sProp 𝕄 :=
  iprop(batch c arg9 arg22 lw hl fw arg26 n 0
    ∗ bigSep (Ring.rangeSet 1764 n 1764) (blkG (F := F) c arg22)
    ∗ bigSep (Ring.rangeSet 1764 n 1764) (wTok c arg9 lw hl fw)
    ∗ (∃ f, At (F := F) c arg23 f) ∗ (∃ f, At (F := F) c arg24 f) ∗ (∃ f, At (F := F) c arg25 f))

section Inputs

variable (c : Dev nD) (arg1 : Memref sig .tc .smem S1764 .i32) (arg2 : Memref sig .tc .vmem S128x384 .bf16)
  (arg3 : Memref sig .tc .vmem S16384x384 .i8) (arg4 arg5 : Memref sig .tc .vmem S128x128 .f32) (arg6 arg7 : Memref sig .tc .vmem S7936x128 .f32)
  (arg8 : Memref sig .tc .vmem S2x128 .i32)
  (v1 : Vec F S1764 .i32) (v2 : Vec F S128x384 .bf16) (v3 : Vec F S16384x384 .i8) (v4 v5 : Vec F S128x128 .f32) (v6 v7 : Vec F S7936x128 .f32)
  (v8 : Vec F S2x128 .i32)

/-- The input blocks of a point. -/
def ins : sProp 𝕄 :=
  iprop(Reads c arg1 v1 ∗ Reads c arg2 v2 ∗ Reads c arg3 v3 ∗ Reads c arg4 v4 ∗ Reads c arg5 v5 ∗ Reads c arg6 v6 ∗ Reads c arg7 v7 ∗ Reads c arg8 v8)

end Inputs

theorem issueAt_of (c : Dev nD) (i : grid0.Coords) (arg1 : Memref sig .tc .smem S1764 .i32) (arg6 arg7 : Memref sig .tc .vmem S7936x128 .f32)
    (arg9 : Memref sig .tc .hbm S253952x384 .i32) (arg22 : Memref sig .tc .vmem S1792x384 .i32) (arg23 arg24 : Memref sig .tc .vmem S1792x128 .f32)
    (arg25 : Memref sig .tc .vmem S1792x128 .i32) (arg26 : DmaSems sig S_)
    (lw : Fin 1764 → BitVec 32) (hl : ∀ p, LabOk (lw p)) (fw : BufTy.Contents (Elt F) arg9.view.ty)
    (f1 : BufTy.Contents (Elt F) arg1.view.ty) (f6 : BufTy.Contents (Elt F) arg6.view.ty) (f7 : BufTy.Contents (Elt F) arg7.view.ty)
    (k n : ℕ) (hn : min (29 * (i 0).val + k) 1764 = n) :
    iprop(carry c arg9 arg22 arg23 arg24 arg25 arg26 lw hl fw n ∗ At c arg1 f1 ∗ At c arg6 f6 ∗ At c arg7 f7)
      ⊢ issueAt c i arg1 arg6 arg7 arg9 arg22 arg23 arg24 arg25 arg26 lw hl fw f1 f6 f7 k () := by
  subst hn
  unfold carry issueAt
  iintro ⟨⟨HB, Hg, Hw, H23, H24, H25⟩, H1, H6, H7⟩
  isplitl [HB]; · iexact HB
  isplitl [Hg]; · iexact Hg
  isplitl [Hw]; · iexact Hw
  isplitl [H1]; · iexact H1
  isplitl [H6]; · iexact H6
  isplitl [H7]; · iexact H7
  isplitl [H23]; · iexact H23
  isplitl [H24]; · iexact H24
  iexact H25

theorem issueAt_to (c : Dev nD) (i : grid0.Coords) (arg1 : Memref sig .tc .smem S1764 .i32) (arg6 arg7 : Memref sig .tc .vmem S7936x128 .f32)
    (arg9 : Memref sig .tc .hbm S253952x384 .i32) (arg22 : Memref sig .tc .vmem S1792x384 .i32) (arg23 arg24 : Memref sig .tc .vmem S1792x128 .f32)
    (arg25 : Memref sig .tc .vmem S1792x128 .i32) (arg26 : DmaSems sig S_)
    (lw : Fin 1764 → BitVec 32) (hl : ∀ p, LabOk (lw p)) (fw : BufTy.Contents (Elt F) arg9.view.ty)
    (f1 : BufTy.Contents (Elt F) arg1.view.ty) (f6 : BufTy.Contents (Elt F) arg6.view.ty) (f7 : BufTy.Contents (Elt F) arg7.view.ty)
    (k n : ℕ) (hn : min (29 * (i 0).val + k) 1764 = n) :
    issueAt c i arg1 arg6 arg7 arg9 arg22 arg23 arg24 arg25 arg26 lw hl fw f1 f6 f7 k ()
      ⊢ iprop(carry c arg9 arg22 arg23 arg24 arg25 arg26 lw hl fw n ∗ At c arg1 f1 ∗ At c arg6 f6 ∗ At c arg7 f7) := by
  subst hn
  unfold carry issueAt
  iintro ⟨HB, Hg, Hw, H1, H6, H7, H23, H24, H25⟩
  isplitl [HB Hg Hw H23 H24 H25]
  · isplitl [HB]; · iexact HB
    isplitl [Hg]; · iexact Hg
    isplitl [Hw]; · iexact Hw
    isplitl [H23]; · iexact H23
    isplitl [H24]; · iexact H24
    iexact H25
  isplitl [H1]; · iexact H1
  isplitl [H6]; · iexact H6
  iexact H7

/-- A buffer held at given contents reads what it reads. -/
theorem reads_at (c : Dev nD) {sp : Space} {S : Shape} {e : EltTy} (M : Memref sig .tc sp S e) (f : BufTy.Contents (Elt F) M.view.ty)
    (v : S.Idx → Elt F e) (h : M.view.read (Elt F) f = v) : (At c M f : sProp 𝕄) ⊢ Reads c M v := by
  unfold Reads
  iintro H
  iexists f
  isplitl [H]; · iexact H
  ipureintro; exact h

set_option maxHeartbeats 2000000 in
/-- The first point. -/
theorem point_first (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (lw : Fin 1764 → BitVec 32) (hl : ∀ p, LabOk (lw p)) (fw : BufTy.Contents (Elt F) arg9.view.ty)
    (v1 : Vec F S1764 .i32) (v2 : Vec F S128x384 .bf16) (v3 : Vec F S16384x384 .i8) (v4 v5 : Vec F S128x128 .f32) (v6 v7 : Vec F S7936x128 .f32)
    (v8 : Vec F S2x128 .i32) (hlw : ∀ p, lw p = v1 (ix1 p)) (n : ℕ) (hn : min (29 * (i 0).val + 29) 1764 = n)
    (h1 : k0_cond1 i = 1#1) (h3 : ¬ k0_cond3 i = 1#1) :
    iprop((semVal ((c : Thread nD τ), SemLoc.dma arg26.sem) 0 ∗ Some' (F := F) c arg22 ∗ bigSep (Ring.rangeSet 1764 0 1764) (wTok c arg9 lw hl fw)
          ∗ Some' (F := F) c arg23 ∗ Some' (F := F) c arg24 ∗ Some' (F := F) c arg25 ∗ Some' (F := F) c arg15 ∗ planesAny (F := F) c arg16 arg17 arg18 arg19 arg20 arg21)
        ∗ ins c arg1 arg2 arg3 arg4 arg5 arg6 arg7 arg8 v1 v2 v3 v4 v5 v6 v7 v8
        ∗ Some' (F := F) c arg10 ∗ Some' (F := F) c arg13 ∗ Some' (F := F) c arg14)
      ⊢ wp frame (wpE (defs₀ (F := F)) Variants.none (c : Thread nD τ) none) Set.univ
          (cc0_xmc_bce (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
          (fun _ => iprop((carry c arg9 arg22 arg23 arg24 arg25 arg26 lw hl fw n ∗ pads (F := F) c arg22 ∗ Reads c arg15 (xqV v2)
              ∗ planesAny (F := F) c arg16 arg17 arg18 arg19 arg20 arg21)
            ∗ ins c arg1 arg2 arg3 arg4 arg5 arg6 arg7 arg8 v1 v2 v3 v4 v5 v6 v7 v8
            ∗ Reads c arg10 (denseStep (BitVec.ofNat 32 (i 0).val) (xqV v2) v3 v4 v5 k0_pay14)
            ∗ Reads c arg13 (codesV v2) ∗ Reads c arg14 (scalesV v2))) := by
  unfold ins planesAny Some'
  conv => lhs; unfold Reads
  iintro ⟨⟨Hs, H22, Hw, H23, H24, H25, H15, H16, H17, H18, H19, H20, H21⟩, ⟨⟨%f1, H1, %e1⟩, ⟨%f2, H2, %e2⟩, ⟨%f3, H3, %e3⟩, ⟨%f4, H4, %e4⟩, ⟨%f5, H5, %e5⟩, ⟨%f6, H6, %e6⟩, ⟨%f7, H7, %e7⟩, ⟨%f8, H8, %e8⟩⟩, H10, H13, H14⟩
  iapply (wp_wand_r Idealize.ShloMosaic.frame (wpE (defs₀ (F := F)) Variants.none (c : Thread nD τ) none) Set.univ)
  isplitl [Hs H22 Hw H23 H24 H25 H15 H16 H17 H18 H19 H20 H21 H1 H2 H3 H4 H5 H6 H7 H10 H13 H14]
  · iapply (body_core c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 f3 f4 f5 (xqV (arg2.view.read (Elt F) f2)) (k0_pay14 (F := F)) _
      iprop(issueAt c i arg1 arg6 arg7 arg9 arg22 arg23 arg24 arg25 arg26 lw hl fw f1 f6 f7 29 () ∗ pads (F := F) c arg22 ∗ At c arg2 f2
        ∗ Reads c arg13 (codesV (arg2.view.read (Elt F) f2)) ∗ Reads c arg14 (scalesV (arg2.view.read (Elt F) f2)))
      ((head_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 lw hl fw f1 f6 f7 f4 f5 (fun p => by rw [e1]; exact hlw p) f2 h1).trans
        (wp_mono Idealize.ShloMosaic.frame _ _ fun r => by
          iintro ⟨HI, HP, H2, H10, H13, H14, H15, HH⟩
          isplitl [HI HP H2 H13 H14]
          · isplitl [HI]; · iexact HI
            isplitl [HP]; · iexact HP
            isplitl [H2]; · iexact H2
            isplitl [H13]; · iexact H13
            iexact H14
          isplitl [H10]; · iexact H10
          isplitl [H15]; · iexact H15
          iexact HH)) h3)
    isplitr [H3 H16]
    · isplitl [Hs]; · iexact Hs
      isplitl [H22]; · iexact H22
      isplitl [Hw]; · iexact Hw
      isplitl [H1]; · iexact H1
      isplitl [H6]; · iexact H6
      isplitl [H7]; · iexact H7
      isplitl [H23]; · iexact H23
      isplitl [H24]; · iexact H24
      isplitl [H25]; · iexact H25
      isplitl [H2]; · iexact H2
      isplitl [H10]; · iexact H10
      isplitl [H13]; · iexact H13
      isplitl [H14]; · iexact H14
      isplitl [H15]; · iexact H15
      isplitl [H4]; · iexact H4
      isplitl [H5]; · iexact H5
      isplitl [H17]; · iexact H17
      isplitl [H18]; · iexact H18
      isplitl [H19]; · iexact H19
      isplitl [H20]; · iexact H20
      iexact H21
    isplitl [H3]; · iexact H3
    iexact H16
  iintro %r ⟨⟨HI, HP, H2, H13, H14⟩, H3, H4, H5, H10, H15, HPl⟩
  ihave HI := (issueAt_to c i arg1 arg6 arg7 arg9 arg22 arg23 arg24 arg25 arg26 lw hl fw f1 f6 f7 29 n hn) $$ HI
  icases HI with ⟨HC, H1, H6, H7⟩
  rw [e2, e3, e4, e5]
  isplitl [HC HP H15 HPl]
  · isplitl [HC]; · iexact HC
    isplitl [HP]; · iexact HP
    isplitl [H15]; · iexact H15
    unfold planesAny; iexact HPl
  isplitl [H1 H2 H3 H4 H5 H6 H7 H8]
  · isplitl [H1]; · iapply (reads_at c arg1 f1 v1 e1); iexact H1
    isplitl [H2]; · iapply (reads_at c arg2 f2 v2 e2); iexact H2
    isplitl [H3]; · iapply (reads_at c arg3 f3 v3 e3); iexact H3
    isplitl [H4]; · iapply (reads_at c arg4 f4 v4 e4); iexact H4
    isplitl [H5]; · iapply (reads_at c arg5 f5 v5 e5); iexact H5
    isplitl [H6]; · iapply (reads_at c arg6 f6 v6 e6); iexact H6
    isplitl [H7]; · iapply (reads_at c arg7 f7 v7 e7); iexact H7
    iapply (reads_at c arg8 f8 v8 e8); iexact H8
  isplitl [H10]; · iexact H10
  isplitl [H13]; · iexact H13
  iexact H14

set_option maxHeartbeats 2000000 in
/-- A point between. -/
theorem point_mid (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (lw : Fin 1764 → BitVec 32) (hl : ∀ p, LabOk (lw p)) (fw : BufTy.Contents (Elt F) arg9.view.ty)
    (v1 : Vec F S1764 .i32) (v2 : Vec F S128x384 .bf16) (v3 : Vec F S16384x384 .i8) (v4 v5 : Vec F S128x128 .f32) (v6 v7 : Vec F S7936x128 .f32)
    (v8 : Vec F S2x128 .i32) (hlw : ∀ p, lw p = v1 (ix1 p)) (x : Vec F S128x384 .bf16) (d : Vec F S128x62 .f32)
    (k n : ℕ) (hk : min (29 * (i 0).val + 0) 1764 = k) (hn : min (29 * (i 0).val + 29) 1764 = n)
    (h1 : ¬ k0_cond1 i = 1#1) (h3 : ¬ k0_cond3 i = 1#1) :
    iprop((carry c arg9 arg22 arg23 arg24 arg25 arg26 lw hl fw k ∗ Reads c arg15 x ∗ planesAny (F := F) c arg16 arg17 arg18 arg19 arg20 arg21)
        ∗ ins c arg1 arg2 arg3 arg4 arg5 arg6 arg7 arg8 v1 v2 v3 v4 v5 v6 v7 v8
        ∗ Reads c arg10 d)
      ⊢ wp frame (wpE (defs₀ (F := F)) Variants.none (c : Thread nD τ) none) Set.univ
          (cc0_xmc_bce (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
          (fun _ => iprop((carry c arg9 arg22 arg23 arg24 arg25 arg26 lw hl fw n ∗ Reads c arg15 x
              ∗ planesAny (F := F) c arg16 arg17 arg18 arg19 arg20 arg21)
            ∗ ins c arg1 arg2 arg3 arg4 arg5 arg6 arg7 arg8 v1 v2 v3 v4 v5 v6 v7 v8
            ∗ Reads c arg10 (denseStep (BitVec.ofNat 32 (i 0).val) x v3 v4 v5 d))) := by
  unfold ins planesAny
  conv => lhs; congr; rfl; congr; unfold Reads; rfl; rfl
  iintro ⟨⟨HC, H15, H16, H17, H18, H19, H20, H21⟩, ⟨⟨%f1, H1, %e1⟩, ⟨%f2, H2, %e2⟩, ⟨%f3, H3, %e3⟩, ⟨%f4, H4, %e4⟩, ⟨%f5, H5, %e5⟩, ⟨%f6, H6, %e6⟩, ⟨%f7, H7, %e7⟩, ⟨%f8, H8, %e8⟩⟩, H10⟩
  ihave HI := (issueAt_of c i arg1 arg6 arg7 arg9 arg22 arg23 arg24 arg25 arg26 lw hl fw f1 f6 f7 0 k hk) $$ [HC H1 H6 H7]
  · isplitl [HC]; · iexact HC
    isplitl [H1]; · iexact H1
    isplitl [H6]; · iexact H6
    iexact H7
  iapply (wp_wand_r Idealize.ShloMosaic.frame (wpE (defs₀ (F := F)) Variants.none (c : Thread nD τ) none) Set.univ)
  isplitl [HI H15 H16 H17 H18 H19 H20 H21 H3 H4 H5 H10]
  · iapply (body_core c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 f3 f4 f5 x d
      iprop((issueAt c i arg1 arg6 arg7 arg9 arg22 arg23 arg24 arg25 arg26 lw hl fw f1 f6 f7 0 ()
        ∗ At c arg4 f4 ∗ At c arg5 f5 ∗ (∃ f, At (F := F) c arg17 f) ∗ (∃ f, At (F := F) c arg18 f) ∗ (∃ f, At (F := F) c arg19 f)
        ∗ (∃ f, At (F := F) c arg20 f) ∗ (∃ f, At (F := F) c arg21 f)) ∗ Reads c arg10 d ∗ Reads c arg15 x)
      iprop(issueAt c i arg1 arg6 arg7 arg9 arg22 arg23 arg24 arg25 arg26 lw hl fw f1 f6 f7 29 ())
      (by
        iintro ⟨HI, H10, H15⟩
        iapply (wp_wand_r Idealize.ShloMosaic.frame (wpE (defs₀ (F := F)) Variants.none (c : Thread nD τ) none) Set.univ)
        isplitl [HI]
        · iapply (head_later c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 lw hl fw f1 f6 f7 f4 f5 (fun p => by rw [e1]; exact hlw p) h1); iexact HI
        iintro %r ⟨HI, HH⟩
        isplitl [HI]; · iexact HI
        isplitl [H10]; · iexact H10
        isplitl [H15]; · iexact H15
        iexact HH) h3)
    isplitr [H3 H16]
    · isplitr [H10 H15]
      · isplitl [HI]; · iexact HI
        isplitl [H4]; · iexact H4
        isplitl [H5]; · iexact H5
        isplitl [H17]; · iexact H17
        isplitl [H18]; · iexact H18
        isplitl [H19]; · iexact H19
        isplitl [H20]; · iexact H20
        iexact H21
      isplitl [H10]; · iexact H10
      iexact H15
    isplitl [H3]; · iexact H3
    iexact H16
  iintro %r ⟨HI, H3, H4, H5, H10, H15, HPl⟩
  ihave HI := (issueAt_to c i arg1 arg6 arg7 arg9 arg22 arg23 arg24 arg25 arg26 lw hl fw f1 f6 f7 29 n hn) $$ HI
  icases HI with ⟨HC, H1, H6, H7⟩
  rw [e3, e4, e5]
  isplitl [HC H15 HPl]
  · isplitl [HC]; · iexact HC
    isplitl [H15]; · iexact H15
    unfold planesAny; iexact HPl
  isplitl [H1 H2 H3 H4 H5 H6 H7 H8]
  · isplitl [H1]; · iapply (reads_at c arg1 f1 v1 e1); iexact H1
    isplitl [H2]; · iapply (reads_at c arg2 f2 v2 e2); iexact H2
    isplitl [H3]; · iapply (reads_at c arg3 f3 v3 e3); iexact H3
    isplitl [H4]; · iapply (reads_at c arg4 f4 v4 e4); iexact H4
    isplitl [H5]; · iapply (reads_at c arg5 f5 v5 e5); iexact H5
    isplitl [H6]; · iapply (reads_at c arg6 f6 v6 e6); iexact H6
    isplitl [H7]; · iapply (reads_at c arg7 f7 v7 e7); iexact H7
    iapply (reads_at c arg8 f8 v8 e8); iexact H8
  iexact H10

set_option maxHeartbeats 2000000 in
/-- The last point. -/
theorem point_last (c : Dev nD) (i : grid0.Coords) (arg1 : Memref sig .tc .smem S1764 .i32) (harg1 : arg1.IsWhole) (arg2 : Memref sig .tc .vmem S128x384 .bf16) (harg2 : arg2.IsWhole) (arg3 : Memref sig .tc .vmem S16384x384 .i8) (harg3 : arg3.IsWhole) (arg4 : Memref sig .tc .vmem S128x128 .f32) (harg4 : arg4.IsWhole) (arg5 : Memref sig .tc .vmem S128x128 .f32) (harg5 : arg5.IsWhole) (arg6 : Memref sig .tc .vmem S7936x128 .f32) (harg6 : arg6.IsWhole) (arg7 : Memref sig .tc .vmem S7936x128 .f32) (harg7 : arg7.IsWhole) (arg8 : Memref sig .tc .vmem S2x128 .i32) (harg8 : arg8.IsWhole) (arg9 : Memref sig .tc .hbm S253952x384 .i32) (harg9 : arg9.IsWhole) (arg10 : Memref sig .tc .vmem S128x62 .f32) (harg10 : arg10.IsWhole) (arg11 : Memref sig .tc .vmem S1x128 .f32) (harg11 : arg11.IsWhole) (arg12 : Memref sig .tc .vmem S1764 .f32) (harg12 : arg12.IsWhole) (arg13 : Memref sig .tc .vmem S128x384 .fp8e4m3) (harg13 : arg13.IsWhole) (arg14 : Memref sig .tc .vmem S1x128 .f32) (harg14 : arg14.IsWhole) (arg15 : Memref sig .tc .vmem S128x384 .bf16) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S1792x384 .i32) (harg22 : arg22.IsWhole) (arg23 : Memref sig .tc .vmem S1792x128 .f32) (harg23 : arg23.IsWhole) (arg24 : Memref sig .tc .vmem S1792x128 .f32) (harg24 : arg24.IsWhole) (arg25 : Memref sig .tc .vmem S1792x128 .i32) (harg25 : arg25.IsWhole) (arg26 : DmaSems sig S_)
    (lw : Fin 1764 → BitVec 32) (hl : ∀ p, LabOk (lw p)) (fw : BufTy.Contents (Elt F) arg9.view.ty)
    (hN : 0 < NN arg22 arg26) (g₀ : BufTy.Contents (Elt F) arg22.view.ty)
    (v1 : Vec F S1764 .i32) (v2 : Vec F S128x384 .bf16) (v3 : Vec F S16384x384 .i8) (v4 v5 : Vec F S128x128 .f32) (v6 v7 : Vec F S7936x128 .f32)
    (v8 : Vec F S2x128 .i32) (hlw : ∀ p, lw p = v1 (ix1 p)) (x : Vec F S128x384 .bf16) (d : Vec F S128x62 .f32)
    (k : ℕ) (hk : min (29 * (i 0).val + 0) 1764 = k) (hn : min (29 * (i 0).val + 29) 1764 = 1764)
    (h1 : ¬ k0_cond1 i = 1#1) (h3 : k0_cond3 i = 1#1) :
    iprop((carry c arg9 arg22 arg23 arg24 arg25 arg26 lw hl fw k ∗ pads (F := F) c arg22 ∗ Reads c arg15 x ∗ planesAny (F := F) c arg16 arg17 arg18 arg19 arg20 arg21)
        ∗ ins c arg1 arg2 arg3 arg4 arg5 arg6 arg7 arg8 v1 v2 v3 v4 v5 v6 v7 v8
        ∗ Reads c arg10 d ∗ Some' (F := F) c arg11 ∗ Some' (F := F) c arg12 ∗ (∃ W, owes (c : Thread nD τ) 0 W))
      ⊢ wp frame (wpE (defs₀ (F := F)) Variants.none (c : Thread nD τ) none) Set.univ
          (cc0_xmc_bce (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26)
          (fun _ => iprop((semVal ((c : Thread nD τ), SemLoc.dma arg26.sem) 0 ∗ Some' (F := F) c arg22 ∗ bigSep (Ring.rangeSet 1764 0 1764) (wTok c arg9 lw hl fw)
              ∗ Some' (F := F) c arg23 ∗ Some' (F := F) c arg24 ∗ Some' (F := F) c arg25 ∗ Reads c arg15 x ∗ planesAny (F := F) c arg16 arg17 arg18 arg19 arg20 arg21)
            ∗ ins c arg1 arg2 arg3 arg4 arg5 arg6 arg7 arg8 v1 v2 v3 v4 v5 v6 v7 v8
            ∗ Reads c arg10 (denseStep (BitVec.ofNat 32 (i 0).val) x v3 v4 v5 d)
            ∗ Some' (F := F) c arg11 ∗ Some' (F := F) c arg12 ∗ (∃ W, owes (c : Thread nD τ) 0 W))) := by
  unfold ins planesAny Some'
  conv => lhs; congr; rfl; congr; unfold Reads; rfl; rfl
  iintro ⟨⟨HC, HPd, H15, H16, H17, H18, H19, H20, H21⟩, ⟨⟨%f1, H1, %e1⟩, ⟨%f2, H2, %e2⟩, ⟨%f3, H3, %e3⟩, ⟨%f4, H4, %e4⟩, ⟨%f5, H5, %e5⟩, ⟨%f6, H6, %e6⟩, ⟨%f7, H7, %e7⟩, ⟨%f8, H8, %e8⟩⟩, H10, H11, H12, HO⟩
  ihave HI := (issueAt_of c i arg1 arg6 arg7 arg9 arg22 arg23 arg24 arg25 arg26 lw hl fw f1 f6 f7 0 k hk) $$ [HC H1 H6 H7]
  · isplitl [HC]; · iexact HC
    isplitl [H1]; · iexact H1
    isplitl [H6]; · iexact H6
    iexact H7
  iapply (wp_wand_r Idealize.ShloMosaic.frame (wpE (defs₀ (F := F)) Variants.none (c : Thread nD τ) none) Set.univ)
  isplitl [HI HPd H15 H16 H17 H18 H19 H20 H21 H3 H4 H5 H8 H10 H11 H12 HO]
  · iapply (body_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 f3 f4 f5 x d lw hl fw hN f8 g₀
      iprop((issueAt c i arg1 arg6 arg7 arg9 arg22 arg23 arg24 arg25 arg26 lw hl fw f1 f6 f7 0 ()
        ∗ At c arg4 f4 ∗ At c arg5 f5 ∗ (∃ f, At (F := F) c arg17 f) ∗ (∃ f, At (F := F) c arg18 f) ∗ (∃ f, At (F := F) c arg19 f)
        ∗ (∃ f, At (F := F) c arg20 f) ∗ (∃ f, At (F := F) c arg21 f)) ∗ Reads c arg10 d ∗ Reads c arg15 x)
      iprop(At c arg1 f1 ∗ At c arg6 f6 ∗ At c arg7 f7)
      (by
        iintro ⟨HI, H10, H15⟩
        iapply (wp_wand_r Idealize.ShloMosaic.frame (wpE (defs₀ (F := F)) Variants.none (c : Thread nD τ) none) Set.univ)
        isplitl [HI]
        · iapply (head_later c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 lw hl fw f1 f6 f7 f4 f5 (fun p => by rw [e1]; exact hlw p) h1); iexact HI
        iintro %r ⟨HI, HH⟩
        ihave HI := (issueAt_to c i arg1 arg6 arg7 arg9 arg22 arg23 arg24 arg25 arg26 lw hl fw f1 f6 f7 29 1764 hn) $$ HI
        unfold carry
        icases HI with ⟨⟨HB, -, -, H23, H24, H25⟩, H1, H6, H7⟩
        isplitl [HB H23 H24 H25 H1 H6 H7]
        · isplitl [H1 H6 H7]
          · isplitl [H1]; · iexact H1
            isplitl [H6]; · iexact H6
            iexact H7
          isplitl [HB]; · iexact HB
          isplitl [H23]; · iexact H23
          isplitl [H24]; · iexact H24
          iexact H25
        isplitl [H10]; · iexact H10
        isplitl [H15]; · iexact H15
        iexact HH) h3)
    isplitl [HI H4 H5 H17 H18 H19 H20 H21 H10 H15]
    · isplitr [H10 H15]
      · isplitl [HI]; · iexact HI
        isplitl [H4]; · iexact H4
        isplitl [H5]; · iexact H5
        isplitl [H17]; · iexact H17
        isplitl [H18]; · iexact H18
        isplitl [H19]; · iexact H19
        isplitl [H20]; · iexact H20
        iexact H21
      isplitl [H10]; · iexact H10
      iexact H15
    isplitl [H3]; · iexact H3
    isplitl [H16]; · iexact H16
    isplitl [HPd]; · iexact HPd
    isplitl [H8]; · iexact H8
    isplitl [H11]; · iexact H11
    isplitl [H12]; · iexact H12
    iexact HO
  iintro %r ⟨⟨H1, H6, H7⟩, H3, H4, H5, H10, H15, HPl, H8, H11, H12, HO, Hs, Hw, H22, H23, H24, H25⟩
  rw [e3, e4, e5]
  isplitl [Hs H22 Hw H23 H24 H25 H15 HPl]
  · isplitl [Hs]; · iexact Hs
    isplitl [H22]; · iexact H22
    isplitl [Hw]; · iexact Hw
    isplitl [H23]; · iexact H23
    isplitl [H24]; · iexact H24
    isplitl [H25]; · iexact H25
    isplitl [H15]; · iexact H15
    unfold planesAny; iexact HPl
  isplitl [H1 H2 H3 H4 H5 H6 H7 H8]
  · isplitl [H1]; · iapply (reads_at c arg1 f1 v1 e1); iexact H1
    isplitl [H2]; · iapply (reads_at c arg2 f2 v2 e2); iexact H2
    isplitl [H3]; · iapply (reads_at c arg3 f3 v3 e3); iexact H3
    isplitl [H4]; · iapply (reads_at c arg4 f4 v4 e4); iexact H4
    isplitl [H5]; · iapply (reads_at c arg5 f5 v5 e5); iexact H5
    isplitl [H6]; · iapply (reads_at c arg6 f6 v6 e6); iexact H6
    isplitl [H7]; · iapply (reads_at c arg7 f7 v7 e7); iexact H7
    iapply (reads_at c arg8 f8 v8 e8); iexact H8
  isplitl [H10]; · iexact H10
  isplitl [H11]; · iexact H11
  isplitl [H12]; · iexact H12
  iexact HO

end Cert.KernelIdeal.Hand

end
-- ==== Proof.KernelIdeal.Frame.lean ====
module

public import proofs.«01_k».proof.Proof.Gen.KernelIdeal.Frame
public import proofs.«01_k».proof.Proof.KernelIdeal.Point

/-!
  The kernel's pipeline: what holds between grid points, the body at every point, and the run.
  Two results, the sums over the labels and the labels' own losses, are left unnamed here.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## Owned buffers, read -/

theorem reads_of_before (c : Dev nD) {sp : Space} {S : Shape} {e : EltTy} (M : Memref sig .tc sp S e) {α : Type} (P : α → S.Idx → Elt F e)
    (v : S.Idx → Elt F e) (h : ∀ d, P d = v) : (iprop(∃ d, owns (c : Thread nD τ) M fullShare (P d)) : sProp 𝕄) ⊢ Reads c M v := by
  iintro ⟨%d, H⟩
  unfold owns Reads
  icases H with ⟨%f, %e, H⟩
  iexists f
  isplitl [H]; · iexact H
  ipureintro; exact e.trans (h d)

theorem owns_of_reads (c : Dev nD) {sp : Space} {S : Shape} {e : EltTy} (M : Memref sig .tc sp S e)
    (v : S.Idx → Elt F e) : (Reads c M v : sProp 𝕄) ⊢ owns (c : Thread nD τ) M fullShare v := by
  unfold owns Reads
  iintro ⟨%f, H, %e⟩
  iexists f
  isplitr; · ipureintro; exact e
  iexact H

theorem some_of_owns (c : Dev nD) {sp : Space} {S : Shape} {e : EltTy} (M : Memref sig .tc sp S e) {α : Type} (P : α → S.Idx → Elt F e) :
    (iprop(∃ d, owns (c : Thread nD τ) M fullShare (P d)) : sProp 𝕄) ⊢ Some' (F := F) c M := by
  iintro ⟨%d, H⟩
  unfold owns Some'
  icases H with ⟨%f, %e, H⟩
  iexists f; iexact H

theorem owns_of_some (c : Dev nD) {sp : Space} {S : Shape} {e : EltTy} (M : Memref sig .tc sp S e) :
    (Some' (F := F) c M : sProp 𝕄) ⊢ iprop(∃ d, owns (c : Thread nD τ) M fullShare d) := by
  unfold owns Some'
  iintro ⟨%f, H⟩
  iexists (M.view.read (Elt F) f), f
  isplitr; · ipureintro; rfl
  iexact H

theorem some_of_reads (c : Dev nD) {sp : Space} {S : Shape} {e : EltTy} (M : Memref sig .tc sp S e)
    (v : S.Idx → Elt F e) : (Reads c M v : sProp 𝕄) ⊢ Some' (F := F) c M := by
  unfold Some' Reads
  iintro ⟨%f, H, %e⟩
  iexists f; iexact H

/-! ## The buffers by name -/

abbrev ms0 (t : Fin cfg0.N) : Memref sig .tc .smem S1764 .i32 := win0_0.stage (cfg0.slots t 0)
abbrev ms1 (t : Fin cfg0.N) : Memref sig .tc .vmem S128x384 .bf16 := win0_1.stage (cfg0.slots t 1)
abbrev ms2 (t : Fin cfg0.N) : Memref sig .tc .vmem S16384x384 .i8 := win0_2.stage (cfg0.slots t 2)
abbrev ms3 (t : Fin cfg0.N) : Memref sig .tc .vmem S128x128 .f32 := win0_3.stage (cfg0.slots t 3)
abbrev ms4 (t : Fin cfg0.N) : Memref sig .tc .vmem S128x128 .f32 := win0_4.stage (cfg0.slots t 4)
abbrev ms5 (t : Fin cfg0.N) : Memref sig .tc .vmem S7936x128 .f32 := win0_5.stage (cfg0.slots t 5)
abbrev ms6 (t : Fin cfg0.N) : Memref sig .tc .vmem S7936x128 .f32 := win0_6.stage (cfg0.slots t 6)
abbrev ms7 (t : Fin cfg0.N) : Memref sig .tc .vmem S2x128 .i32 := win0_7.stage (cfg0.slots t 7)
abbrev ms8 (t : Fin cfg0.N) : Memref sig .tc .vmem S128x62 .f32 := win0_8.stage (cfg0.slots t 8)
abbrev ms9 (t : Fin cfg0.N) : Memref sig .tc .vmem S1x128 .f32 := win0_9.stage (cfg0.slots t 9)
abbrev ms10 (t : Fin cfg0.N) : Memref sig .tc .vmem S1764 .f32 := win0_10.stage (cfg0.slots t 10)
abbrev ms11 (t : Fin cfg0.N) : Memref sig .tc .vmem S128x384 .fp8e4m3 := win0_11.stage (cfg0.slots t 11)
abbrev ms12 (t : Fin cfg0.N) : Memref sig .tc .vmem S1x128 .f32 := win0_12.stage (cfg0.slots t 12)
abbrev wordsM : Memref sig .tc .hbm S253952x384 .i32 := Memref.whole main_v4
abbrev sc0 : Memref sig .tc .vmem S128x384 .bf16 := Memref.whole cc0_scratch0
abbrev sc1 : Memref sig .tc .vmem S128x512 .f32 := Memref.whole cc0_scratch1
abbrev sc2 : Memref sig .tc .vmem S128x128 .f32 := Memref.whole cc0_scratch2
abbrev sc3 : Memref sig .tc .vmem S128x128 .f32 := Memref.whole cc0_scratch3
abbrev sc4 : Memref sig .tc .vmem S128x128 .f32 := Memref.whole cc0_scratch4
abbrev sc5 : Memref sig .tc .vmem S128x128 .f32 := Memref.whole cc0_scratch5
abbrev sc6 : Memref sig .tc .vmem S128x128 .f32 := Memref.whole cc0_scratch6
abbrev sc7 : Memref sig .tc .vmem S1792x384 .i32 := Memref.whole cc0_scratch7
abbrev sc8 : Memref sig .tc .vmem S1792x128 .f32 := Memref.whole cc0_scratch8
abbrev sc9 : Memref sig .tc .vmem S1792x128 .f32 := Memref.whole cc0_scratch9
abbrev sc10 : Memref sig .tc .vmem S1792x128 .i32 := Memref.whole cc0_scratch10

/-! ## The invariant -/

/-- The body's one DMA semaphore. -/
abbrev osem0 : Fin 1 → SemLoc sig := fun j => (![SemLoc.dma 16] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch11.sem) 0 := by
  rw [Pipeline.ownSems0_eq_of_list c osem0 [0] (by decide) (by decide)]; rfl
/-- The operand left in HBM: the packed words. -/
def H0 : Finset (Ref sig .tc) := {main_v4}
theorem H0_sub : H0 ⊆ Pipeline.restRefs sig spec0 := by decide

theorem at_whole (c : Dev nD) (b : Ref sig .tc) (f : b.ty.Contents (Elt F)) :
    (At c (Memref.whole b) f : sProp 𝕄) = (((c : Thread nD τ).loc b) ↦{fullShare} f) := by
  unfold At; simp only [Memref.view_whole, View.set_whole]

theorem some_whole (c : Dev nD) (b : Ref sig .tc) :
    (Some' (F := F) c (Memref.whole b) : sProp 𝕄)
      = iprop(∃ f : Buf (Elt F) ((c : Thread nD τ).loc b), ((c : Thread nD τ).loc b) ↦{fullShare} f) :=
  congrArg BIBase.exists (funext fun f => at_whole c b f)

theorem hbmPts0_eq (c : Dev nD) :
    (bigSep H0 (fun b => ((c : Thread nD τ).loc b) ↦{fullShare} V m c b) : sProp 𝕄) = At c wordsM (V m c main_v4) := by
  rw [BI.bigSep_eq_bigSepL_of_eq [main_v4] (by decide) (by decide)]
  exact (at_whole c main_v4 (V m c main_v4)).symm

theorem PhiD0_eq (c : Dev nD) :
    (Pipeline.ΦD osem0 spec0 H0 (V m) c : sProp 𝕄)
      = iprop((Some' (F := F) c sc0 ∗ Some' (F := F) c sc1 ∗ Some' (F := F) c sc2 ∗ Some' (F := F) c sc3 ∗ Some' (F := F) c sc4 ∗ Some' (F := F) c sc5
          ∗ Some' (F := F) c sc6 ∗ Some' (F := F) c sc7 ∗ Some' (F := F) c sc8 ∗ Some' (F := F) c sc9 ∗ Some' (F := F) c sc10)
        ∗ (∃ r, prngReg c r) ∗ semVal ((c : Thread nD τ), SemLoc.dma cc0_scratch11.sem) 0 ∗ At c wordsM (V m c main_v4)) := by
  rw [Pipeline.ΦD_eq, scopedRest0_eq, ownSems00_eq, hbmPts0_eq, some_whole c cc0_scratch0, some_whole c cc0_scratch1, some_whole c cc0_scratch2,
    some_whole c cc0_scratch3, some_whole c cc0_scratch4, some_whole c cc0_scratch5, some_whole c cc0_scratch6, some_whole c cc0_scratch7,
    some_whole c cc0_scratch8, some_whole c cc0_scratch9, some_whole c cc0_scratch10]

theorem pt0 : 0 < cfg0.N := by show 0 < grid0.N; rw [N_0]; decide

/-- The labels, as every point finds them. -/
def lwOf (c : Dev nD) (p : Fin 1764) : BitVec 32 := (iblk m c 0 ⟨0, pt0⟩ : Vec F S1764 .i32) (ix1 p)
/-- The rows to quantise, as every point finds them. -/
def xOf (c : Dev nD) : Vec F S128x384 .bf16 := iblk m c 1 ⟨0, pt0⟩

theorem iblk0_const (c : Dev nD) (t : Fin cfg0.N) : (iblk m c 0 t : Vec F S1764 .i32) = iblk m c 0 ⟨0, pt0⟩ := rfl
theorem iblk1_const (c : Dev nD) (t : Fin cfg0.N) : (iblk m c 1 t : Vec F S128x384 .bf16) = xOf m c := rfl

/-- The dense losses after point `n`. -/
def denseAt (c : Dev nD) : (n : ℕ) → n < cfg0.N → Vec F S128x62 .f32
  | 0, h => denseStep (BitVec.ofNat 32 0) (xqV (xOf m c)) (iblk m c 2 ⟨0, h⟩) (iblk m c 3 ⟨0, h⟩) (iblk m c 4 ⟨0, h⟩) k0_pay14
  | n + 1, h => denseStep (BitVec.ofNat 32 (n + 1)) (xqV (xOf m c)) (iblk m c 2 ⟨n + 1, h⟩) (iblk m c 3 ⟨n + 1, h⟩) (iblk m c 4 ⟨n + 1, h⟩)
      (denseAt c n (Nat.lt_of_succ_lt h))

variable (hl : ∀ c p, LabOk (lwOf m c p))

/-- Between two points, `n` rows asked for. -/
def between (c : Dev nD) (n : ℕ) : sProp 𝕄 :=
  iprop((carry c wordsM sc7 sc8 sc9 sc10 cc0_scratch11 (lwOf m c) (hl c) (V m c main_v4) n ∗ pads (F := F) c sc7
      ∗ Reads c sc0 (xqV (xOf m c)) ∗ planesAny (F := F) c sc1 sc2 sc3 sc4 sc5 sc6)
    ∗ wRest c wordsM (lwOf m c) (hl c) (V m c main_v4) ∗ (∃ r, prngReg c r))

/-- What holds before point `n`. -/
def phi (c : Dev nD) (n : ℕ) : sProp 𝕄 :=
  if n = 0 ∨ n = 62 then Pipeline.ΦD osem0 spec0 H0 (V m) c else between m hl c (min (29 * n) 1764)

/-- The two results not named. -/
def fgt : Fin 13 → Bool
  | 9 => true
  | 10 => true
  | _ => false

/-- The proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => denseAt m c t.val t.isLt
    | ⟨9, _⟩ => Pipeline.Dat.unnamed (cfg := cfg0) 9 t
    | ⟨10, _⟩ => Pipeline.Dat.unnamed (cfg := cfg0) 10 t
    | ⟨11, _⟩ => codesV (xOf m c)
    | ⟨12, _⟩ => scalesV (xOf m c)
    | ⟨_ + 13, h⟩ => absurd h (Nat.not_lt.2 (Nat.le_add_left _ _))
  Φ t := phi m hl c t.val
  q w := Pipeline.shareOf spec0 w
  owed _ := 0

theorem A_eq (c : Dev nD) (w : Fin cfg0.W) : (dats m hl 0 c).A w = V m c (Pipeline.arrRef spec0 w) := by dsimp only [dats]

theorem after0 (c : Dev nD) (t : Fin cfg0.N) : (dats m hl 0 c).after 0 t = iblk m c 0 t := by dsimp only [dats]
theorem after1 (c : Dev nD) (t : Fin cfg0.N) : (dats m hl 0 c).after 1 t = iblk m c 1 t := by dsimp only [dats]
theorem after2 (c : Dev nD) (t : Fin cfg0.N) : (dats m hl 0 c).after 2 t = iblk m c 2 t := by dsimp only [dats]
theorem after3 (c : Dev nD) (t : Fin cfg0.N) : (dats m hl 0 c).after 3 t = iblk m c 3 t := by dsimp only [dats]
theorem after4 (c : Dev nD) (t : Fin cfg0.N) : (dats m hl 0 c).after 4 t = iblk m c 4 t := by dsimp only [dats]
theorem after5 (c : Dev nD) (t : Fin cfg0.N) : (dats m hl 0 c).after 5 t = iblk m c 5 t := by dsimp only [dats]
theorem after6 (c : Dev nD) (t : Fin cfg0.N) : (dats m hl 0 c).after 6 t = iblk m c 6 t := by dsimp only [dats]
theorem after7 (c : Dev nD) (t : Fin cfg0.N) : (dats m hl 0 c).after 7 t = iblk m c 7 t := by dsimp only [dats]
theorem after8 (c : Dev nD) (t : Fin cfg0.N) : (dats m hl 0 c).after 8 t = denseAt m c t.val t.isLt := by dsimp only [dats]
theorem after11 (c : Dev nD) (t : Fin cfg0.N) : (dats m hl 0 c).after 11 t = codesV (xOf m c) := by dsimp only [dats]
theorem after12 (c : Dev nD) (t : Fin cfg0.N) : (dats m hl 0 c).after 12 t = scalesV (xOf m c) := by dsimp only [dats]

/-- An input buffer holds its block at every point. -/
theorem before_block {c : Dev nD} (dat : Dat τ (Elt F) Unit ℕ (Pipeline.UD sig nD τ) ℕ cfg0 c) (w : Fin cfg0.W)
    (hA : dat.A w = V m c (Pipeline.arrRef spec0 w)) (hw : (cfg0.win w).isOut = false) (hlive : ∀ i, cfg0.idle w i = false)
    (hclip : ∀ (i : cfg0.grid.Coords) a, (cfg0.win w).clip i a = none)
    (hkeep : ∀ t, (cfg0.win w).cut (cfg0.grid.coords t) (dat.after w t) = iblk m c w t) (t : Fin cfg0.N) (d) :
    dat.before w t d = dat.fetched w t d :=
  dat.before_in_eq_fetched w hw hlive (fun t t' _ => by funext a; rw [hclip, hclip]) (fun t => by rw [hkeep]; unfold Dat.blockOf iblk; rw [hA]) t d

theorem before0 (c : Dev nD) (t : Fin cfg0.N) (d) : (dats m hl 0 c).before 0 t d = iblk m c 0 t :=
  (before_block m (dats m hl 0 c) 0 rfl rfl (fun _ => rfl) (fun _ _ => rfl) (fun t => by rw [after0]) t d).trans rfl
theorem before1 (c : Dev nD) (t : Fin cfg0.N) (d) : (dats m hl 0 c).before 1 t d = iblk m c 1 t :=
  (before_block m (dats m hl 0 c) 1 rfl rfl (fun _ => rfl) (fun _ _ => rfl) (fun t => by rw [after1]) t d).trans rfl
theorem before2 (c : Dev nD) (t : Fin cfg0.N) (d) : (dats m hl 0 c).before 2 t d = iblk m c 2 t :=
  (before_block m (dats m hl 0 c) 2 rfl rfl (fun _ => rfl) (fun _ _ => rfl) (fun t => by rw [after2]) t d).trans rfl
theorem before3 (c : Dev nD) (t : Fin cfg0.N) (d) : (dats m hl 0 c).before 3 t d = iblk m c 3 t :=
  (before_block m (dats m hl 0 c) 3 rfl rfl (fun _ => rfl) (fun _ _ => rfl) (fun t => by rw [after3]) t d).trans rfl
theorem before4 (c : Dev nD) (t : Fin cfg0.N) (d) : (dats m hl 0 c).before 4 t d = iblk m c 4 t :=
  (before_block m (dats m hl 0 c) 4 rfl rfl (fun _ => rfl) (fun _ _ => rfl) (fun t => by rw [after4]) t d).trans rfl
theorem before5 (c : Dev nD) (t : Fin cfg0.N) (d) : (dats m hl 0 c).before 5 t d = iblk m c 5 t :=
  (before_block m (dats m hl 0 c) 5 rfl rfl (fun _ => rfl) (fun _ _ => rfl) (fun t => by rw [after5]) t d).trans rfl
theorem before6 (c : Dev nD) (t : Fin cfg0.N) (d) : (dats m hl 0 c).before 6 t d = iblk m c 6 t :=
  (before_block m (dats m hl 0 c) 6 rfl rfl (fun _ => rfl) (fun _ _ => rfl) (fun t => by rw [after6]) t d).trans rfl
theorem before7 (c : Dev nD) (t : Fin cfg0.N) (d) : (dats m hl 0 c).before 7 t d = iblk m c 7 t :=
  (before_block m (dats m hl 0 c) 7 rfl rfl (fun _ => rfl) (fun _ _ => rfl) (fun t => by rw [after7]) t d).trans rfl

theorem lt62 (t : Fin cfg0.N) : t.val < 62 := lt_of_lt_of_eq t.isLt N_0

theorem coords0 (t : Fin cfg0.N) : (grid0.coords t 0).val = t.val := by
  have h := Pipeline.Grid.coords_val (G := grid0) t 0 (S := 1) (B := 62) (by decide) (by decide)
  rw [h]; have := lt62 t; omega

theorem first_iff (t : Fin cfg0.N) : k0_cond1 (grid0.coords t) = 1#1 ↔ t.val = 0 := by rw [cond1_iff, coords0]
theorem last_iff (t : Fin cfg0.N) : k0_cond3 (grid0.coords t) = 1#1 ↔ t.val = 61 := by rw [cond3_iff, coords0]

/-- The dense result's buffer after the first point: as the point before left it. -/
theorem before8 (c : Dev nD) (n : ℕ) (h : n + 1 < cfg0.N) (d) : (dats m hl 0 c).before 8 ⟨n + 1, h⟩ d = denseAt m c n (Nat.lt_of_succ_lt h) := by
  have hf : (cfg0.win 8).flush ⟨n, Nat.lt_of_succ_lt h⟩ = false := by
    rw [Bool.eq_false_iff]; intro e
    have := (flush0_8 _).mp e
    have h62 : n + 1 < 62 := lt62 ⟨n + 1, h⟩
    dsimp only at this; omega
  rw [(dats m hl 0 c).before_out_kept 8 rfl ⟨n + 1, h⟩ (Nat.succ_ne_zero n) hf (fun _ => rfl) (fun _ _ => rfl) d, after8]
  rfl

theorem idle11 (t : Fin cfg0.N) : cfg0.idle 11 (cfg0.grid.coords t) = !(k0_cond1 (grid0.coords t) == 1#1) := rfl
theorem idle12 (t : Fin cfg0.N) : cfg0.idle 12 (cfg0.grid.coords t) = !(k0_cond1 (grid0.coords t) == 1#1) := rfl

/-- A result written at the first point alone: at every later point its buffer holds what was written there. -/
theorem before_written (c : Dev nD) (w : Fin cfg0.W) (hw : (cfg0.win w).isOut = true)
    (hidle : ∀ t : Fin cfg0.N, cfg0.idle w (cfg0.grid.coords t) = !(k0_cond1 (grid0.coords t) == 1#1))
    (hflush : ∀ t : Fin cfg0.N, (cfg0.win w).flush t = true ↔ t.val % 62 = 61)
    (hclip : ∀ (i : cfg0.grid.Coords) a, (cfg0.win w).clip i a = none) (v : (cfg0.win w).block.Idx → Elt F (cfg0.win w).elt)
    (hv : ∀ t, (dats m hl 0 c).after w t = v) (d) :
    ∀ (n : ℕ) (h : n + 1 < cfg0.N), (dats m hl 0 c).before w ⟨n + 1, h⟩ d = v := by
  intro n
  induction n with
  | zero =>
    intro h
    have hf : (cfg0.win w).flush ⟨0, Nat.lt_of_succ_lt h⟩ = false := by
      rw [Bool.eq_false_iff]; intro e; have := (hflush _).mp e; dsimp only at this; omega
    rw [(dats m hl 0 c).before_of_pos w ⟨0 + 1, h⟩ (Nat.succ_ne_zero 0) ((cfg0.win w).fetch_out hw _)]
    show (if (cfg0.win w).flush ⟨0, Nat.lt_of_succ_lt h⟩ = true then d else (dats m hl 0 c).left w ⟨0, Nat.lt_of_succ_lt h⟩ d) = v
    rw [hf, if_neg Bool.false_ne_true]
    unfold Dat.left
    rw [hidle, (first_iff ⟨0, Nat.lt_of_succ_lt h⟩).mpr rfl]
    show (dats m hl 0 c).kept w _ d = v
    unfold Dat.kept
    rw [Pipeline.fill_of_clip_none w _ (hclip _) d ((dats m hl 0 c).after w _), Pipeline.Window.fill_cut, hv]
  | succ n ih =>
    intro h
    have h62 : n + 1 + 1 < 62 := lt62 ⟨n + 1 + 1, h⟩
    have hf : (cfg0.win w).flush ⟨n + 1, Nat.lt_of_succ_lt h⟩ = false := by
      rw [Bool.eq_false_iff]; intro e; have := (hflush _).mp e; dsimp only at this; omega
    rw [(dats m hl 0 c).before_of_pos w ⟨n + 1 + 1, h⟩ (Nat.succ_ne_zero _) ((cfg0.win w).fetch_out hw _)]
    show (if (cfg0.win w).flush ⟨n + 1, Nat.lt_of_succ_lt h⟩ = true then d else (dats m hl 0 c).left w ⟨n + 1, Nat.lt_of_succ_lt h⟩ d) = v
    rw [hf, if_neg Bool.false_ne_true]
    unfold Dat.left
    rw [hidle, beq_eq_false_iff_ne.mpr (fun e => absurd ((first_iff ⟨n + 1, Nat.lt_of_succ_lt h⟩).mp e) (Nat.succ_ne_zero n))]
    exact ih (Nat.lt_of_succ_lt h)

end Cert.KernelIdeal.Hand

end
-- ==== Proof.KernelIdeal.Run.lean ====
module

public import proofs.«01_k».proof.Proof.KernelIdeal.Frame
public import proofs.«01_k».proof.Proof.Labels

/-!
  The body at every grid point against the pipeline's proof data, the run, and the frame.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
variable (hl : ∀ c p, LabOk (lwOf m c p))

/-! ## The pipeline's statement of a point, and the buffers' -/

def bodyPre (c : Dev nD) (t : Fin cfg0.N) : sProp 𝕄 :=
  iprop((dats m hl 0 c).Φ t.castSucc ∗ (dats m hl 0 c).owesAt () t.castSucc
    ∗ (∃ d, owns (c : Thread nD τ) (ms0 t) fullShare ((dats m hl 0 c).before 0 t d))
    ∗ (∃ d, owns (c : Thread nD τ) (ms1 t) fullShare ((dats m hl 0 c).before 1 t d))
    ∗ (∃ d, owns (c : Thread nD τ) (ms2 t) fullShare ((dats m hl 0 c).before 2 t d))
    ∗ (∃ d, owns (c : Thread nD τ) (ms3 t) fullShare ((dats m hl 0 c).before 3 t d))
    ∗ (∃ d, owns (c : Thread nD τ) (ms4 t) fullShare ((dats m hl 0 c).before 4 t d))
    ∗ (∃ d, owns (c : Thread nD τ) (ms5 t) fullShare ((dats m hl 0 c).before 5 t d))
    ∗ (∃ d, owns (c : Thread nD τ) (ms6 t) fullShare ((dats m hl 0 c).before 6 t d))
    ∗ (∃ d, owns (c : Thread nD τ) (ms7 t) fullShare ((dats m hl 0 c).before 7 t d))
    ∗ (∃ d, owns (c : Thread nD τ) (ms8 t) fullShare ((dats m hl 0 c).before 8 t d))
    ∗ (∃ d, owns (c : Thread nD τ) (ms9 t) fullShare d)
    ∗ (∃ d, owns (c : Thread nD τ) (ms10 t) fullShare d)
    ∗ (∃ d, owns (c : Thread nD τ) (ms11 t) fullShare ((dats m hl 0 c).before 11 t d))
    ∗ (∃ d, owns (c : Thread nD τ) (ms12 t) fullShare ((dats m hl 0 c).before 12 t d)))

def bodyPost (c : Dev nD) (t : Fin cfg0.N) : sProp 𝕄 :=
  iprop((dats m hl 0 c).Φ t.succ ∗ (dats m hl 0 c).owesAt () t.succ
    ∗ owns (c : Thread nD τ) (ms0 t) fullShare ((dats m hl 0 c).after 0 t)
    ∗ owns (c : Thread nD τ) (ms1 t) fullShare ((dats m hl 0 c).after 1 t)
    ∗ owns (c : Thread nD τ) (ms2 t) fullShare ((dats m hl 0 c).after 2 t)
    ∗ owns (c : Thread nD τ) (ms3 t) fullShare ((dats m hl 0 c).after 3 t)
    ∗ owns (c : Thread nD τ) (ms4 t) fullShare ((dats m hl 0 c).after 4 t)
    ∗ owns (c : Thread nD τ) (ms5 t) fullShare ((dats m hl 0 c).after 5 t)
    ∗ owns (c : Thread nD τ) (ms6 t) fullShare ((dats m hl 0 c).after 6 t)
    ∗ owns (c : Thread nD τ) (ms7 t) fullShare ((dats m hl 0 c).after 7 t)
    ∗ owns (c : Thread nD τ) (ms8 t) fullShare ((dats m hl 0 c).after 8 t)
    ∗ (∃ d, owns (c : Thread nD τ) (ms9 t) fullShare d)
    ∗ (∃ d, owns (c : Thread nD τ) (ms10 t) fullShare d)
    ∗ (dats m hl 0 c).leavesExact 11 t
    ∗ (dats m hl 0 c).leavesExact 12 t)

/-- The input blocks of point `t`. -/
def insAt (c : Dev nD) (t : Fin cfg0.N) : sProp 𝕄 :=
  ins c (ms0 t) (ms1 t) (ms2 t) (ms3 t) (ms4 t) (ms5 t) (ms6 t) (ms7 t) (iblk m c 0 t) (iblk m c 1 t) (iblk m c 2 t) (iblk m c 3 t)
    (iblk m c 4 t) (iblk m c 5 t) (iblk m c 6 t) (iblk m c 7 t)

/-- What point `t` finds in the buffer of a result. -/
abbrev foundAt (c : Dev nD) (w : Fin cfg0.W) (t : Fin cfg0.N) : sProp 𝕄 :=
  iprop(∃ d, owns (c : Thread nD τ) ((cfg0.win w).stage (cfg0.slots t w)) fullShare ((dats m hl 0 c).before w t d))

theorem open_pre (c : Dev nD) (t : Fin cfg0.N) :
    bodyPre m hl c t ⊢ iprop((dats m hl 0 c).Φ t.castSucc ∗ (dats m hl 0 c).owesAt () t.castSucc ∗ insAt m c t
      ∗ foundAt m hl c 8 t ∗ Some' (F := F) c (ms9 t) ∗ Some' (F := F) c (ms10 t) ∗ foundAt m hl c 11 t ∗ foundAt m hl c 12 t) := by
  unfold bodyPre insAt ins
  iintro ⟨HΦ, HO, H0, H1, H2, H3, H4, H5, H6, H7, H8, H9, H10, H11, H12⟩
  isplitl [HΦ]; · iexact HΦ
  isplitl [HO]; · iexact HO
  isplitl [H0 H1 H2 H3 H4 H5 H6 H7]
  · isplitl [H0]; · iapply (reads_of_before c (ms0 t) _ _ (before0 m hl c t)); iexact H0
    isplitl [H1]; · iapply (reads_of_before c (ms1 t) _ _ (before1 m hl c t)); iexact H1
    isplitl [H2]; · iapply (reads_of_before c (ms2 t) _ _ (before2 m hl c t)); iexact H2
    isplitl [H3]; · iapply (reads_of_before c (ms3 t) _ _ (before3 m hl c t)); iexact H3
    isplitl [H4]; · iapply (reads_of_before c (ms4 t) _ _ (before4 m hl c t)); iexact H4
    isplitl [H5]; · iapply (reads_of_before c (ms5 t) _ _ (before5 m hl c t)); iexact H5
    isplitl [H6]; · iapply (reads_of_before c (ms6 t) _ _ (before6 m hl c t)); iexact H6
    iapply (reads_of_before c (ms7 t) _ _ (before7 m hl c t)); iexact H7
  isplitl [H8]; · iexact H8
  isplitl [H9]; · iapply (some_of_owns c (ms9 t) (fun d => d)); iexact H9
  isplitl [H10]; · iapply (some_of_owns c (ms10 t) (fun d => d)); iexact H10
  isplitl [H11]; · iexact H11
  iexact H12

theorem close_post (c : Dev nD) (t : Fin cfg0.N) :
    iprop((dats m hl 0 c).Φ t.succ ∗ (dats m hl 0 c).owesAt () t.succ ∗ insAt m c t
      ∗ Reads c (ms8 t) (denseAt m c t.val t.isLt) ∗ Some' (F := F) c (ms9 t) ∗ Some' (F := F) c (ms10 t)
      ∗ (dats m hl 0 c).leavesExact 11 t ∗ (dats m hl 0 c).leavesExact 12 t) ⊢ bodyPost m hl c t := by
  unfold bodyPost insAt ins
  rw [after0, after1, after2, after3, after4, after5, after6, after7, after8]
  iintro ⟨HΦ, HO, ⟨H0, H1, H2, H3, H4, H5, H6, H7⟩, H8, H9, H10, H11, H12⟩
  isplitl [HΦ]; · iexact HΦ
  isplitl [HO]; · iexact HO
  isplitl [H0]; · iapply (owns_of_reads c (ms0 t) (iblk m c 0 t)); iexact H0
  isplitl [H1]; · iapply (owns_of_reads c (ms1 t) (iblk m c 1 t)); iexact H1
  isplitl [H2]; · iapply (owns_of_reads c (ms2 t) (iblk m c 2 t)); iexact H2
  isplitl [H3]; · iapply (owns_of_reads c (ms3 t) (iblk m c 3 t)); iexact H3
  isplitl [H4]; · iapply (owns_of_reads c (ms4 t) (iblk m c 4 t)); iexact H4
  isplitl [H5]; · iapply (owns_of_reads c (ms5 t) (iblk m c 5 t)); iexact H5
  isplitl [H6]; · iapply (owns_of_reads c (ms6 t) (iblk m c 6 t)); iexact H6
  isplitl [H7]; · iapply (owns_of_reads c (ms7 t) (iblk m c 7 t)); iexact H7
  isplitl [H8]; · iapply (owns_of_reads c (ms8 t) (denseAt m c t.val t.isLt)); iexact H8
  isplitl [H9]; · iapply (owns_of_some c (ms9 t)); iexact H9
  isplitl [H10]; · iapply (owns_of_some c (ms10 t)); iexact H10
  isplitl [H11]; · iexact H11
  iexact H12

theorem phi_ends (c : Dev nD) (n : ℕ) (h : n = 0 ∨ n = 62) : phi m hl c n = Pipeline.ΦD osem0 spec0 H0 (V m) c := if_pos h
theorem phi_between (c : Dev nD) (n : ℕ) (h : ¬ (n = 0 ∨ n = 62)) : phi m hl c n = between m hl c (min (29 * n) 1764) := if_neg h

theorem leaves_live (c : Dev nD) (w : Fin cfg0.W) (t : Fin cfg0.N) (hi : cfg0.idle w (cfg0.grid.coords t) = false) :
    (dats m hl 0 c).leavesExact w t = owns (c : Thread nD τ) ((cfg0.win w).stage (cfg0.slots t w)) fullShare ((dats m hl 0 c).after w t) := by
  unfold Dat.leavesExact; rw [hi]
theorem leaves_last (c : Dev nD) (w : Fin cfg0.W) (t : Fin cfg0.N) (hi : cfg0.idle w (cfg0.grid.coords t) = true) (hf : (cfg0.win w).flush t = true) :
    (dats m hl 0 c).leavesExact w t = owns (c : Thread nD τ) ((cfg0.win w).stage (cfg0.slots t w)) fullShare ((dats m hl 0 c).after w t) := by
  unfold Dat.leavesExact; rw [hi, hf]

theorem hlw0 (c : Dev nD) (t : Fin cfg0.N) (p : Fin 1764) : lwOf m c p = (iblk m c 0 t : Vec F S1764 .i32) (ix1 p) := by
  rw [iblk0_const m c t]; rfl

set_option maxHeartbeats 1000000 in
theorem sound_first (c : Dev nD) (t : Fin cfg0.N) (ht : t.val = 0) :
    bodyPre m hl c t ⊢ wp frame (wpE (defs₀ (F := F)) Variants.none c none) Set.univ (bodyAt0 t) (fun _ => bodyPost m hl c t) := by
  have h1 : k0_cond1 (grid0.coords t) = 1#1 := (first_iff t).mpr ht
  have h3 : ¬ k0_cond3 (grid0.coords t) = 1#1 := fun e => by have := (last_iff t).mp e; omega
  have hn : min (29 * (grid0.coords t 0).val + 29) 1764 = min (29 * t.succ.val) 1764 := by
    rw [coords0, Fin.val_succ]; omega
  refine (open_pre m hl c t).trans ?_
  refine BIBase.Entails.trans ?_ (wp_mono Idealize.ShloMosaic.frame _ _ fun _ => close_post m hl c t)
  rw [show (dats m hl 0 c).owesAt () t.succ = (dats m hl 0 c).owesAt () t.castSucc from rfl,
    show (dats m hl 0 c).Φ t.castSucc = phi m hl c t.val from rfl, show (dats m hl 0 c).Φ t.succ = phi m hl c t.succ.val from rfl,
    phi_ends m hl c t.val (.inl ht), phi_between m hl c t.succ.val (by rw [Fin.val_succ]; omega), PhiD0_eq,
    leaves_live m hl c 11 t (by rw [idle11, h1]; rfl), leaves_live m hl c 12 t (by rw [idle12, h1]; rfl), after11, after12]
  iintro ⟨⟨⟨S0, S1, S2, S3, S4, S5, S6, S7, S8, S9, S10⟩, Hg, Hs, Hw⟩, HO, HI, H8, H9, H10, H11, H12⟩
  ihave Hw := (w_split c wordsM (lwOf m c) (hl c) (V m c main_v4)) $$ Hw
  icases Hw with ⟨Hw, Hr⟩
  iapply (wp_wand_r Idealize.ShloMosaic.frame (wpE (defs₀ (F := F)) Variants.none (c : Thread nD τ) none) Set.univ)
  isplitl [S0 S1 S2 S3 S4 S5 S6 S7 S8 S9 S10 Hs Hw HI H8 H11 H12]
  · iapply (point_first c (grid0.coords t) (ms0 t) (hstage0_0 ((cfg0.slots t 0).cast nbuf0_0)) (ms1 t) (hstage0_1 ((cfg0.slots t 1).cast nbuf0_1))
      (ms2 t) (hstage0_2 ((cfg0.slots t 2).cast nbuf0_2)) (ms3 t) (hstage0_3 ((cfg0.slots t 3).cast nbuf0_3)) (ms4 t) (hstage0_4 ((cfg0.slots t 4).cast nbuf0_4))
      (ms5 t) (hstage0_5 ((cfg0.slots t 5).cast nbuf0_5)) (ms6 t) (hstage0_6 ((cfg0.slots t 6).cast nbuf0_6)) (ms7 t) (hstage0_7 ((cfg0.slots t 7).cast nbuf0_7))
      wordsM (Memref.isWhole_whole _) (ms8 t) (hstage0_8 ((cfg0.slots t 8).cast nbuf0_8)) (ms9 t) (hstage0_9 ((cfg0.slots t 9).cast nbuf0_9))
      (ms10 t) (hstage0_10 ((cfg0.slots t 10).cast nbuf0_10)) (ms11 t) (hstage0_11 ((cfg0.slots t 11).cast nbuf0_11)) (ms12 t) (hstage0_12 ((cfg0.slots t 12).cast nbuf0_12))
      sc0 (Memref.isWhole_whole _) sc1 (Memref.isWhole_whole _) sc2 (Memref.isWhole_whole _) sc3 (Memref.isWhole_whole _) sc4 (Memref.isWhole_whole _)
      sc5 (Memref.isWhole_whole _) sc6 (Memref.isWhole_whole _) sc7 (Memref.isWhole_whole _) sc8 (Memref.isWhole_whole _) sc9 (Memref.isWhole_whole _)
      sc10 (Memref.isWhole_whole _) cc0_scratch11 (lwOf m c) (hl c) (V m c main_v4)
      (iblk m c 0 t) (iblk m c 1 t) (iblk m c 2 t) (iblk m c 3 t) (iblk m c 4 t) (iblk m c 5 t) (iblk m c 6 t) (iblk m c 7 t)
      (hlw0 m c t) _ hn h1 h3)
    isplitl [S0 S1 S2 S3 S4 S5 S6 S7 S8 S9 S10 Hs Hw]
    · isplitl [Hs]; · iexact Hs
      isplitl [S7]; · iexact S7
      isplitl [Hw]; · iexact Hw
      isplitl [S8]; · iexact S8
      isplitl [S9]; · iexact S9
      isplitl [S10]; · iexact S10
      isplitl [S0]; · iexact S0
      unfold planesAny Some'
      isplitl [S1]; · iexact S1
      isplitl [S2]; · iexact S2
      isplitl [S3]; · iexact S3
      isplitl [S4]; · iexact S4
      isplitl [S5]; · iexact S5
      iexact S6
    isplitl [HI]; · unfold insAt; iexact HI
    isplitl [H8]; · iapply (some_of_owns c (ms8 t) ((dats m hl 0 c).before 8 t)); iexact H8
    isplitl [H11]; · iapply (some_of_owns c (ms11 t) ((dats m hl 0 c).before 11 t)); iexact H11
    iapply (some_of_owns c (ms12 t) ((dats m hl 0 c).before 12 t)); iexact H12
  iintro %r ⟨⟨HC, HP, H15, HPl⟩, HI, H8, H11, H12⟩
  isplitl [HC HP H15 HPl Hr Hg]
  · unfold between
    isplitr [Hr Hg]
    · isplitl [HC]; · iexact HC
      isplitl [HP]; · iexact HP
      isplitl [H15]; · iexact H15
      iexact HPl
    isplitl [Hr]; · iexact Hr
    iexact Hg
  isplitl [HO]; · iexact HO
  isplitl [HI]; · unfold insAt; iexact HI
  isplitl [H8]
  · obtain ⟨n, hn'⟩ := t
    obtain rfl : n = 0 := ht
    rw [coords0]
    iexact H8
  isplitl [H9]; · iexact H9
  isplitl [H10]; · iexact H10
  isplitl [H11]; · iapply (owns_of_reads c (ms11 t) (codesV (xOf m c))); iexact H11
  iapply (owns_of_reads c (ms12 t) (scalesV (xOf m c))); iexact H12

set_option maxHeartbeats 1000000 in
theorem sound_mid (c : Dev nD) (n : ℕ) (hn' : n + 1 < cfg0.N) (ht : n + 1 < 61) :
    bodyPre m hl c ⟨n + 1, hn'⟩ ⊢ wp frame (wpE (defs₀ (F := F)) Variants.none c none) Set.univ (bodyAt0 ⟨n + 1, hn'⟩) (fun _ => bodyPost m hl c ⟨n + 1, hn'⟩) := by
  obtain ⟨t, rfl⟩ : ∃ t : Fin cfg0.N, t = ⟨n + 1, hn'⟩ := ⟨_, rfl⟩
  have htv : (⟨n + 1, hn'⟩ : Fin cfg0.N).val = n + 1 := rfl
  generalize htd : (⟨n + 1, hn'⟩ : Fin cfg0.N) = t at htv
  have h1 : ¬ k0_cond1 (grid0.coords t) = 1#1 := fun e => by have := (first_iff t).mp e; omega
  have h3 : ¬ k0_cond3 (grid0.coords t) = 1#1 := fun e => by have := (last_iff t).mp e; omega
  have hk : min (29 * (grid0.coords t 0).val + 0) 1764 = min (29 * t.val) 1764 := by rw [coords0]; rfl
  have hn : min (29 * (grid0.coords t 0).val + 29) 1764 = min (29 * t.succ.val) 1764 := by
    rw [coords0, Fin.val_succ]; omega
  have hi : (!(k0_cond1 (grid0.coords t) == 1#1)) = true := by rw [beq_eq_false_iff_ne.mpr h1]; rfl
  refine (open_pre m hl c t).trans ?_
  refine BIBase.Entails.trans ?_ (wp_mono Idealize.ShloMosaic.frame _ _ fun _ => close_post m hl c t)
  rw [show (dats m hl 0 c).owesAt () t.succ = (dats m hl 0 c).owesAt () t.castSucc from rfl,
    show (dats m hl 0 c).Φ t.castSucc = phi m hl c t.val from rfl, show (dats m hl 0 c).Φ t.succ = phi m hl c t.succ.val from rfl,
    phi_between m hl c t.val (by omega), phi_between m hl c t.succ.val (by rw [Fin.val_succ]; omega),
    (dats m hl 0 c).leavesExact_idle 11 t ((idle11 t).trans hi) (by rw [Bool.eq_false_iff]; intro e; have := (flush0_11 t).mp e; omega),
    (dats m hl 0 c).leavesExact_idle 12 t ((idle12 t).trans hi) (by rw [Bool.eq_false_iff]; intro e; have := (flush0_12 t).mp e; omega)]
  unfold between
  iintro ⟨⟨⟨HC, HP, H15, HPl⟩, Hr, Hg⟩, HO, HI, H8, H9, H10, H11, H12⟩
  iapply (wp_wand_r Idealize.ShloMosaic.frame (wpE (defs₀ (F := F)) Variants.none (c : Thread nD τ) none) Set.univ)
  isplitl [HC H15 HPl HI H8]
  · iapply (point_mid c (grid0.coords t) (ms0 t) (hstage0_0 ((cfg0.slots t 0).cast nbuf0_0)) (ms1 t) (hstage0_1 ((cfg0.slots t 1).cast nbuf0_1))
      (ms2 t) (hstage0_2 ((cfg0.slots t 2).cast nbuf0_2)) (ms3 t) (hstage0_3 ((cfg0.slots t 3).cast nbuf0_3)) (ms4 t) (hstage0_4 ((cfg0.slots t 4).cast nbuf0_4))
      (ms5 t) (hstage0_5 ((cfg0.slots t 5).cast nbuf0_5)) (ms6 t) (hstage0_6 ((cfg0.slots t 6).cast nbuf0_6)) (ms7 t) (hstage0_7 ((cfg0.slots t 7).cast nbuf0_7))
      wordsM (Memref.isWhole_whole _) (ms8 t) (hstage0_8 ((cfg0.slots t 8).cast nbuf0_8)) (ms9 t) (hstage0_9 ((cfg0.slots t 9).cast nbuf0_9))
      (ms10 t) (hstage0_10 ((cfg0.slots t 10).cast nbuf0_10)) (ms11 t) (hstage0_11 ((cfg0.slots t 11).cast nbuf0_11)) (ms12 t) (hstage0_12 ((cfg0.slots t 12).cast nbuf0_12))
      sc0 (Memref.isWhole_whole _) sc1 (Memref.isWhole_whole _) sc2 (Memref.isWhole_whole _) sc3 (Memref.isWhole_whole _) sc4 (Memref.isWhole_whole _)
      sc5 (Memref.isWhole_whole _) sc6 (Memref.isWhole_whole _) sc7 (Memref.isWhole_whole _) sc8 (Memref.isWhole_whole _) sc9 (Memref.isWhole_whole _)
      sc10 (Memref.isWhole_whole _) cc0_scratch11 (lwOf m c) (hl c) (V m c main_v4)
      (iblk m c 0 t) (iblk m c 1 t) (iblk m c 2 t) (iblk m c 3 t) (iblk m c 4 t) (iblk m c 5 t) (iblk m c 6 t) (iblk m c 7 t)
      (hlw0 m c t) (xqV (xOf m c)) (denseAt m c n (Nat.lt_of_succ_lt hn')) _ _ hk hn h1 h3)
    isplitl [HC H15 HPl]
    · isplitl [HC]; · iexact HC
      isplitl [H15]; · iexact H15
      iexact HPl
    isplitl [HI]; · unfold insAt; iexact HI
    subst htd
    iapply (reads_of_before c (ms8 ⟨n + 1, hn'⟩) _ _ (before8 m hl c n hn')); iexact H8
  iintro %r ⟨⟨HC, H15, HPl⟩, HI, H8⟩
  isplitl [HC HP H15 HPl Hr Hg]
  · isplitr [Hr Hg]
    · isplitl [HC]; · iexact HC
      isplitl [HP]; · iexact HP
      isplitl [H15]; · iexact H15
      iexact HPl
    isplitl [Hr]; · iexact Hr
    iexact Hg
  isplitl [HO]; · iexact HO
  isplitl [HI]; · unfold insAt; iexact HI
  isplitl [H8]
  · rw [coords0]
    subst htd
    iexact H8
  isplitl [H9]; · iexact H9
  isplitl [H10]; · iexact H10
  isplitl [H11]; · iexact H11
  iexact H12

theorem amount_pos : 0 < NN sc7 cc0_scratch11 := by decide

set_option maxHeartbeats 1000000 in
theorem sound_last (c : Dev nD) (hn' : 60 + 1 < cfg0.N) :
    bodyPre m hl c ⟨60 + 1, hn'⟩ ⊢ wp frame (wpE (defs₀ (F := F)) Variants.none c none) Set.univ (bodyAt0 ⟨60 + 1, hn'⟩) (fun _ => bodyPost m hl c ⟨60 + 1, hn'⟩) := by
  have htv : (⟨60 + 1, hn'⟩ : Fin cfg0.N).val = 61 := rfl
  generalize htd : (⟨60 + 1, hn'⟩ : Fin cfg0.N) = t at htv
  have h1 : ¬ k0_cond1 (grid0.coords t) = 1#1 := fun e => by have := (first_iff t).mp e; omega
  have h3 : k0_cond3 (grid0.coords t) = 1#1 := (last_iff t).mpr htv
  have hk : min (29 * (grid0.coords t 0).val + 0) 1764 = min (29 * t.val) 1764 := by rw [coords0]; rfl
  have hn : min (29 * (grid0.coords t 0).val + 29) 1764 = 1764 := by
    rw [coords0, htv]; decide
  have hi : (!(k0_cond1 (grid0.coords t) == 1#1)) = true := by rw [beq_eq_false_iff_ne.mpr h1]; rfl
  refine (open_pre m hl c t).trans ?_
  refine BIBase.Entails.trans ?_ (wp_mono Idealize.ShloMosaic.frame _ _ fun _ => close_post m hl c t)
  rw [show (dats m hl 0 c).owesAt () t.succ = (dats m hl 0 c).owesAt () t.castSucc from rfl,
    show (dats m hl 0 c).Φ t.castSucc = phi m hl c t.val from rfl, show (dats m hl 0 c).Φ t.succ = phi m hl c t.succ.val from rfl,
    phi_between m hl c t.val (by omega), phi_ends m hl c t.succ.val (by rw [Fin.val_succ]; omega), PhiD0_eq,
    leaves_last m hl c 11 t ((idle11 t).trans hi) ((flush0_11 t).mpr (by omega)),
    leaves_last m hl c 12 t ((idle12 t).trans hi) ((flush0_12 t).mpr (by omega)), after11, after12]
  unfold between Dat.owesAt Pipeline.owesWithin
  rw [show (dats m hl 0 c).owed t.castSucc = 0 from rfl]
  iintro ⟨⟨⟨HC, HP, H15, HPl⟩, Hr, Hg⟩, ⟨%W, -, HO⟩, HI, H8, H9, H10, H11, H12⟩
  iapply (wp_wand_r Idealize.ShloMosaic.frame (wpE (defs₀ (F := F)) Variants.none (c : Thread nD τ) none) Set.univ)
  isplitl [HC HP H15 HPl HI H8 H9 H10 HO]
  · iapply (point_last c (grid0.coords t) (ms0 t) (hstage0_0 ((cfg0.slots t 0).cast nbuf0_0)) (ms1 t) (hstage0_1 ((cfg0.slots t 1).cast nbuf0_1))
      (ms2 t) (hstage0_2 ((cfg0.slots t 2).cast nbuf0_2)) (ms3 t) (hstage0_3 ((cfg0.slots t 3).cast nbuf0_3)) (ms4 t) (hstage0_4 ((cfg0.slots t 4).cast nbuf0_4))
      (ms5 t) (hstage0_5 ((cfg0.slots t 5).cast nbuf0_5)) (ms6 t) (hstage0_6 ((cfg0.slots t 6).cast nbuf0_6)) (ms7 t) (hstage0_7 ((cfg0.slots t 7).cast nbuf0_7))
      wordsM (Memref.isWhole_whole _) (ms8 t) (hstage0_8 ((cfg0.slots t 8).cast nbuf0_8)) (ms9 t) (hstage0_9 ((cfg0.slots t 9).cast nbuf0_9))
      (ms10 t) (hstage0_10 ((cfg0.slots t 10).cast nbuf0_10)) (ms11 t) (hstage0_11 ((cfg0.slots t 11).cast nbuf0_11)) (ms12 t) (hstage0_12 ((cfg0.slots t 12).cast nbuf0_12))
      sc0 (Memref.isWhole_whole _) sc1 (Memref.isWhole_whole _) sc2 (Memref.isWhole_whole _) sc3 (Memref.isWhole_whole _) sc4 (Memref.isWhole_whole _)
      sc5 (Memref.isWhole_whole _) sc6 (Memref.isWhole_whole _) sc7 (Memref.isWhole_whole _) sc8 (Memref.isWhole_whole _) sc9 (Memref.isWhole_whole _)
      sc10 (Memref.isWhole_whole _) cc0_scratch11 (lwOf m c) (hl c) (V m c main_v4) amount_pos (fun _ => Classical.arbitrary _)
      (iblk m c 0 t) (iblk m c 1 t) (iblk m c 2 t) (iblk m c 3 t) (iblk m c 4 t) (iblk m c 5 t) (iblk m c 6 t) (iblk m c 7 t)
      (hlw0 m c t) (xqV (xOf m c)) (denseAt m c 60 (Nat.lt_of_succ_lt hn')) _ hk hn h1 h3)
    isplitl [HC HP H15 HPl]
    · isplitl [HC]; · iexact HC
      isplitl [HP]; · iexact HP
      isplitl [H15]; · iexact H15
      iexact HPl
    isplitl [HI]; · unfold insAt; iexact HI
    isplitl [H8]
    · subst htd
      iapply (reads_of_before c (ms8 ⟨60 + 1, hn'⟩) _ _ (before8 m hl c 60 hn')); iexact H8
    isplitl [H9]; · iexact H9
    isplitl [H10]; · iexact H10
    iexists W; iexact HO
  iintro %r ⟨⟨Hs, S7, Hw, S8, S9, S10, H15, HPl⟩, HI, H8, H9, H10, ⟨%W', HO⟩⟩
  unfold planesAny Some'
  icases HPl with ⟨S1, S2, S3, S4, S5, S6⟩
  isplitl [S1 S2 S3 S4 S5 S6 S7 S8 S9 S10 H15 Hs Hw Hr Hg]
  · isplitl [S1 S2 S3 S4 S5 S6 S7 S8 S9 S10 H15]
    · isplitl [H15]
      · ihave H15 := (some_of_reads c sc0 (xqV (xOf m c))) $$ H15
        unfold Some'
        iexact H15
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    isplitl [Hg]; · iexact Hg
    isplitl [Hs]; · iexact Hs
    iapply (w_join c wordsM (lwOf m c) (hl c) (V m c main_v4))
    isplitl [Hw]; · iexact Hw
    iexact Hr
  isplitl [HO]
  · iexists W'; isplitr; · ipureintro; exact fun _ _ => Or.inl trivial
    iexact HO
  isplitl [HI]; · unfold insAt; iexact HI
  isplitl [H8]
  · rw [coords0]
    subst htd
    iexact H8
  isplitl [H9]; · iexact H9
  isplitl [H10]; · iexact H10
  subst htd
  isplitl [H11]
  · iapply (owns_of_reads c (ms11 ⟨60 + 1, hn'⟩) (codesV (xOf m c)))
    iapply (reads_of_before c (ms11 ⟨60 + 1, hn'⟩) _ _ (fun d => before_written m hl c 11 rfl idle11 flush0_11 (fun _ _ => rfl) _ (after11 m hl c) d 60 hn')); iexact H11
  iapply (owns_of_reads c (ms12 ⟨60 + 1, hn'⟩) (scalesV (xOf m c)))
  iapply (reads_of_before c (ms12 ⟨60 + 1, hn'⟩) _ _ (fun d => before_written m hl c 12 rfl idle12 flush0_12 (fun _ _ => rfl) _ (after12 m hl c) d 60 hn')); iexact H12

/-- The body at every point. -/
theorem sound_body (c : Dev nD) (t : Fin cfg0.N) :
    bodyPre m hl c t ⊢ wp frame (wpE (defs₀ (F := F)) Variants.none c none) Set.univ (bodyAt0 t) (fun _ => bodyPost m hl c t) := by
  have h62 := lt62 t
  obtain ⟨n, hn⟩ := t
  cases n with
  | zero => exact sound_first m hl c _ rfl
  | succ n =>
    by_cases h : n + 1 < 61
    · exact sound_mid m hl c n hn h
    · obtain rfl : n = 60 := by dsimp only at h62; omega
      exact sound_last m hl c hn

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m hl 0 c) (defs₀ (F := F)) Variants.none () Set.univ fgt := fun t => by
  rw [bigSep_W0, bigSep_W0, defs₀_row]
  exact triple_restated (sound_body m hl c t) rfl .rfl fun _ => .rfl

/-! ## The run and the frame -/

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main :
    θ_run defs (onTc (τ := τ) (main (F := F))) (s₀ m ρ)
      (fun r => Pipeline.RDat.FramePost (cfgs 0) (fun c => (dats m hl 0 c).toRForget fgt) (V m) r ∧ r.2.sem = fun _ => 0) :=
  Pipeline.θ_run_frame_dma_forget_shared (Q' := _) cfgs (dats m hl) (0 : Fin 1) launch₀0 osem0 defs₀ Variants.none fgt ownSemFacts0 H0 H0_sub m ρ main
    (hbody := fun c => (body_obligation m hl c).loose) (hq := fun _ _ _ => rfl)
    (howed := fun _ _ => rfl) (V := V m) (hmain := hmainD m Variants.none) (hA := A_eq m hl)
    (hin := fun c => (Entails.of_eq (phi_ends m hl c 0 (.inl rfl)).symm))
    (hout := fun c => (Entails.of_eq (phi_ends m hl c 62 (.inr rfl))))

/-- The program runs, its arguments end as they were, and every semaphore ends at zero. -/
theorem frame (hl : ∀ c p, LabOk (lwOf m c p)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 2 rfl).trans ((A_eq m hl c 2).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (h.1.arr_in c 0 rfl).trans ((A_eq m hl c 0).trans (V_main_arg5 m c))⟩, h.2⟩) (run_main m ρ hl)

/-- Where every label is in range, each names a row of packed words and a row of scales. -/
theorem labOk_of_lt (w : BitVec 32) (h : w.toNat < 1015808) : LabOk w := by
  have e2 : (Scalar.shrui w 2#32).toNat = w.toNat / 4 := by
    show (w >>> 2).toNat = _
    rw [BitVec.toNat_ushiftRight, Nat.shiftRight_eq_div_pow]
  have e7 : (Scalar.indexCast (Scalar.shrui w 7#32)).toNat = w.toNat / 128 := by
    show (w >>> 7).toNat = _
    rw [BitVec.toNat_ushiftRight, Nat.shiftRight_eq_div_pow]
  constructor
  · intro a
    unfold k0_off3
    dsimp only
    rw [e2]
    fin_cases a
    · show w.toNat / 4 + 1 ≤ 253952; omega
    · show 0 + 384 ≤ 384; omega
  · intro a
    unfold k0_off4
    dsimp only
    rw [e7]
    fin_cases a
    · show w.toNat / 128 + 1 ≤ 7936; omega
    · show 0 + 128 ≤ 128; omega

/-- The labels a point reads are the argument's. -/
theorem lwOf_mem (c : Dev nD) (p : Fin 1764) : ∃ q, lwOf m c p = (m ((c.tc : Thread nD τ).loc main_arg5) : Vec F S1764 .i32) q := by
  have e := V_main_arg5 m c
  refine ⟨_, (show lwOf m c p = (V m c main_arg5 : Vec F S1764 .i32) _ from rfl).trans (congrFun e _)⟩

attribute [local instance] Cert.Labels.facts

/-- Where the precondition holds, every label the body reads is in range. -/
theorem labOk_of_pre
    (h : ∀ c : Dev nD, Cert.Pre_labels_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) (c : Dev nD) (p : Fin 1764) : LabOk (lwOf m c p) := by
  obtain ⟨q, e⟩ := lwOf_mem m c p
  rw [e]
  exact labOk_of_lt _ (Cert.Labels.label_lt _ _ _ _ _ _ (h c) q)

end Cert.KernelIdeal.Hand

end
-- ==== Proof.Value.Soft.lean ====
module

public import Idealize.ShloMosaic.PureOps.Ideal.Laws
public import Idealize.ShloMosaic.Lib.IdealHost

/-!
  The softplus sum of a lane, pure arithmetic. The kernel works with logits scaled by `1 / log 2`: it adds
  up the positive parts, multiplies up the `1 + 2 ^ -|z|` and takes one logarithm of each product. Over
  the extended reals that is the sum of `max z 0 + log (1 + exp (-|z|))`.
-/

@[expose] public section

noncomputable section

namespace Cert.Value

open Idealize.ShloMosaic
open scoped BigOperators

/-- The softplus as the reference writes it. -/
def sp (z : EReal) : EReal := max z 0 + Ideal.log1p (Ideal.exp (-(max z (-z))))

/-- The two named constants. -/
def log2eK : EReal := (((Real.log 2)⁻¹ : ℝ) : EReal)
def ln2K : EReal := ((Real.log 2 : ℝ) : EReal)

/-- The kernel's steps. -/
def eK (z : EReal) : EReal := Ideal.exp2 (0 - max z (-z))
def rK (r z : EReal) : EReal := r + max z 0
def qK (q z : EReal) : EReal := q * eK z + (q + eK z)

theorem log2_pos : 0 < Real.log 2 := Real.log_pos (by norm_num)

theorem coe_max' (a b : ℝ) : max (a : EReal) (b : EReal) = ((max a b : ℝ) : EReal) :=
  (EReal.coe_strictMono.monotone.map_max).symm

theorem eK_scaled (z : EReal) : eK (z * log2eK) = Ideal.exp (-(max z (-z))) := by
  have hk : 0 < (Real.log 2)⁻¹ := inv_pos.2 log2_pos
  unfold eK log2eK
  induction z using EReal.rec with
  | bot => rw [EReal.bot_mul_coe_of_pos hk]; simp
  | top => rw [EReal.top_mul_coe_of_pos hk]; simp
  | coe z =>
    rw [← EReal.coe_mul, ← EReal.coe_neg, ← EReal.coe_neg, coe_max', coe_max', ← EReal.coe_zero, ← EReal.coe_sub, ← EReal.coe_neg,
      Ideal.exp2_coe, Ideal.exp_coe]
    congr 1
    show (2 : ℝ) ^ (_ : ℝ) = _
    rw [Real.rpow_def_of_pos (by norm_num)]
    congr 1
    have : max (z * (Real.log 2)⁻¹) (-(z * (Real.log 2)⁻¹)) = max z (-z) * (Real.log 2)⁻¹ := by
      rw [max_mul_of_nonneg _ _ hk.le, neg_mul]
    rw [this]
    have := log2_pos.ne'
    field_simp
    ring

theorem eK_real (z : EReal) : ∃ t : ℝ, 0 ≤ t ∧ eK z = (t : EReal) := by
  unfold eK
  induction z using EReal.rec with
  | bot => exact ⟨0, le_rfl, by simp⟩
  | top => exact ⟨0, le_rfl, by simp⟩
  | coe z =>
    rw [← EReal.coe_neg, coe_max', ← EReal.coe_zero, ← EReal.coe_sub, Ideal.exp2_coe]
    exact ⟨_, Real.rpow_nonneg (by norm_num) _, rfl⟩

theorem log1p_coe (t : ℝ) (h : 0 ≤ t) : Ideal.log1p (t : EReal) = ((Real.log (1 + t) : ℝ) : EReal) := by
  unfold Ideal.log1p
  rw [← EReal.coe_one, ← EReal.coe_add, Ideal.log_coe, if_neg (by linarith)]

/-- `n` labels added to the positive parts, and taken into a product. -/
def rs (f : ℕ → EReal) : ℕ → EReal → EReal
  | 0, r => r
  | n + 1, r => rK (rs f n r) (f n)
def qs (f : ℕ → EReal) : ℕ → EReal → EReal
  | 0, q => q
  | n + 1, q => qK (qs f n q) (f n)

theorem rs_eq (f : ℕ → EReal) (n : ℕ) (r : EReal) : rs f n r = r + ∑ i ∈ Finset.range n, max (f i) 0 := by
  induction n with
  | zero => simp [rs]
  | succ n ih => rw [rs, rK, ih, Finset.sum_range_succ, add_assoc]

theorem qs_eq (f : ℕ → EReal) (n : ℕ) : ∃ q : ℝ, 0 ≤ q ∧ qs f n 0 = (q : EReal)
    ∧ ((Real.log (1 + q) : ℝ) : EReal) = ∑ i ∈ Finset.range n, Ideal.log1p (eK (f i)) := by
  induction n with
  | zero => exact ⟨0, le_rfl, by simp [qs], by simp⟩
  | succ n ih =>
    obtain ⟨q, hq, e1, e2⟩ := ih
    obtain ⟨t, ht, et⟩ := eK_real (f n)
    refine ⟨q * t + (q + t), by positivity, ?_, ?_⟩
    · rw [qs, qK, e1, et, ← EReal.coe_mul, ← EReal.coe_add, ← EReal.coe_add]
    · rw [Finset.sum_range_succ, ← e2, et, log1p_coe t ht, ← EReal.coe_add, ← Real.log_mul (by linarith) (by linarith)]
      congr 2
      ring

theorem qs_log (f : ℕ → EReal) (n : ℕ) : Ideal.log1p (qs f n 0) = ∑ i ∈ Finset.range n, Ideal.log1p (eK (f i)) := by
  obtain ⟨q, hq, e1, e2⟩ := qs_eq f n
  rw [e1, log1p_coe q hq, e2]

theorem ln2K_nonneg : 0 ≤ ln2K := by unfold ln2K; exact_mod_cast log2_pos.le

theorem add_mul_ln2 (a b : EReal) : (a + b) * ln2K = a * ln2K + b * ln2K :=
  EReal.right_distrib_of_nonneg_of_ne_top ln2K_nonneg (EReal.coe_ne_top _) a b

theorem sum_mul_ln2 (g : ℕ → EReal) (n : ℕ) : (∑ i ∈ Finset.range n, g i) * ln2K = ∑ i ∈ Finset.range n, g i * ln2K := by
  induction n with
  | zero => simp
  | succ n ih => rw [Finset.sum_range_succ, Finset.sum_range_succ, add_mul_ln2, ih]

theorem max_scaled (z : EReal) : max (z * log2eK) 0 * ln2K = max z 0 := by
  have hk : 0 < (Real.log 2)⁻¹ := inv_pos.2 log2_pos
  unfold log2eK ln2K
  induction z using EReal.rec with
  | bot => rw [EReal.bot_mul_coe_of_pos hk]; simp
  | top => rw [EReal.top_mul_coe_of_pos hk]; simp [EReal.top_mul_coe_of_pos log2_pos]
  | coe z =>
    rw [← EReal.coe_mul, ← EReal.coe_zero, coe_max', coe_max', ← EReal.coe_mul]
    congr 1
    rw [max_mul_of_nonneg _ _ log2_pos.le, mul_assoc, inv_mul_cancel₀ log2_pos.ne', mul_one, zero_mul]

/-- A lane's 128 labels, in two passes of 64. -/
theorem lane (f z : ℕ → EReal) (h : ∀ i < 128, f i = z i * log2eK) :
    rs (fun i => f (64 + i)) 64 (rs f 64 0) * ln2K
        + ((0 + Ideal.log1p (qs f 64 0)) + Ideal.log1p (qs (fun i => f (64 + i)) 64 0))
      = ∑ i ∈ Finset.range 128, sp (z i) := by
  rw [qs_log, qs_log, rs_eq, rs_eq, zero_add, zero_add, show (128 : ℕ) = 64 + 64 from rfl, Finset.sum_range_add, add_mul_ln2,
    sum_mul_ln2, sum_mul_ln2]
  unfold sp
  rw [Finset.sum_add_distrib, Finset.sum_add_distrib, add_add_add_comm]
  have e1 : ∀ i < 128, max (f i) 0 * ln2K = max (z i) 0 := fun i hi => by rw [h i hi, max_scaled]
  have e2 : ∀ i < 128, Ideal.log1p (eK (f i)) = Ideal.log1p (Ideal.exp (-(max (z i) (-z i)))) := fun i hi => by rw [h i hi, eK_scaled]
  congr 1
  · congr 1
    · exact Finset.sum_congr rfl fun i hi => e1 i (by have := Finset.mem_range.1 hi; omega)
    · exact Finset.sum_congr rfl fun i hi => e2 i (by have := Finset.mem_range.1 hi; omega)
  · congr 1
    · exact Finset.sum_congr rfl fun i hi => e1 (64 + i) (by have := Finset.mem_range.1 hi; omega)
    · exact Finset.sum_congr rfl fun i hi => e2 (64 + i) (by have := Finset.mem_range.1 hi; omega)

end Cert.Value
end
-- ==== Proof.Value.Dense.lean ====
module

public import proofs.«01_k».proof.Proof.KernelIdeal.Run
public import proofs.«01_k».proof.Proof.Value.Soft
public import Idealize.ShloMosaic.Lib.Pointwise
public import Idealize.ShloMosaic.Lib.Pointwise.IndexBridge
public import Idealize.ShloMosaic.Lib.WordCmp
public import Mathlib.Logic.Equiv.Fin.Basic

/-!
# One chunk of the kernel's dense sums

The kernel walks a chunk in slabs of 512 labels and keeps, per lane, a running sum of positive parts and a running
product; read on the extended reals, the two together give the sum of the softplus of every logit of the chunk.
-/

@[expose] public section

set_option maxRecDepth 16384

noncomputable section

namespace Cert.Value.K

open Idealize.ShloMosaic Idealize.ShloMosaic.TcCoe
open Cert.KernelIdeal Cert.KernelIdeal.Gen Cert.KernelIdeal.Hand

theorem zero32_eq : (zero32 : Ideal .f32) = (0 : EReal) := Ideal.ofBits_zero_f32

theorem rOne_eq (r z : EReal) : rOne (F := Ideal) r z = rK r z := by
  show r + max z (zero32 : Ideal .f32) = r + max z 0
  rw [zero32_eq]

theorem qOne_eq (q z : EReal) : qOne (F := Ideal) q z = qK q z := by
  show q * Ideal.exp2 ((zero32 : Ideal .f32) - max z (-z)) + (q + Ideal.exp2 ((zero32 : Ideal .f32) - max z (-z))) = _
  rw [zero32_eq]
  rfl

theorem log2e_eq : (Named.named κ "log2e" 1069066811#32 : Ideal .f32) = log2eK := rfl
theorem ln2_eq : (Named.named κ "ln2" 1060205080#32 : Ideal .f32) = ln2K := rfl

variable (x : Vec Ideal S128x384 .bf16) (w : Vec Ideal S16384x384 .i8) (ws b : Vec Ideal S128x128 .f32)

/-- The logit of the label at row `j`, lane `l` of a chunk. -/
def zz (r j l : Fin 128) : EReal :=
  (∑ k : Fin 384, x (ix2 r k) * (((w (ix2 ⟨128 * j.val + l.val, by omega⟩ k)).toInt : ℝ) : EReal)) * ws (ix2 j l) + b (ix2 j l)

/-- The same, by a row number. -/
def zN (r l : Fin 128) (i : ℕ) : EReal := if h : i < 128 then zz x w ws b r ⟨i, h⟩ l else 0

/-- A logit in the scale of the two planes. -/
def fN (r l : Fin 128) (i : ℕ) : EReal := if h : i < 128 then zz x w ws b r ⟨i, h⟩ l * log2eK else 0

theorem scale_out (A B C κ : EReal) (h0 : 0 ≤ κ) (ht : κ ≠ ⊤) : A * (B * κ) + C * κ = (A * B + C) * κ := by
  rw [EReal.right_distrib_of_nonneg_of_ne_top h0 ht, mul_assoc]

theorem log2eK_fin : 0 ≤ log2eK ∧ log2eK ≠ ⊤ := by
  unfold log2eK
  exact ⟨by exact_mod_cast (inv_pos.2 log2_pos).le, EReal.coe_ne_top _⟩

theorem zAt_eq (k : Fin 32) (s : Fin 4) (r l : Fin 128) :
    (zAt (k0_pay19 x (slab w k)) (k0_pay493 ws) (k0_pay494 b) k s (ix2 r l) : EReal) = fN x w ws b r l (4 * k.val + s.val) := by
  rw [fN, dif_pos (by omega)]
  unfold zAt slab
  pointwise [k0_pay19, k0_pay493, k0_pay494]
  rw [log2e_eq, scale_out _ _ _ _ log2eK_fin.1 log2eK_fin.2]
  simp only [← ix2_eq_valueIdx]
  have e : (⟨512 * k.val + (128 * s.val + l.val), by omega⟩ : Fin 16384) = ⟨128 * (4 * k.val + s.val) + l.val, by omega⟩ :=
    Fin.ext (by show 512 * k.val + (128 * s.val + l.val) = 128 * (4 * k.val + s.val) + l.val; omega)
  exact congrArg (· * log2eK) (congrArg₂ (· + ·) (congrArg₂ (· * ·) (Finset.sum_congr rfl fun kk _ =>
    congrArg (fun i => x (ix2 r kk) * (((w (ix2 i kk)).toInt : ℝ) : EReal)) e) rfl) rfl)

theorem pays (r l : Fin 128) (y q1 q2 : Vec Ideal S128x128 .f32) :
    k0_pay505 (F := Ideal) (k0_pay501 (k0_pay498 k0_pay497) q1) q2 (ix2 r l) = (0 + Ideal.log1p (q1 (ix2 r l))) + Ideal.log1p (q2 (ix2 r l))
    ∧ k0_pay495 (F := Ideal) (ix2 r l) = 0 ∧ k0_pay496 (F := Ideal) (ix2 r l) = 0
    ∧ k0_pay502 (F := Ideal) (ix2 r l) = 0 := by
  refine ⟨?_, ?_, ?_, ?_⟩
  · pointwise [k0_pay505, k0_pay501, k0_pay498, k0_pay497]
  · pointwise [k0_pay495]
  · pointwise [k0_pay496]
  · pointwise [k0_pay502]

theorem planes_at (a : ℕ) (r l : Fin 128) (p : Vec Ideal S128x128 .f32 × Vec Ideal S128x128 .f32) :
    ∀ n, a + n ≤ 32 →
      (planes x w (k0_pay493 ws) (k0_pay494 b) a n p).1 (ix2 r l) = rs (fun i => fN x w ws b r l (4 * a + i)) (4 * n) (p.1 (ix2 r l))
      ∧ (planes x w (k0_pay493 ws) (k0_pay494 b) a n p).2 (ix2 r l) = qs (fun i => fN x w ws b r l (4 * a + i)) (4 * n) (p.2 (ix2 r l))
  | 0, _ => ⟨rfl, rfl⟩
  | n + 1, h => by
    obtain ⟨h1, h2⟩ := planes_at a r l p n (by omega)
    rw [planes_succ _ _ _ _ _ _ (by omega)]
    have e : ∀ s : Fin 4, 4 * (a + n) + s.val = 4 * a + (4 * n + s.val) := fun s => by omega
    constructor
    · show rOne (F := Ideal) (rOne (F := Ideal) (rOne (F := Ideal) (rOne (F := Ideal) _ (zAt _ _ _ _ 0 (ix2 r l))) (zAt _ _ _ _ 1 (ix2 r l))) (zAt _ _ _ _ 2 (ix2 r l))) (zAt _ _ _ _ 3 (ix2 r l)) = _
      rw [zAt_eq, zAt_eq, zAt_eq, zAt_eq, rOne_eq, rOne_eq, rOne_eq, rOne_eq, e, e, e, e, h1]
      rfl
    · show qOne (F := Ideal) (qOne (F := Ideal) (qOne (F := Ideal) (qOne (F := Ideal) _ (zAt _ _ _ _ 0 (ix2 r l))) (zAt _ _ _ _ 1 (ix2 r l))) (zAt _ _ _ _ 2 (ix2 r l))) (zAt _ _ _ _ 3 (ix2 r l)) = _
      rw [zAt_eq, zAt_eq, zAt_eq, zAt_eq, qOne_eq, qOne_eq, qOne_eq, qOne_eq, e, e, e, e, h2]
      rfl

/-- A lane's part of a chunk. -/
theorem lane_at (r l : Fin 128) :
    (mid2 x w ws b).1 (ix2 r l) * ln2K + logs x w ws b (ix2 r l) = ∑ j : Fin 128, sp (zz x w ws b r j l) := by
  have h := lane (fN x w ws b r l) (zN x w ws b r l) (fun i hi => by rw [fN, zN, dif_pos hi, dif_pos hi])
  have g1 := planes_at x w ws b 0 r l (k0_pay495 (F := Ideal), k0_pay496 (F := Ideal)) 16 (by decide)
  have g2 := planes_at x w ws b 16 r l ((mid1 x w ws b).1, k0_pay502 (F := Ideal)) 16 (by decide)
  obtain ⟨e1, e2, e3, e4⟩ := pays r l ws (mid1 x w ws b).2 (mid2 x w ws b).2
  simp only [e2, e3, Nat.mul_zero, Nat.zero_add] at g1
  simp only [e4] at g2
  have g1a : (mid1 x w ws b).1 (ix2 r l) = _ := g1.1
  have g1b : (mid1 x w ws b).2 (ix2 r l) = _ := g1.2
  have g2a : (mid2 x w ws b).1 (ix2 r l) = _ := g2.1
  have g2b : (mid2 x w ws b).2 (ix2 r l) = _ := g2.2
  have hlogs : logs x w ws b (ix2 r l) = _ := e1
  rw [hlogs, g1b, g2b, g2a]
  have g1a' : ((mid1 x w ws b).1, k0_pay502 (F := Ideal)).1 (ix2 r l) = _ := g1a
  rw [g1a']
  refine h.trans ?_
  rw [Finset.sum_range]
  exact Finset.sum_congr rfl fun j _ => by rw [zN, dif_pos j.isLt]

/-- A chunk's sum, label by label. -/
theorem chunk_sum (r : Fin 128) :
    (∑ l : Fin 128, ∑ j : Fin 128, sp (zz x w ws b r j l))
      = ∑ t : Fin 16384, sp (zz x w ws b r ⟨t.val / 128, by omega⟩ ⟨t.val % 128, by omega⟩) := by
  rw [Finset.sum_comm, ← Fintype.sum_prod_type' (f := fun j l : Fin 128 => sp (zz x w ws b r j l))]
  exact Fintype.sum_equiv (finProdFinEquiv (m := 128) (n := 128)) _ _ fun p => by
    have h1 : ((finProdFinEquiv (m := 128) (n := 128)) p).val / 128 = p.1.val := by
      rw [finProdFinEquiv_apply_val]; omega
    have h2 : ((finProdFinEquiv (m := 128) (n := 128)) p).val % 128 = p.2.val := by
      rw [finProdFinEquiv_apply_val]; omega
    exact congrArg sp (congrArg₂ (zz x w ws b r) (Fin.ext h1.symm) (Fin.ext h2.symm))

/-- A grid point sets its own column and leaves the others. -/
theorem denseStep_at (n : ℕ) (hn : n < 62) (d : Vec Ideal S128x62 .f32) (r : Fin 128) (k : Fin 62) :
    (denseStep (BitVec.ofNat 32 n) x w ws b d (ix2 r k) : EReal)
      = if k.val = n then ∑ t : Fin 16384, sp (zz x w ws b r ⟨t.val / 128, by omega⟩ ⟨t.val % 128, by omega⟩) else d (ix2 r k) := by
  unfold denseStep
  rw [← chunk_sum]
  generalize hx : (mid2 x w ws b).1 = u
  generalize hy : logs x w ws b = v
  pointwise [k0_pay2]
  subst hx hy
  rw [WordCmp.cmpi_eq_eq_toNat, BitVec.toNat_ofNat, BitVec.toNat_ofNat, Nat.mod_eq_of_lt (by omega), Nat.mod_eq_of_lt (by omega)]
  by_cases h : k.val = n
  · rw [if_pos h, decide_eq_true h]
    have e : (∑ l : Fin 128, ((mid2 x w ws b).1 (ix2 r l) * ln2K + logs x w ws b (ix2 r l)) : EReal)
        = ∑ l : Fin 128, ∑ j : Fin 128, sp (zz x w ws b r j l) := Finset.sum_congr rfl fun l _ => lane_at x w ws b r l
    exact e
  · rw [if_neg h, decide_eq_false h]
    rfl

end Cert.Value.K
end
-- ==== Proof.Value.Quant.lean ====
module

public import Idealize.ShloMosaic.PureOps.Ideal.Laws
public import Idealize.ShloMosaic.Lib.IdealHost
public import Idealize.ShloMosaic.Lib.IndicatorCount
public import Mathlib.Order.Interval.Finset.Fin

/-!
  A row's power of two, pure arithmetic. The kernel counts the powers of two not above `p` and puts
  the count into a float's exponent field; the reference takes `floor (log p / log 2) + 1` and an
  exponential. Over the extended reals the two agree at every `p` a row can have.
-/

@[expose] public section

noncomputable section

namespace Cert.Value

open Idealize.ShloMosaic

/-- What a float's exponent field `k` over a zero fraction denotes. -/
def fieldVal (k : Nat) : EReal := if k = 0 then 0 else if k = 255 then ⊤ else (((2 : ℝ) ^ ((k : ℤ) - 127) : ℝ) : EReal)

theorem field_parts : ∀ n : Fin 256, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

theorem ieee_field (b : BitVec 32) (n : Nat) (h1 : (b.extractLsb' 31 1 == 1#1) = false) (h2 : (b.extractLsb' 23 8).toNat = n)
    (h3 : (b.extractLsb' 0 23).toNat = 0) : Ideal.ieee 8 23 b = fieldVal n := by
  unfold Ideal.ieee fieldVal
  simp only [h1, h2, h3, Bool.false_eq_true, if_false, if_true]
  by_cases h0 : n = 0
  · simp [h0]
  by_cases h255 : n = 255
  · simp [h255]
  · rw [if_neg (by simpa using h255), if_neg h0, if_neg h0, if_neg h255]
    congr 1
    rw [show ((2 ^ 23 + 0 : ℕ) : ℝ) = (2 : ℝ) ^ (23 : ℤ) by norm_num, one_mul, ← zpow_add₀ (by norm_num)]
    congr 1
    norm_num

theorem ofBits_field (n : Fin 256) : Ideal.ofBits .f32 (BitVec.ofNat 32 n.val <<< 23) = fieldVal n.val :=
  ieee_field _ _ (field_parts n).1 (field_parts n).2.1 (field_parts n).2.2

/-- How many of the 256 fields lie at or below `p`, as the kernel adds them up. -/
def countW (p : EReal) : BitVec 32 :=
  (Finset.univ : Finset (Fin 256)).fold IntOp.addi (0#32)
    (fun k => BitVec.setWidth 32 (BitVec.ofBool (decide (Ideal.ofBits .f32 (IntOp.shli ArithUnit.vector (BitVec.ofNat 32 k.val) 23#32) ≤ p))))

theorem shli_23 (w : BitVec 32) : IntOp.shli ArithUnit.vector w 23#32 = w <<< 23 := by
  rfl

theorem countW_eq (p : EReal) (N : Fin 256) (h : ∀ k : Fin 256, fieldVal k.val ≤ p ↔ k ≤ N) : countW p = BitVec.ofNat 32 (N.val + 1) := by
  unfold countW
  rw [IndicatorCount.fold_addi_setWidth_eq_card]
  congr 1
  rw [← Fin.card_Iic N]
  congr 1
  ext k
  simp only [Finset.mem_filter, Finset.mem_univ, true_and, Finset.mem_Iic, shli_23, ofBits_field]
  rw [← h k]
  by_cases hk : fieldVal k.val ≤ p <;> simp [hk]

/-- The kernel's exponent word from its count. -/
def expW (c : BitVec 32) : BitVec 32 :=
  Scalar.select (IntOp.andi (IntOp.cmpi CmpIPredicate.sgt (IntOp.subi c 1#32) 0#32) (IntOp.cmpi CmpIPredicate.slt (IntOp.subi c 1#32) 255#32))
    (IntOp.subi (IntOp.subi c 1#32) 126#32) 0#32

theorem expW_scale : ∀ N : Fin 256, N.val ≤ 252 ∨ N.val = 255 →
    IntOp.addi (expW (BitVec.ofNat 32 (N.val + 1))) 127#32 = BitVec.ofNat 32 (if 0 < N.val ∧ N.val < 255 then N.val + 1 else 127)
    ∧ IntOp.subi 127#32 (expW (BitVec.ofNat 32 (N.val + 1))) = BitVec.ofNat 32 (if 0 < N.val ∧ N.val < 255 then 253 - N.val else 127) := by
  decide +kernel

/-- The kernel's scale and its inverse. -/
def kScale (p : EReal) : EReal := Ideal.ofBits .f32 (IntOp.shli ArithUnit.vector (IntOp.addi (expW (countW p)) 127#32) 23#32)
def kInv (p : EReal) : EReal := Ideal.ofBits .f32 (IntOp.shli ArithUnit.vector (IntOp.subi 127#32 (expW (countW p))) 23#32)

/-- The exponent, as an integer. -/
def expZ (N : Nat) : ℤ := if 0 < N ∧ N < 255 then (N : ℤ) - 126 else 0

theorem kernel_of_count (p : EReal) (N : Fin 256) (hN : N.val ≤ 252 ∨ N.val = 255) (h : ∀ k : Fin 256, fieldVal k.val ≤ p ↔ k ≤ N) :
    kScale p = (((2 : ℝ) ^ expZ N.val : ℝ) : EReal) ∧ kInv p = (((2 : ℝ) ^ (-expZ N.val) : ℝ) : EReal) := by
  obtain ⟨h1, h2⟩ := expW_scale N hN
  unfold kScale kInv
  rw [countW_eq p N h, h1, h2, shli_23, shli_23]
  by_cases hb : 0 < N.val ∧ N.val < 255
  · have hn : N.val ≤ 252 := by omega
    rw [if_pos hb, if_pos hb, ofBits_field ⟨N.val + 1, by omega⟩, ofBits_field ⟨253 - N.val, by omega⟩]
    unfold fieldVal expZ
    simp only [if_pos hb]
    rw [if_neg (by omega), if_neg (by omega), if_neg (by omega), if_neg (by omega)]
    constructor
    · congr 2; push_cast; ring
    · congr 2; rw [Nat.cast_sub (by omega)]; push_cast; ring
  · rw [if_neg hb, if_neg hb, ofBits_field ⟨127, by omega⟩]
    unfold fieldVal expZ
    simp only [if_neg hb]
    norm_num

/-! ## The reference's -/

/-- The reference's exponent of a row. -/
def rExp (p : EReal) : EReal :=
  Scalar.select (IntOp.andi (Ideal.cmp .oge p (Ideal.ofBits .f32 0x00800000#32)) (Ideal.cmp .olt p (Ideal.ofBits .f32 0x7F800000#32)))
    (Ideal.liftRound Int.floor (Ideal.div (Ideal.log p) (Ideal.log (Ideal.ofBits .f32 0x40000000#32))) + Ideal.ofBits .f32 0x3F800000#32) 0

def rScale (p : EReal) : EReal := Ideal.exp (rExp p * Ideal.log (Ideal.ofBits .f32 0x40000000#32))
def rInv (p : EReal) : EReal := Ideal.exp (-rExp p * Ideal.log (Ideal.ofBits .f32 0x40000000#32))

theorem ofBits_two : Ideal.ofBits .f32 0x40000000#32 = ((2 : ℝ) : EReal) := by
  have := ofBits_field ⟨128, by omega⟩
  rw [show BitVec.ofNat 32 128 <<< 23 = 0x40000000#32 by decide] at this
  rw [this]; unfold fieldVal; norm_num

theorem ofBits_least : Ideal.ofBits .f32 0x00800000#32 = (((2 : ℝ) ^ (-126 : ℤ) : ℝ) : EReal) := by
  have := ofBits_field ⟨1, by omega⟩
  rw [show BitVec.ofNat 32 1 <<< 23 = 0x00800000#32 by decide] at this
  rw [this]; unfold fieldVal; norm_num

theorem ofBits_top : Ideal.ofBits .f32 0x7F800000#32 = ⊤ := by
  have := ofBits_field ⟨255, by omega⟩
  rw [show BitVec.ofNat 32 255 <<< 23 = 0x7F800000#32 by decide] at this
  rw [this]; unfold fieldVal; norm_num

theorem log_two : Ideal.log (Ideal.ofBits .f32 0x40000000#32) = ((Real.log 2 : ℝ) : EReal) := by
  rw [ofBits_two, Ideal.log_coe, if_neg (by norm_num)]

theorem exp_int (e : ℤ) : Ideal.exp (((e : ℝ) : EReal) * ((Real.log 2 : ℝ) : EReal)) = (((2 : ℝ) ^ e : ℝ) : EReal) := by
  rw [← EReal.coe_mul, Ideal.exp_coe, mul_comm, ← Real.rpow_def_of_pos (by norm_num), Real.rpow_intCast]

theorem reference_of_exp (p : EReal) (e : ℤ) (h : rExp p = ((e : ℝ) : EReal)) :
    rScale p = (((2 : ℝ) ^ e : ℝ) : EReal) ∧ rInv p = (((2 : ℝ) ^ (-e) : ℝ) : EReal) := by
  unfold rScale rInv
  rw [h, log_two, exp_int]
  refine ⟨rfl, ?_⟩
  rw [← EReal.coe_neg, ← Int.cast_neg, exp_int]

theorem le_floor_log (r : ℝ) (hr : 0 < r) (k : ℤ) : (2 : ℝ) ^ k ≤ r ↔ k ≤ ⌊Real.log r / Real.log 2⌋ := by
  have h2 : 0 < Real.log 2 := Real.log_pos (by norm_num)
  rw [Int.le_floor, le_div_iff₀ h2, ← Real.log_zpow, Real.log_le_log_iff (by positivity) hr]

theorem rExp_zero (p : EReal) (h : p < (((2 : ℝ) ^ (-126 : ℤ) : ℝ) : EReal) ∨ p = ⊤) : rExp p = (((0 : ℤ) : ℝ) : EReal) := by
  have hs : IntOp.andi (Ideal.cmp .oge p (Ideal.ofBits .f32 0x00800000#32)) (Ideal.cmp .olt p (Ideal.ofBits .f32 0x7F800000#32)) = 0#1 := by
    rw [ofBits_least, ofBits_top]
    unfold Ideal.cmp
    rcases h with h | h
    · simp only [decide_eq_false (not_le.2 h)]; simp [IntOp.andi]
    · subst h; simp [IntOp.andi]
  unfold rExp
  rw [hs]
  simp [Scalar.select]

theorem rExp_real (r : ℝ) (h : (2 : ℝ) ^ (-126 : ℤ) ≤ r) : rExp (r : EReal) = (((⌊Real.log r / Real.log 2⌋ + 1 : ℤ) : ℝ) : EReal) := by
  have hr : 0 < r := lt_of_lt_of_le (by positivity) h
  have h2 : Real.log 2 ≠ 0 := (Real.log_pos (by norm_num)).ne'
  unfold rExp
  rw [ofBits_least, ofBits_top, log_two, Ideal.ofBits_one_f32, Ideal.log_coe, if_neg (not_le.2 hr)]
  have hs : IntOp.andi (Ideal.cmp .oge (r : EReal) (((2 : ℝ) ^ (-126 : ℤ) : ℝ) : EReal)) (Ideal.cmp .olt (r : EReal) ⊤) = 1#1 := by
    unfold Ideal.cmp
    simp only [EReal.coe_le_coe_iff, h, decide_true, EReal.coe_lt_top]
    decide
  rw [hs]
  have hd : Ideal.div ((Real.log r : ℝ) : EReal) ((Real.log 2 : ℝ) : EReal) = ((Real.log r / Real.log 2 : ℝ) : EReal) := by
    unfold Ideal.div
    rw [if_neg (by exact_mod_cast h2), ← EReal.coe_inv, ← EReal.coe_mul, div_eq_mul_inv]
  rw [hd, Ideal.liftRound_coe]
  simp [Scalar.select]

/-! ## They agree -/

/-- A row's greatest absolute value over 448, as the precondition leaves it. -/
def Good (p : EReal) : Prop := 0 ≤ p ∧ (p = ⊤ ∨ p < (((2 : ℝ) ^ (126 : ℤ) : ℝ) : EReal))

theorem agree (p : EReal) (hp : Good p) : ∃ e : ℤ, kScale p = (((2 : ℝ) ^ e : ℝ) : EReal) ∧ kInv p = (((2 : ℝ) ^ (-e) : ℝ) : EReal)
    ∧ rScale p = (((2 : ℝ) ^ e : ℝ) : EReal) ∧ rInv p = (((2 : ℝ) ^ (-e) : ℝ) : EReal) := by
  obtain ⟨h0, hp⟩ := hp
  rcases hp with rfl | hlt
  · have hk := kernel_of_count ⊤ ⟨255, by omega⟩ (.inr rfl) (fun k => ⟨fun _ => Fin.le_def.2 (by show k.val ≤ 255; omega), fun _ => le_top⟩)
    have hr := reference_of_exp ⊤ 0 (rExp_zero ⊤ (.inr rfl))
    exact ⟨0, hk.1, hk.2, hr.1, hr.2⟩
  by_cases hl : p < (((2 : ℝ) ^ (-126 : ℤ) : ℝ) : EReal)
  · have hk := kernel_of_count p ⟨0, by omega⟩ (.inl (by simp)) (fun k => by
      unfold fieldVal
      constructor
      · intro h
        by_contra hn
        have hk0 : k.val ≠ 0 := fun e => hn (Fin.le_def.2 (by show k.val ≤ 0; omega))
        rw [if_neg hk0] at h
        split at h
        · exact absurd (lt_of_le_of_lt h hlt) (not_lt.2 le_top)
        · have := lt_of_le_of_lt h hl
          rw [EReal.coe_lt_coe_iff, zpow_lt_zpow_iff_right₀ (by norm_num)] at this
          omega
      · intro h
        have : k.val = 0 := by have := Fin.le_def.1 h; simpa using this
        rw [if_pos this]; exact h0)
    have hr := reference_of_exp p 0 (rExp_zero p (.inl hl))
    exact ⟨0, hk.1, hk.2, hr.1, hr.2⟩
  · have hl := not_lt.1 hl
    obtain ⟨r, rfl⟩ : ∃ r : ℝ, p = r := by
      induction p using EReal.rec with
      | bot => simp at h0
      | coe r => exact ⟨r, rfl⟩
      | top => exact absurd hlt (not_lt.2 le_top)
    rw [EReal.coe_le_coe_iff] at hl
    rw [EReal.coe_lt_coe_iff] at hlt
    have hpos : 0 < r := lt_of_lt_of_le (by positivity) hl
    have hL := le_floor_log r hpos
    generalize hLd : ⌊Real.log r / Real.log 2⌋ = L at hL
    have h1 : -126 ≤ L := (hL _).1 hl
    have h2 : L < 126 := not_le.1 (fun h => absurd ((hL _).2 h) (not_le.2 hlt))
    have hN : (L + 127).toNat < 256 := by omega
    have hk := kernel_of_count r ⟨(L + 127).toNat, hN⟩ (.inl (by show (L + 127).toNat ≤ 252; omega)) (fun k => by
      rw [Fin.le_def]
      unfold fieldVal
      show _ ↔ k.val ≤ (L + 127).toNat
      by_cases hk0 : k.val = 0
      · rw [if_pos hk0]
        exact ⟨fun _ => by omega, fun _ => h0⟩
      by_cases hk2 : k.val = 255
      · rw [if_neg hk0, if_pos hk2]
        exact ⟨fun h => absurd (lt_of_lt_of_le (EReal.coe_lt_top r) h) (lt_irrefl _), fun h => by omega⟩
      · rw [if_neg hk0, if_neg hk2, EReal.coe_le_coe_iff, hL]
        omega)
    have he : expZ (L + 127).toNat = L + 1 := by unfold expZ; rw [if_pos (by omega)]; omega
    have hr := reference_of_exp r (L + 1) (by rw [rExp_real r hl, hLd])
    refine ⟨L + 1, ?_, ?_, hr.1, hr.2⟩
    · rw [hk.1]; simp only [he]
    · rw [hk.2]; simp only [he]

end Cert.Value
end
-- ==== Proof.Value.Reference.lean ====
module

public import proofs.«01_k».proof.Proof.Gen.ReferenceIdeal.Frame
public import proofs.«01_k».proof.Proof.Value.Quant
public import proofs.«01_k».proof.Proof.Value.Soft
public import Idealize.ShloMosaic.Lib.StableHlo.ReadAt
public import Idealize.ShloMosaic.Lib.Pointwise
public import Idealize.ShloMosaic.Lib.Pipeline.ValueKit

/-!
# What the reference computes

The reference's codes, scales and dense sums, read element by element: a code is the clamp of an entry divided by its
row's scale, a scale is a power of two written as an exponential, and a dense entry is the sum, over one chunk of
16384 labels, of the softplus of the scaled dot product plus the bias.
-/

@[expose] public section

set_option maxRecDepth 16384

noncomputable section

namespace Cert.Value

open Idealize.ShloMosaic Idealize.ShloMosaic.TcCoe Idealize.SL.Sem
open Cert.ReferenceIdeal Cert.ReferenceIdeal.Gen

/-- The largest magnitude of a row, times the constant just above 1/448: the value whose exponent is the scale. -/
def rowP (f : Fin 384 → EReal) : EReal :=
  Finset.fold max (Ideal.ofBits .f32 4286578688#32) (fun k => max (f k) (-(f k))) Finset.univ * Ideal.ofBits .f32 991054117#32

/-- An entry's code: the entry times the reciprocal scale, clamped to the range of the eight-bit format. -/
def code (x inv : EReal) : EReal := min (Ideal.ofBits .f32 1138753536#32) (max (Ideal.ofBits .f32 3286237184#32) (x * inv))

/-- One logit: the dot product of a row of codes and a label's weights, scaled, plus the bias. -/
def logit (f : Fin 384 → EReal) (w : Fin 384 → BitVec 8) (s ws b : EReal) : EReal :=
  (∑ k, f k * (((w k).toInt : ℝ) : EReal)) * s * ws + b

variable (m : (ℓ : Loc nD τ sig) → Buf (Elt Ideal) ℓ)

/-- The activation's entries. -/
def rX (c : Dev nD) (r : Fin 128) (k : Fin 384) : EReal :=
  (m (c, Proc.tc.devRef main_arg0) : Vec Ideal S1x128x384 .bf16) (ix3 0 r k)

theorem v19 (c : Dev nD) (r : Fin 128) : (V0 m c main_v19 : Vec Ideal S128 .f32) (ix1 r) = rExp (rowP (rX m c r)) := by
  show StableHlo.after (List.flatten [hostOps0]) _ (Proc.devRef .tc main_v19) _ = _
  after_reads_at
  unfold rExp rowP rX
  simp only [Ideal.ofBits_one_f32]
  rfl

theorem v23 (c : Dev nD) (r : Fin 128) : (V0 m c main_v23 : Vec Ideal S128x1 .f32) (ix2 r 0) = rInv (rowP (rX m c r)) := by
  show StableHlo.after (List.flatten [hostOps0]) _ (Proc.devRef .tc main_v23) _ = _
  after_reads_at
  unfold rInv rExp rowP rX
  simp only [Ideal.ofBits_one_f32]
  rfl

theorem v7 (c : Dev nD) (r : Fin 128) :
    (V0 m c main_v7 : Vec Ideal S128 .f32) (ix1 r) = Ideal.log (Ideal.ofBits .f32 0x40000000#32) := by
  show StableHlo.after (List.flatten [hostOps0]) _ (Proc.devRef .tc main_v7) _ = _
  after_reads_at

theorem v1 (c : Dev nD) (r : Fin 128) (k : Fin 384) : (V0 m c main_v1 : Vec Ideal S128x384 .f32) (ix2 r k) = rX m c r k := by
  show StableHlo.after (List.flatten [hostOps0]) _ (Proc.devRef .tc main_v1) _ = _
  after_reads_at
  rfl

/-- The only grid point. -/
def pt : Fin cfg0.N := ⟨0, by decide⟩

/-- The reference's codes. -/
def rCodes (X : Fin 128 → Fin 384 → EReal) (r : Fin 128) (k : Fin 384) : EReal := code (X r k) (rInv (rowP (X r)))

/-- The number of a label: its place in the chunk, after all the chunks before. -/
def label (k : Fin 62) (x : Fin 16384) : Fin 1015808 := ⟨k.val * 16384 + x.val, by omega⟩

/-- The reference's dense sums: the softplus of every logit of a chunk. -/
def rDense (X : Fin 128 → Fin 384 → EReal) (W : Fin 1015808 → Fin 384 → BitVec 8) (S B : Fin 1015808 → EReal)
    (r : Fin 128) (k : Fin 62) : EReal :=
  ∑ x : Fin 16384, sp (logit (rCodes X r) (W (label k x)) (rScale (rowP (X r))) (S (label k x)) (B (label k x)))

/-- The weights, their scales and the biases. -/
def rW (c : Dev nD) (l : Fin 1015808) (k : Fin 384) : BitVec 8 :=
  (m (c, Proc.tc.devRef main_arg1) : Vec Ideal S1015808x384 .i8) (ix2 l k)
@[inherit_doc rW] def rS (c : Dev nD) (l : Fin 1015808) : EReal :=
  (m (c, Proc.tc.devRef main_arg2) : Vec Ideal S1015808 .f32) (ix1 l)
@[inherit_doc rW] def rB (c : Dev nD) (l : Fin 1015808) : EReal :=
  (m (c, Proc.tc.devRef main_arg3) : Vec Ideal S1015808 .f32) (ix1 l)

theorem blk0 (c : Dev nD) (r : Fin 128) (k : Fin 384) :
    (iblk m c 0 pt : Vec Ideal S128x384 .f32) (ix2 r k) = rX m c r k := by
  refine Eq.trans ?_ (v1 m c r k)
  have h0 : win0_0.index pt 0 = 0 := by decide +kernel
  have h1 : win0_0.index pt 1 = 0 := by decide +kernel
  blk_ext [iblk, h0, h1]

theorem blk1 (c : Dev nD) (r : Fin 128) :
    (iblk m c 1 pt : Vec Ideal S128x1 .f32) (ix2 r 0) = rInv (rowP (rX m c r)) := by
  refine Eq.trans ?_ (v23 m c r)
  have h0 : win0_1.index pt 0 = 0 := by decide +kernel
  have h1 : win0_1.index pt 1 = 0 := by decide +kernel
  blk_ext [iblk, h0, h1]

theorem pay1_at (x : Vec Ideal S128x384 .f32) (y : Vec Ideal S128x1 .f32) (r : Fin 128) (k : Fin 384) :
    k0_pay1 x y (ix2 r k) = code (x (ix2 r k)) (y (ix2 r 0)) := by
  pointwise [k0_pay1]
  rfl

theorem pay2_at (x : Vec Ideal S128x384 .f32) (y : Vec Ideal S128x1 .f32) (r : Fin 128) (k : Fin 384) :
    k0_pay2 x y (ix2 r k) = code (x (ix2 r k)) (y (ix2 r 0)) := by
  pointwise [k0_pay2, k0_pay1]
  rfl

theorem arr2 (c : Dev nD) :
    ((dats m 0 c).arrAt 2 (cfgs 0).N : Vec Ideal S128x384 .fp8e4m3) = fun i => rCodes (rX m c) (i 0) (i 1) := by
  refine (dats m 0 c).arrAt_eq_of_after_last 2 pt (by decide +kernel) _ fun j => ?_
  blk_simp
  rw [after0_2]
  frame_out
  refine (congrArg _ (eq_ix2 j)).trans ?_
  exact (pay1_at _ _ (j 0) (j 1)).trans (congrArg₂ code (blk0 m c _ _) (blk1 m c _))

theorem arr3 (c : Dev nD) :
    ((dats m 0 c).arrAt 3 (cfgs 0).N : Vec Ideal S128x384 .bf16) = fun i => rCodes (rX m c) (i 0) (i 1) := by
  refine (dats m 0 c).arrAt_eq_of_after_last 3 pt (by decide +kernel) _ fun j => ?_
  blk_simp
  rw [after0_3]
  frame_out
  refine (congrArg _ (eq_ix2 j)).trans ?_
  exact (pay2_at _ _ (j 0) (j 1)).trans (congrArg₂ code (blk0 m c _ _) (blk1 m c _))

theorem sitofp_signExtend (w : BitVec 8) :
    (FloatOps.sitofp .f32 (BitVec.signExtend 32 w) : Ideal .f32) = (((w.toInt : ℝ)) : EReal) := by
  show (((BitVec.signExtend 32 w).toInt : ℝ) : EReal) = _
  rw [BitVec.toInt_signExtend_of_le (by decide)]

/-- Before the trailing host lines: the written codes, and what the host lines read otherwise. -/
theorem exit_reads (c : Dev nD) (W : Valuation τ sig (Elt Ideal))
    (hW : W = Pipeline.withArrays spec0 c (V0 m c) (fun w => (dats m 0 c).arrAt w (cfgs 0).N)) :
    (W (Proc.devRef .tc main_v24_1) = fun i => rCodes (rX m c) (i 0) (i 1))
    ∧ W (Proc.devRef .tc main_v19) = V0 m c main_v19 ∧ W (Proc.devRef .tc main_v7) = V0 m c main_v7
    ∧ W (Proc.devRef .tc main_arg1) = m (c, Proc.tc.devRef main_arg1)
    ∧ W (Proc.devRef .tc main_arg2) = m (c, Proc.tc.devRef main_arg2)
    ∧ W (Proc.devRef .tc main_arg3) = m (c, Proc.tc.devRef main_arg3) := by
  subst hW
  refine ⟨?_, ?_, ?_, ?_, ?_, ?_⟩
  · exact (Pipeline.withArrays_arr spec0 winFacts0.arr_inj c (V0 m c) _ 3).trans (arr3 m c)
  · exact Pipeline.withArrays_of_ne spec0 c (V0 m c) _ main_v19 (by exact (by decide : ∀ w, Pipeline.arrRef spec0 w ≠ main_v19))
  · exact Pipeline.withArrays_of_ne spec0 c (V0 m c) _ main_v7 (by exact (by decide : ∀ w, Pipeline.arrRef spec0 w ≠ main_v7))
  · exact (Pipeline.withArrays_of_ne spec0 c (V0 m c) _ main_arg1 (by exact (by decide : ∀ w, Pipeline.arrRef spec0 w ≠ main_arg1))).trans (V_main_arg1 m c)
  · exact (Pipeline.withArrays_of_ne spec0 c (V0 m c) _ main_arg2 (by exact (by decide : ∀ w, Pipeline.arrRef spec0 w ≠ main_arg2))).trans (V_main_arg2 m c)
  · exact (Pipeline.withArrays_of_ne spec0 c (V0 m c) _ main_arg3 (by exact (by decide : ∀ w, Pipeline.arrRef spec0 w ≠ main_arg3))).trans (V_main_arg3 m c)

theorem v48 (c : Dev nD) : (Pipeline.afterTail₀ cfgs (dats m) 0 (V0 m) [hostOps1] c main_v48 : Vec Ideal S128x62 .f32)
    = fun i => rDense (rX m c) (rW m c) (rS m c) (rB m c) (i 0) (i 1) := by
  funext i
  refine (congrArg _ (eq_ix2 i)).trans ?_
  generalize i 0 = r
  generalize i 1 = k
  unfold Pipeline.afterTail₀
  obtain ⟨h3, h19, h7, h_1, h_2, h_3⟩ := exit_reads m c _ rfl
  have g19 : V0 m c (Proc.devRef .tc main_v19) (ix1 r) = _ := v19 m c r
  have g7 : V0 m c (Proc.devRef .tc main_v7) (ix1 r) = _ := v7 m c r
  generalize Pipeline.withArrays _ _ _ _ = W at *
  show StableHlo.after (List.flatten [hostOps1]) W (Proc.devRef .tc main_v48) _ = _
  after_reads_at
  simp only [sitofp_signExtend, h3, h19, h7, h_1, h_2, h_3, g19, g7]
  rfl

theorem v49 (c : Dev nD) : (Pipeline.afterTail₀ cfgs (dats m) 0 (V0 m) [hostOps1] c main_v49 : Vec Ideal S1x128 .f32)
    = fun i => rScale (rowP (rX m c (i 1))) := by
  funext i
  have e : i = ix2 (n0 := 1) (n1 := 128) 0 (i 1) := by
    refine (eq_ix2 i).trans ?_
    rw [Subsingleton.elim (α := Fin 1) (i 0) 0]
  refine (congrArg _ e).trans ?_
  generalize i 1 = r
  unfold Pipeline.afterTail₀
  obtain ⟨h3, h19, h7, h_1, h_2, h_3⟩ := exit_reads m c _ rfl
  have g19 : V0 m c (Proc.devRef .tc main_v19) (ix1 r) = _ := v19 m c r
  have g7 : V0 m c (Proc.devRef .tc main_v7) (ix1 r) = _ := v7 m c r
  generalize Pipeline.withArrays _ _ _ _ = W at *
  show StableHlo.after (List.flatten [hostOps1]) W (Proc.devRef .tc main_v49) _ = _
  after_reads_at
  simp only [h19, h7, g19, g7]
  rfl

/-- The reference's results, and its arguments unchanged. -/
theorem reference_run (g : Dev nD → PrngReg) :
    θ_run (defs (F := Ideal)) (onTc (τ := τ) (main (F := Ideal))) ⟨m, fun _ => 0, g⟩ (fun r => ∀ c : Dev nD,
      (r.2.mem ((c.tc : Thread nD τ).loc main_v48) = fun i => rDense (rX m c) (rW m c) (rS m c) (rB m c) (i 0) (i 1))
      ∧ (r.2.mem ((c.tc : Thread nD τ).loc main_v24_0) = fun i => rCodes (rX m c) (i 0) (i 1))
      ∧ (r.2.mem ((c.tc : Thread nD τ).loc main_v49) = fun i => rScale (rowP (rX m c (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.2.rest_eq c main_v48 (by decide)).trans (v48 m c),
      (h.2.out_eq c 2).trans (arr2 m c), (h.2.rest_eq c main_v49 (by decide)).trans (v49 m c), h.1 c⟩)
    (θ_run_and (unchanged m g) (run_main m g))

end Cert.Value
end
-- ==== Proof.Value.Kernel.lean ====
module

public import proofs.«01_k».proof.Proof.Value.Dense
public import proofs.«01_k».proof.Proof.Value.Reference
public import Idealize.ShloMosaic.Lib.StableHlo.ReadAt
public import Idealize.ShloMosaic.Lib.Pipeline.ValueKit

/-!
# What the kernel computes

The kernel's codes, scales and dense sums, read element by element from the data of its pipeline.
-/

@[expose] public section

set_option maxRecDepth 16384

noncomputable section

namespace Cert.Value.K

open Idealize.ShloMosaic Idealize.ShloMosaic.TcCoe Idealize.SL.Sem
open Cert.KernelIdeal Cert.KernelIdeal.Gen Cert.KernelIdeal.Hand

/-! ## The quantiser -/

variable (x : Vec Ideal S128x384 .bf16)

/-- The quantised block's entries, its rows' scales, and the codes. -/
theorem scale_at (r : Fin 128) : (k0_pay8 x (ix2 r 0) : EReal) = kScale (rowP fun k => x (ix2 r k)) := by
  pointwise [k0_pay8, k0_pay7, k0_pay6]
  rfl

theorem code_at (r : Fin 128) (k : Fin 384) :
    (codesV x (ix2 r k) : EReal) = code (x (ix2 r k)) (kInv (rowP fun k => x (ix2 r k))) := by
  unfold codesV
  pointwise [k0_pay11, k0_pay10, k0_pay9, k0_pay7, k0_pay6]
  rfl

theorem scales_at (r : Fin 128) : (scalesV x (ix2 0 r) : EReal) = kScale (rowP fun k => x (ix2 r k)) := by
  unfold scalesV
  pointwise [k0_pay13]
  exact scale_at x r

theorem pay12_at (s : FVec Ideal S128x1 .f32) (y z : FVec Ideal S128x384 .f32) (r : Fin 128) (k : Fin 384) :
    (k0_pay12 s y z (ix2 r k) : EReal) = (k0_pay11 y z (ix2 r k) : EReal) * s (ix2 r 0) := by
  pointwise [k0_pay12, k0_pay11]

theorem xq_at (r : Fin 128) (k : Fin 384) :
    (xqV x (ix2 r k) : EReal) = code (x (ix2 r k)) (kInv (rowP fun k => x (ix2 r k))) * kScale (rowP fun k => x (ix2 r k)) :=
  (pay12_at (k0_pay8 x) (k0_pay9 x) k0_pay10 r k).trans (congrArg₂ (· * ·) (code_at x r k) (scale_at x r))

/-! ## The arguments -/

variable (m : (ℓ : Loc nD τ sig) → Buf (Elt Ideal) ℓ)

/-- The activation's entries. -/
def kX (c : Dev nD) (r : Fin 128) (k : Fin 384) : EReal :=
  (m (c, Proc.tc.devRef main_arg0) : Vec Ideal S1x128x384 .bf16) (ix3 0 r k)
/-- The weights, their scales and the biases. -/
def kW (c : Dev nD) (l : Fin 1015808) (k : Fin 384) : BitVec 8 :=
  (m (c, Proc.tc.devRef main_arg1) : Vec Ideal S1015808x384 .i8) (ix2 l k)
@[inherit_doc kW] def kS (c : Dev nD) (l : Fin 1015808) : EReal :=
  (m (c, Proc.tc.devRef main_arg2) : Vec Ideal S1015808 .f32) (ix1 l)
@[inherit_doc kW] def kB (c : Dev nD) (l : Fin 1015808) : EReal :=
  (m (c, Proc.tc.devRef main_arg3) : Vec Ideal S1015808 .f32) (ix1 l)

theorem v10 (c : Dev nD) (r : Fin 128) (k : Fin 384) : (V m c main_v10 : Vec Ideal S128x384 .bf16) (ix2 r k) = kX m c r k := by
  show StableHlo.after (List.flatten [hostOps0]) _ (Proc.devRef .tc main_v10) _ = _
  after_reads_at
  rfl

theorem v0 (c : Dev nD) (j : Fin 7936) (l : Fin 128) :
    (V m c main_v0 : Vec Ideal S7936x128 .f32) (ix2 j l) = kS m c ⟨j.val * 128 + l.val, by omega⟩ := by
  show StableHlo.after (List.flatten [hostOps0]) _ (Proc.devRef .tc main_v0) _ = _
  after_reads_at
  rfl

theorem v1 (c : Dev nD) (j : Fin 7936) (l : Fin 128) :
    (V m c main_v1 : Vec Ideal S7936x128 .f32) (ix2 j l) = kB m c ⟨j.val * 128 + l.val, by omega⟩ := by
  show StableHlo.after (List.flatten [hostOps0]) _ (Proc.devRef .tc main_v1) _ = _
  after_reads_at
  rfl

theorem idx1 (t : Fin cfg0.N) : win0_1.index t 0 = 0 ∧ win0_1.index t 1 = 0 := by revert t; decide +kernel
theorem idx2 (t : Fin cfg0.N) : win0_2.index t 0 = t.val ∧ win0_2.index t 1 = 0 := by revert t; decide +kernel
theorem idx3 (t : Fin cfg0.N) : win0_3.index t 0 = t.val ∧ win0_3.index t 1 = 0 := by revert t; decide +kernel
theorem idx4 (t : Fin cfg0.N) : win0_4.index t 0 = t.val ∧ win0_4.index t 1 = 0 := by revert t; decide +kernel

theorem x_blk (c : Dev nD) (t : Fin cfg0.N) (r : Fin 128) (k : Fin 384) :
    (iblk m c 1 t : Vec Ideal S128x384 .bf16) (ix2 r k) = kX m c r k := by
  refine Eq.trans ?_ (v10 m c r k)
  obtain ⟨h0, h1⟩ := idx1 t
  blk_ext [iblk, h0, h1]

theorem x_at (c : Dev nD) (r : Fin 128) (k : Fin 384) : (xOf m c (ix2 r k) : EReal) = kX m c r k := x_blk m c ⟨0, pt0⟩ r k

theorem w_at (c : Dev nD) (t : Fin cfg0.N) (i : Fin 16384) (k : Fin 384) :
    (iblk m c 2 t : Vec Ideal S16384x384 .i8) (ix2 i k) = kW m c ⟨t.val * 16384 + i.val, by have := lt62 t; omega⟩ k := by
  refine Eq.trans ?_ (congrFun (V_main_arg1 m c) _)
  obtain ⟨h0, h1⟩ := idx2 t
  blk_ext [iblk, h0, h1]

theorem s_at (c : Dev nD) (t : Fin cfg0.N) (j l : Fin 128) :
    (iblk m c 3 t : Vec Ideal S128x128 .f32) (ix2 j l) = kS m c ⟨(t.val * 128 + j.val) * 128 + l.val, by have := lt62 t; omega⟩ := by
  refine Eq.trans ?_ (v0 m c ⟨t.val * 128 + j.val, by have := lt62 t; omega⟩ l)
  obtain ⟨h0, h1⟩ := idx3 t
  blk_ext [iblk, h0, h1]

theorem b_at (c : Dev nD) (t : Fin cfg0.N) (j l : Fin 128) :
    (iblk m c 4 t : Vec Ideal S128x128 .f32) (ix2 j l) = kB m c ⟨(t.val * 128 + j.val) * 128 + l.val, by have := lt62 t; omega⟩ := by
  refine Eq.trans ?_ (v1 m c ⟨t.val * 128 + j.val, by have := lt62 t; omega⟩ l)
  obtain ⟨h0, h1⟩ := idx4 t
  blk_ext [iblk, h0, h1]

/-! ## The results -/

/-- The kernel's codes. -/
def kCodes (X : Fin 128 → Fin 384 → EReal) (r : Fin 128) (k : Fin 384) : EReal := code (X r k) (kInv (rowP (X r)))

/-- The kernel's dense sums: the codes are scaled before the dot product. -/
def kDense (X : Fin 128 → Fin 384 → EReal) (W : Fin 1015808 → Fin 384 → BitVec 8) (S B : Fin 1015808 → EReal)
    (r : Fin 128) (k : Fin 62) : EReal :=
  ∑ t : Fin 16384, sp ((∑ i, kCodes X r i * kScale (rowP (X r)) * (((W (label k t) i).toInt : ℝ) : EReal)) * S (label k t) + B (label k t))

theorem rows_eq (c : Dev nD) (r : Fin 128) : (fun k => (xOf m c (ix2 r k) : EReal)) = kX m c r := funext fun k => x_at m c r k

theorem zz_at (c : Dev nD) (t : Fin cfg0.N) (k : Fin 62) (hk : k.val = t.val) (r : Fin 128) (i : Fin 16384) :
    zz (xqV (xOf m c)) (iblk m c 2 t) (iblk m c 3 t) (iblk m c 4 t) r ⟨i.val / 128, by omega⟩ ⟨i.val % 128, by omega⟩
      = (∑ e, kCodes (kX m c) r e * kScale (rowP (kX m c r)) * (((kW m c (label k i) e).toInt : ℝ) : EReal)) * kS m c (label k i)
          + kB m c (label k i) := by
  unfold zz
  rw [s_at, b_at]
  have e1 : (⟨(t.val * 128 + i.val / 128) * 128 + i.val % 128, by have := lt62 t; omega⟩ : Fin 1015808) = label k i :=
    Fin.ext (by show (t.val * 128 + i.val / 128) * 128 + i.val % 128 = k.val * 16384 + i.val; omega)
  have e2 : ∀ h, (⟨t.val * 16384 + (⟨128 * (i.val / 128) + i.val % 128, h⟩ : Fin 16384).val, by have := lt62 t; omega⟩ : Fin 1015808) = label k i := fun h =>
    Fin.ext (by show t.val * 16384 + (128 * (i.val / 128) + i.val % 128) = k.val * 16384 + i.val; omega)
  have e3 : ∀ e : Fin 384, (xqV (xOf m c) (ix2 r e) : EReal) = kCodes (kX m c) r e * kScale (rowP (kX m c r)) := fun e => by
    rw [xq_at, rows_eq, x_at]; rfl
  have e4 : ∀ h (e : Fin 384), (iblk m c 2 t : Vec Ideal S16384x384 .i8) (ix2 ⟨128 * (i.val / 128) + i.val % 128, h⟩ e) = kW m c (label k i) e := fun h e => by
    rw [w_at, e2]
  rw [e1]
  simp only [e3, e4]

/-- After grid point `n` the columns up to `n` are final. -/
theorem denseAt_at (c : Dev nD) (r : Fin 128) (k : Fin 62) : ∀ (n : ℕ) (h : n < cfg0.N), k.val ≤ n →
    (denseAt m c n h (ix2 r k) : EReal) = kDense (kX m c) (kW m c) (kS m c) (kB m c) r k
  | 0, h, hk => by
    refine (denseStep_at _ _ _ _ 0 (by decide) _ r k).trans ?_
    rw [if_pos (by omega)]
    exact Finset.sum_congr rfl fun i _ => congrArg sp (zz_at m c ⟨0, h⟩ k (by show k.val = 0; omega) r i)
  | n + 1, h, hk => by
    refine (denseStep_at _ _ _ _ (n + 1) (lt62 ⟨n + 1, h⟩) _ r k).trans ?_
    by_cases e : k.val = n + 1
    · rw [if_pos e]
      exact Finset.sum_congr rfl fun i _ => congrArg sp (zz_at m c ⟨n + 1, h⟩ k e r i)
    · rw [if_neg e]
      exact denseAt_at c r k n (Nat.lt_of_succ_lt h) (by omega)

variable (hl : ∀ c p, LabOk (lwOf m c p))

/-- The last grid point. -/
def ptL : Fin cfg0.N := ⟨61, by show 61 < grid0.N; rw [N_0]; decide⟩

theorem arr8 (c : Dev nD) : ((dats m hl 0 c).arrAt 8 (cfgs 0).N : Vec Ideal S128x62 .f32)
    = fun i => kDense (kX m c) (kW m c) (kS m c) (kB m c) (i 0) (i 1) := by
  refine (dats m hl 0 c).arrAt_eq_of_after_last 8 ptL (by decide +kernel) _ fun j => ?_
  blk_simp
  rw [after8]
  have hk : (j 1 : Fin 62).val ≤ 61 := by have : (j 1 : Fin 62).val < 62 := (j 1 : Fin 62).isLt; omega
  exact (congrArg _ (eq_ix2 j)).trans (denseAt_at m c (j 0) (j 1) 61 ptL.isLt hk)

theorem arr11 (c : Dev nD) : ((dats m hl 0 c).arrAt 11 (cfgs 0).N : Vec Ideal S128x384 .fp8e4m3)
    = fun i => kCodes (kX m c) (i 0) (i 1) := by
  refine (dats m hl 0 c).arrAt_eq_of_after_last 11 ptL (by decide +kernel) _ fun j => ?_
  blk_simp
  rw [after11]
  refine (congrArg _ (eq_ix2 j)).trans ((code_at (xOf m c) (j 0) (j 1)).trans ?_)
  exact congrArg₂ code (x_at m c _ _) (congrArg (fun f => kInv (rowP f)) (rows_eq m c _))

theorem arr12 (c : Dev nD) : ((dats m hl 0 c).arrAt 12 (cfgs 0).N : Vec Ideal S1x128 .f32)
    = fun i => kScale (rowP (kX m c (i 1))) := by
  refine (dats m hl 0 c).arrAt_eq_of_after_last 12 ptL (by decide +kernel) _ fun j => ?_
  blk_simp
  rw [after12]
  have e : j = ix2 (n0 := 1) (n1 := 128) 0 (j 1) := by
    refine (eq_ix2 j).trans ?_
    rw [Subsingleton.elim (α := Fin 1) (j 0) 0]
  refine (congrArg _ e).trans ((scales_at (xOf m c) (j 1)).trans ?_)
  exact congrArg (fun f => kScale (rowP f)) (rows_eq m c _)

include hl in
/-- The kernel's results, and its arguments unchanged. -/
theorem kernel_run (g : Dev nD → PrngReg) :
    θ_run (defs (F := Ideal)) (onTc (τ := τ) (main (F := Ideal))) ⟨m, fun _ => 0, g⟩ (fun r => ∀ c : Dev nD,
      (r.2.mem ((c.tc : Thread nD τ).loc main_v11_0) = fun i => kDense (kX m c) (kW m c) (kS m c) (kB m c) (i 0) (i 1))
      ∧ (r.2.mem ((c.tc : Thread nD τ).loc main_v11_3) = fun i => kCodes (kX m c) (i 0) (i 1))
      ∧ (r.2.mem ((c.tc : Thread nD τ).loc main_v11_4) = fun i => kScale (rowP (kX m c (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(((dats m hl 0 c).toRForget_arrAt_iff (w := 8) (fgt := fgt) rfl _ _).mp ((h.2.1 c).1 8)).trans (arr8 m hl c),
        (((dats m hl 0 c).toRForget_arrAt_iff (w := 11) (fgt := fgt) rfl _ _).mp ((h.2.1 c).1 11)).trans (arr11 m hl c),
        (((dats m hl 0 c).toRForget_arrAt_iff (w := 12) (fgt := fgt) rfl _ _).mp ((h.2.1 c).1 12)).trans (arr12 m hl c), h.1.1 c⟩)
    (θ_run_and (Cert.KernelIdeal.Hand.frame m g hl) (run_main m g hl))

end Cert.Value.K
end
-- ==== Proof.Value.Pre.lean ====
module

public import proofs.«01_k».proof.Pre_well_formed
public import proofs.«01_k».proof.Proof.Labels
public import proofs.«01_k».proof.Proof.Value.Reference

/-!
# What `well_formed` gives

The labels are in range, and every row's scaled magnitude lies where the two quantisers agree.
-/

@[expose] public section

noncomputable section

namespace Cert.Value

open Idealize.ShloMosaic

/-- The side conditions of the precondition's operations. -/
theorem wfFacts : Cert.Pre_well_formed.Facts where
  bitsLt_bf16_f32 := by decide
  bcast_S_S1764 := by decide
  reducesTo_S1764_S_d0 := by decide
  h_S_ := by decide
  bcast_S_S1x128x384 := by decide
  reducesTo_S1x128x384_S_d0_1_2 := by decide

attribute [local instance] wfFacts Cert.Labels.facts

section
variable (a0 : FVec Ideal Pre_well_formed.S1x128x384 .bf16) (a1 : IVec Pre_well_formed.S1015808x384 8)
  (a2 a3 : FVec Ideal Pre_well_formed.S1015808 .f32) (a4 : IVec Pre_well_formed.S129 32) (lab : IVec Pre_well_formed.S1764 32)
  (h : Pre_well_formed.fn a0 a1 a2 a3 a4 lab = fun _ => 1#1)

include h in
/-- The labels' half is the precondition on labels. -/
theorem labels_of_wf : Pre_labels_in_range.fn a0 a1 a2 a3 a4 lab = fun _ => 1#1 := by
  funext i
  have e := congrFun h i
  exact (IntOp.andi_eq_one.mp e).1

include h in
/-- The sizes' half, at an entry. -/
theorem size_of_wf (q : Pre_well_formed.S1x128x384.Idx) :
    max (a0 q : EReal) (-(a0 q : EReal)) ≤ Ideal.ofBits .f32 0x7F7F0000#32 ∨ max (a0 q : EReal) (-(a0 q : EReal)) = ⊤ := by
  haveI : Subsingleton Pre_well_formed.S_.Idx := ⟨fun a b => funext fun k => k.elim0⟩
  have e := (IntOp.andi_eq_one.mp (congrFun h (Shape.Idx.first wfFacts.h_S_))).2
  have e := Host.reduce_andi_all _ _ _ _ _ e q
  rcases IntOp.ori_eq_one.mp e with e | e
  · left
    have e : Ideal.cmp .ole (max (a0 q : EReal) (-(a0 q : EReal))) (Ideal.ofBits .f32 0x7F7F0000#32) = 1#1 := e
    by_contra hc
    simp [Ideal.cmp, hc] at e
  · right
    have e : Ideal.cmp .oeq (max (a0 q : EReal) (-(a0 q : EReal))) (Ideal.ofBits .f32 0x7F800000#32) = 1#1 := e
    rw [ofBits_top] at e
    by_contra hc
    simp [Ideal.cmp, hc] at e
end

/-! ## A row's scaled magnitude -/

theorem ieee_normal (b : BitVec 32) (n f : Nat) (h1 : (b.extractLsb' 31 1 == 1#1) = false) (h2 : (b.extractLsb' 23 8).toNat = n)
    (h3 : (b.extractLsb' 0 23).toNat = f) (h0 : n ≠ 0) (h255 : n ≠ 255) :
    Ideal.ieee 8 23 b = ((((8388608 + f : ℕ) : ℝ) * (2 : ℝ) ^ ((n : ℤ) - 150) : ℝ) : EReal) := by
  unfold Ideal.ieee
  simp only [h1, h2, h3, Bool.false_eq_true, if_false, if_true]
  rw [if_neg (by simpa using h255), if_neg h0]
  congr 1
  rw [one_mul]
  congr 2
  norm_num
  ring

theorem ofBits_max : Ideal.ofBits .f32 0x7F7F0000#32 = (((16711680 : ℝ) * (2 : ℝ) ^ (104 : ℤ) : ℝ) : EReal) := by
  refine (ieee_normal 0x7F7F0000#32 254 8323072 (by decide) (by decide) (by decide) (by decide) (by decide)).trans ?_
  norm_num

theorem ofBits_over : Ideal.ofBits .f32 991054117#32 = (((9586981 : ℝ) * (2 : ℝ) ^ (-32 : ℤ) : ℝ) : EReal) := by
  refine (ieee_normal 991054117#32 118 1198373 (by decide) (by decide) (by decide) (by decide) (by decide)).trans ?_
  norm_num

theorem ofBits_bot : Ideal.ofBits .f32 4286578688#32 = ⊥ := by
  show Ideal.ieee 8 23 4286578688#32 = ⊥
  unfold Ideal.ieee
  simp

theorem good_row (f : Fin 384 → EReal) (h : ∀ k, max (f k) (-(f k)) ≤ Ideal.ofBits .f32 0x7F7F0000#32 ∨ max (f k) (-(f k)) = ⊤) :
    Good (rowP f) := by
  unfold rowP
  rw [ofBits_bot, ofBits_over]
  generalize hM : Finset.fold max (⊥ : EReal) (fun k => max (f k) (-(f k))) Finset.univ = M
  have hle : ∀ k, max (f k) (-(f k)) ≤ M := fun k => by
    rw [← hM]; exact (Finset.le_fold_max _).2 (.inr ⟨k, Finset.mem_univ k, le_rfl⟩)
  have h0 : 0 ≤ M := by
    refine le_trans ?_ (hle 0)
    rcases le_total 0 (f 0) with h | h
    · exact le_max_of_le_left h
    · exact le_max_of_le_right (EReal.neg_nonneg.2 h)
  have hc : (0 : ℝ) < 9586981 * (2 : ℝ) ^ (-32 : ℤ) := by positivity
  refine ⟨mul_nonneg h0 (by exact_mod_cast hc.le), ?_⟩
  by_cases ht : ∃ k, max (f k) (-(f k)) = ⊤
  · obtain ⟨k, hk⟩ := ht
    have : M = ⊤ := top_le_iff.1 (hk ▸ hle k)
    left
    rw [this, EReal.top_mul_coe_of_pos hc]
  · right
    have hb : M ≤ (((16711680 : ℝ) * (2 : ℝ) ^ (104 : ℤ) : ℝ) : EReal) := by
      rw [← hM]
      refine (Finset.fold_max_le _).2 ⟨bot_le, fun k _ => ?_⟩
      rw [← ofBits_max]
      exact (h k).resolve_right fun e => ht ⟨k, e⟩
    refine lt_of_le_of_lt (mul_le_mul_of_nonneg_right hb (by exact_mod_cast hc.le)) ?_
    rw [← EReal.coe_mul, EReal.coe_lt_coe_iff]
    norm_num

end Cert.Value
end
-- ==== Proof.Value.Agree.lean ====
module

public import proofs.«01_k».proof.Proof.Value.Kernel
public import proofs.«01_k».proof.Proof.Value.Pre

/-!
# The kernel's results are the reference's

Where every row's scaled magnitude lies where the two quantisers agree, the codes and the scales are the same, and the
scale, a positive real, may stand inside the dot product or outside it.
-/

@[expose] public section

noncomputable section

namespace Cert.Value

open Idealize.ShloMosaic Cert.Value.K

theorem sum_scale_out {n : ℕ} (c w : Fin n → EReal) (s : EReal) (h0 : 0 ≤ s) (ht : s ≠ ⊤) :
    (∑ k, c k * s * w k) = (∑ k, c k * w k) * s := by
  have h : ∀ S : Finset (Fin n), (∑ k ∈ S, c k * s * w k) = (∑ k ∈ S, c k * w k) * s := fun S => by
    induction S using Finset.induction_on with
    | empty => simp
    | insert a S ha ih =>
      rw [Finset.sum_insert ha, Finset.sum_insert ha, ih, EReal.right_distrib_of_nonneg_of_ne_top h0 ht, mul_right_comm]
  exact h Finset.univ

theorem rowsAgree (p : EReal) (hp : Good p) : kInv p = rInv p ∧ kScale p = rScale p ∧ 0 ≤ rScale p ∧ rScale p ≠ ⊤ := by
  obtain ⟨e, h1, h2, h3, h4⟩ := agree p hp
  refine ⟨h2.trans h4.symm, h1.trans h3.symm, ?_, ?_⟩
  · rw [h3]; exact_mod_cast (zpow_pos (by norm_num : (0 : ℝ) < 2) e).le
  · rw [h3]; exact EReal.coe_ne_top _

variable (X : Fin 128 → Fin 384 → EReal) (hX : ∀ r, Good (rowP (X r)))

include hX in
theorem codes_agree (r : Fin 128) : kCodes X r = rCodes X r := funext fun k => by
  unfold kCodes rCodes
  rw [(rowsAgree _ (hX r)).1]

include hX in
theorem dense_agree (W : Fin 1015808 → Fin 384 → BitVec 8) (S B : Fin 1015808 → EReal) (r : Fin 128) (k : Fin 62) :
    kDense X W S B r k = rDense X W S B r k := by
  obtain ⟨-, h2, h3, h4⟩ := rowsAgree _ (hX r)
  unfold kDense rDense logit
  refine Finset.sum_congr rfl fun t _ => ?_
  rw [h2, codes_agree X hX r, sum_scale_out _ _ _ h3 h4]

end Cert.Value
end
-- ==== Proof.lean ====
/-
  The proof of `Cert.Claim`. The kernel, as printed and idealized, is proved in Proof/Kernel and Proof/KernelIdeal (one
  chain of modules each: the steps of a point, the trips of its two loops, the issue of a row's transfer, the words'
  array split by rows, the quantising head, the middle, the body, the points, the run); the precondition is read in
  Proof/Labels; the reference's frame is the generated one. The values are in Proof/Value: the quantiser and the
  softplus as pure mathematics (Quant, Soft), what the reference and the kernel compute element by element (Reference,
  Dense, Kernel), what the precondition gives (Pre), and their agreement (Agree).
-/
module

public import proofs.«01_k».proof.Defs
public import proofs.«01_k».proof.Proof.Labels
public import proofs.«01_k».proof.Proof.Kernel.Run
public import proofs.«01_k».proof.Proof.KernelIdeal.Run
public import proofs.«01_k».proof.Proof.Value.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

theorem frame_kernel : Cert.quiescent_Kernel (hKernel := Cert.Kernel.Gen.facts) (hPre_labels_in_range := Cert.Labels.facts) :=
  fun m g h => Cert.Kernel.Hand.frame m g (Cert.Kernel.Hand.labOk_of_pre m h)

theorem frame_ideal : Cert.quiescent_KernelIdeal (hKernelIdeal := Cert.KernelIdeal.Gen.facts) (hPre_labels_in_range := Cert.Labels.facts) :=
  fun m g h => Cert.KernelIdeal.Hand.frame m g (Cert.KernelIdeal.Hand.labOk_of_pre m h)

theorem frame_reference : Cert.quiescent_ReferenceIdeal (hReferenceIdeal := Cert.ReferenceIdeal.Gen.facts) :=
  fun m g _ => Cert.ReferenceIdeal.Gen.frame m g

/-- The two named constants hold the values their names give them. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

/-- Where the arguments are well formed every label the kernel reads is in range. -/
theorem labOk (m : (ℓ : Loc Cert.KernelIdeal.nD Cert.KernelIdeal.τ Cert.KernelIdeal.sig) → Buf (Elt Ideal) ℓ)
    (h : Cert.Pre_KernelIdeal_well_formed (hPre_well_formed := Cert.Value.wfFacts) m) (c p) :
    Cert.KernelIdeal.Hand.LabOk (Cert.KernelIdeal.Hand.lwOf m c p) :=
  Cert.KernelIdeal.Hand.labOk_of_pre m (fun c => Cert.Value.labels_of_wf _ _ _ _ _ _ (h c)) c p

theorem frame_ideal_wf : Cert.quiescent_KernelIdeal_pre_well_formed (hKernelIdeal := Cert.KernelIdeal.Gen.facts) (hPre_well_formed := Cert.Value.wfFacts) :=
  fun m g h => Cert.KernelIdeal.Hand.frame m g (labOk m h)

theorem frame_reference_wf : Cert.quiescent_ReferenceIdeal_pre_well_formed (hReferenceIdeal := Cert.ReferenceIdeal.Gen.facts) (hPre_well_formed := Cert.Value.wfFacts) :=
  fun m g _ => Cert.ReferenceIdeal.Gen.frame m g

/-- The dense sums, the codes and the scales are the reference's. -/
theorem algebraic : Cert.algebraic_KernelIdeal_ReferenceIdeal_pre_well_formed (hKernelIdeal := Cert.KernelIdeal.Gen.facts)
    (hReferenceIdeal := Cert.ReferenceIdeal.Gen.facts) (hPre_well_formed := Cert.Value.wfFacts) := by
  intro m g m' g' hp ha
  have hX : ∀ c r, Cert.Value.Good (Cert.Value.rowP (Cert.Value.K.kX m c r)) := fun c r =>
    Cert.Value.good_row _ fun k => Cert.Value.size_of_wf _ _ _ _ _ _ (hp c) (ix3 0 r k)
  have eX : ∀ c, Cert.Value.rX m' c = Cert.Value.K.kX m c := fun c => funext fun r => funext fun k => congrFun (ha c).1 (ix3 0 r k)
  have eW : ∀ c, Cert.Value.rW m' c = Cert.Value.K.kW m c := fun c => funext fun l => funext fun k => congrFun (ha c).2.1 (ix2 l k)
  have eS : ∀ c, Cert.Value.rS m' c = Cert.Value.K.kS m c := fun c => funext fun l => congrFun (ha c).2.2.1 (ix1 l)
  have eB : ∀ c, Cert.Value.rB m' c = Cert.Value.K.kB m c := fun c => funext fun l => congrFun (ha c).2.2.2.1 (ix1 l)
  have k := Cert.Value.K.kernel_run m (labOk m hp) g
  have r := Cert.Value.reference_run m' g'
  refine ⟨_, _, _, k, (θ_run _ _ _).mono (fun _ h c => ?_) r⟩
  obtain ⟨h0, h1, h2, hargs⟩ := h c
  refine ⟨h0.trans (funext fun i => ?_), h1.trans (funext fun i => ?_), h2.trans (funext fun i => ?_), hargs⟩
  · rw [eX, eW, eS, eB]
    exact (Cert.Value.dense_agree _ (hX c) _ _ _ _ _).symm
  · rw [eX]
    exact congrFun (Cert.Value.codes_agree _ (hX c) _).symm _
  · rw [eX]
    exact (Cert.Value.rowsAgree _ (hX c _)).2.1.symm

theorem claim : Cert.Claim :=
  ⟨Cert.Kernel.Gen.facts, Cert.KernelIdeal.Gen.facts, Cert.ReferenceIdeal.Gen.facts, Cert.Labels.facts, Cert.Value.wfFacts,
    frame_kernel, frame_ideal, frame_ideal_wf, frame_reference, frame_reference_wf, preserves, algebraic⟩

end Cert.Proof

end
